-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite [hPre_finite : Cert.Pre_finite.Facts] (m : (ℓ : Loc Cert.FoxIdeal.nD Cert.FoxIdeal.τ Cert.FoxIdeal.sig) → Buf (Elt Ideal) ℓ) : Prop :=
  ∀ c : Dev Cert.FoxIdeal.nD,
    (Cert.Pre_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).1 = (fun _ => 1#1)
    ∧ (Cert.Pre_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).2.1 = (fun _ => 1#1)
    ∧ (Cert.Pre_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).2.2.1 = (fun _ => 1#1)
    ∧ (Cert.Pre_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).2.2.2 = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite [hPre_finite : Cert.Pre_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).1 = (fun _ => 1#1)
    ∧ (Cert.Pre_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).2.1 = (fun _ => 1#1)
    ∧ (Cert.Pre_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).2.2.1 = (fun _ => 1#1)
    ∧ (Cert.Pre_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).2.2.2 = (fun _ => 1#1)

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeRefIdeal (m : (ℓ : Loc Cert.MoeRefIdeal.nD Cert.MoeRefIdeal.τ Cert.MoeRefIdeal.sig) → Buf (Elt Ideal) ℓ) : Prop :=
  True

def Pre_MoeFirst (m : (ℓ : Loc Cert.MoeFirst.nD Cert.MoeFirst.τ Cert.MoeFirst.sig) → Buf (Elt Bits) ℓ) : Prop :=
  True

def Pre_MoeFirstIdeal (m : (ℓ : Loc Cert.MoeFirstIdeal.nD Cert.MoeFirstIdeal.τ Cert.MoeFirstIdeal.sig) → Buf (Elt Ideal) ℓ) : Prop :=
  True

def Pre_MoeFirstRefIdeal (m : (ℓ : Loc Cert.MoeFirstRefIdeal.nD Cert.MoeFirstRefIdeal.τ Cert.MoeFirstRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3)
      ∧ r.2.mem ((c.tc : Thread Cert.Fox.nD Cert.Fox.τ).loc Cert.Fox.main_arg4) = m ((c.tc : Thread Cert.Fox.nD Cert.Fox.τ).loc Cert.Fox.main_arg4))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxIdeal_pre_finite [hFoxIdeal : Cert.FoxIdeal.Facts] [hPre_finite : Cert.Pre_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0)

def quiescent_FoxRefIdeal_pre_finite [hFoxRefIdeal : Cert.FoxRefIdeal.Facts] [hPre_finite : Cert.Pre_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_MoeFirst [hMoeFirst : Cert.MoeFirst.Facts] : Prop :=
  ∀ (m : (ℓ : Loc Cert.MoeFirst.nD Cert.MoeFirst.τ Cert.MoeFirst.sig) → Buf (Elt Bits) ℓ) (g : Dev Cert.MoeFirst.nD → PrngReg), Pre_MoeFirst m →
    θ_run (Cert.MoeFirst.defs (F := Bits)) (onTc (τ := Cert.MoeFirst.τ) (Cert.MoeFirst.main (F := Bits))) ⟨m, fun _ => 0, g⟩ (fun r => (∀ c : Dev Cert.MoeFirst.nD,
      r.2.mem ((c.tc : Thread Cert.MoeFirst.nD Cert.MoeFirst.τ).loc Cert.MoeFirst.main_arg0) = m ((c.tc : Thread Cert.MoeFirst.nD Cert.MoeFirst.τ).loc Cert.MoeFirst.main_arg0)
      ∧ r.2.mem ((c.tc : Thread Cert.MoeFirst.nD Cert.MoeFirst.τ).loc Cert.MoeFirst.main_arg1) = m ((c.tc : Thread Cert.MoeFirst.nD Cert.MoeFirst.τ).loc Cert.MoeFirst.main_arg1)
      ∧ r.2.mem ((c.tc : Thread Cert.MoeFirst.nD Cert.MoeFirst.τ).loc Cert.MoeFirst.main_arg2) = m ((c.tc : Thread Cert.MoeFirst.nD Cert.MoeFirst.τ).loc Cert.MoeFirst.main_arg2)
      ∧ r.2.mem ((c.tc : Thread Cert.MoeFirst.nD Cert.MoeFirst.τ).loc Cert.MoeFirst.main_arg3) = m ((c.tc : Thread Cert.MoeFirst.nD Cert.MoeFirst.τ).loc Cert.MoeFirst.main_arg3)
      ∧ r.2.mem ((c.tc : Thread Cert.MoeFirst.nD Cert.MoeFirst.τ).loc Cert.MoeFirst.main_arg4) = m ((c.tc : Thread Cert.MoeFirst.nD Cert.MoeFirst.τ).loc Cert.MoeFirst.main_arg4)
      ∧ r.2.mem ((c.tc : Thread Cert.MoeFirst.nD Cert.MoeFirst.τ).loc Cert.MoeFirst.main_arg5) = m ((c.tc : Thread Cert.MoeFirst.nD Cert.MoeFirst.τ).loc Cert.MoeFirst.main_arg5)
      ∧ r.2.mem ((c.tc : Thread Cert.MoeFirst.nD Cert.MoeFirst.τ).loc Cert.MoeFirst.main_arg6) = m ((c.tc : Thread Cert.MoeFirst.nD Cert.MoeFirst.τ).loc Cert.MoeFirst.main_arg6))
      ∧ r.2.sem = fun _ => 0)

def quiescent_MoeFirstIdeal [hMoeFirstIdeal : Cert.MoeFirstIdeal.Facts] : Prop :=
  ∀ (m : (ℓ : Loc Cert.MoeFirstIdeal.nD Cert.MoeFirstIdeal.τ Cert.MoeFirstIdeal.sig) → Buf (Elt Ideal) ℓ) (g : Dev Cert.MoeFirstIdeal.nD → PrngReg), Pre_MoeFirstIdeal m →
    θ_run (Cert.MoeFirstIdeal.defs (F := Ideal)) (onTc (τ := Cert.MoeFirstIdeal.τ) (Cert.MoeFirstIdeal.main (F := Ideal))) ⟨m, fun _ => 0, g⟩ (fun r => (∀ c : Dev Cert.MoeFirstIdeal.nD,
      r.2.mem ((c.tc : Thread Cert.MoeFirstIdeal.nD Cert.MoeFirstIdeal.τ).loc Cert.MoeFirstIdeal.main_arg0) = m ((c.tc : Thread Cert.MoeFirstIdeal.nD Cert.MoeFirstIdeal.τ).loc Cert.MoeFirstIdeal.main_arg0)
      ∧ r.2.mem ((c.tc : Thread Cert.MoeFirstIdeal.nD Cert.MoeFirstIdeal.τ).loc Cert.MoeFirstIdeal.main_arg1) = m ((c.tc : Thread Cert.MoeFirstIdeal.nD Cert.MoeFirstIdeal.τ).loc Cert.MoeFirstIdeal.main_arg1)
      ∧ r.2.mem ((c.tc : Thread Cert.MoeFirstIdeal.nD Cert.MoeFirstIdeal.τ).loc Cert.MoeFirstIdeal.main_arg2) = m ((c.tc : Thread Cert.MoeFirstIdeal.nD Cert.MoeFirstIdeal.τ).loc Cert.MoeFirstIdeal.main_arg2)
      ∧ r.2.mem ((c.tc : Thread Cert.MoeFirstIdeal.nD Cert.MoeFirstIdeal.τ).loc Cert.MoeFirstIdeal.main_arg3) = m ((c.tc : Thread Cert.MoeFirstIdeal.nD Cert.MoeFirstIdeal.τ).loc Cert.MoeFirstIdeal.main_arg3)
      ∧ r.2.mem ((c.tc : Thread Cert.MoeFirstIdeal.nD Cert.MoeFirstIdeal.τ).loc Cert.MoeFirstIdeal.main_arg4) = m ((c.tc : Thread Cert.MoeFirstIdeal.nD Cert.MoeFirstIdeal.τ).loc Cert.MoeFirstIdeal.main_arg4)
      ∧ r.2.mem ((c.tc : Thread Cert.MoeFirstIdeal.nD Cert.MoeFirstIdeal.τ).loc Cert.MoeFirstIdeal.main_arg5) = m ((c.tc : Thread Cert.MoeFirstIdeal.nD Cert.MoeFirstIdeal.τ).loc Cert.MoeFirstIdeal.main_arg5)
      ∧ r.2.mem ((c.tc : Thread Cert.MoeFirstIdeal.nD Cert.MoeFirstIdeal.τ).loc Cert.MoeFirstIdeal.main_arg6) = m ((c.tc : Thread Cert.MoeFirstIdeal.nD Cert.MoeFirstIdeal.τ).loc Cert.MoeFirstIdeal.main_arg6))
      ∧ r.2.sem = fun _ => 0)

def quiescent_MoeFirstRefIdeal [hMoeFirstRefIdeal : Cert.MoeFirstRefIdeal.Facts] : Prop :=
  ∀ (m : (ℓ : Loc Cert.MoeFirstRefIdeal.nD Cert.MoeFirstRefIdeal.τ Cert.MoeFirstRefIdeal.sig) → Buf (Elt Ideal) ℓ) (g : Dev Cert.MoeFirstRefIdeal.nD → PrngReg), Pre_MoeFirstRefIdeal m →
    θ_run (Cert.MoeFirstRefIdeal.defs (F := Ideal)) (onTc (τ := Cert.MoeFirstRefIdeal.τ) (Cert.MoeFirstRefIdeal.main (F := Ideal))) ⟨m, fun _ => 0, g⟩ (fun r => (∀ c : Dev Cert.MoeFirstRefIdeal.nD,
      r.2.mem ((c.tc : Thread Cert.MoeFirstRefIdeal.nD Cert.MoeFirstRefIdeal.τ).loc Cert.MoeFirstRefIdeal.main_arg0) = m ((c.tc : Thread Cert.MoeFirstRefIdeal.nD Cert.MoeFirstRefIdeal.τ).loc Cert.MoeFirstRefIdeal.main_arg0)
      ∧ r.2.mem ((c.tc : Thread Cert.MoeFirstRefIdeal.nD Cert.MoeFirstRefIdeal.τ).loc Cert.MoeFirstRefIdeal.main_arg1) = m ((c.tc : Thread Cert.MoeFirstRefIdeal.nD Cert.MoeFirstRefIdeal.τ).loc Cert.MoeFirstRefIdeal.main_arg1)
      ∧ r.2.mem ((c.tc : Thread Cert.MoeFirstRefIdeal.nD Cert.MoeFirstRefIdeal.τ).loc Cert.MoeFirstRefIdeal.main_arg2) = m ((c.tc : Thread Cert.MoeFirstRefIdeal.nD Cert.MoeFirstRefIdeal.τ).loc Cert.MoeFirstRefIdeal.main_arg2)
      ∧ r.2.mem ((c.tc : Thread Cert.MoeFirstRefIdeal.nD Cert.MoeFirstRefIdeal.τ).loc Cert.MoeFirstRefIdeal.main_arg3) = m ((c.tc : Thread Cert.MoeFirstRefIdeal.nD Cert.MoeFirstRefIdeal.τ).loc Cert.MoeFirstRefIdeal.main_arg3)
      ∧ r.2.mem ((c.tc : Thread Cert.MoeFirstRefIdeal.nD Cert.MoeFirstRefIdeal.τ).loc Cert.MoeFirstRefIdeal.main_arg4) = m ((c.tc : Thread Cert.MoeFirstRefIdeal.nD Cert.MoeFirstRefIdeal.τ).loc Cert.MoeFirstRefIdeal.main_arg4)
      ∧ r.2.mem ((c.tc : Thread Cert.MoeFirstRefIdeal.nD Cert.MoeFirstRefIdeal.τ).loc Cert.MoeFirstRefIdeal.main_arg5) = m ((c.tc : Thread Cert.MoeFirstRefIdeal.nD Cert.MoeFirstRefIdeal.τ).loc Cert.MoeFirstRefIdeal.main_arg5)
      ∧ r.2.mem ((c.tc : Thread Cert.MoeFirstRefIdeal.nD Cert.MoeFirstRefIdeal.τ).loc Cert.MoeFirstRefIdeal.main_arg6) = m ((c.tc : Thread Cert.MoeFirstRefIdeal.nD Cert.MoeFirstRefIdeal.τ).loc Cert.MoeFirstRefIdeal.main_arg6))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6)
      ∧ r.2.mem ((c.tc : Thread Cert.Outproj.nD Cert.Outproj.τ).loc Cert.Outproj.main_arg7) = m ((c.tc : Thread Cert.Outproj.nD Cert.Outproj.τ).loc Cert.Outproj.main_arg7)
      ∧ r.2.mem ((c.tc : Thread Cert.Outproj.nD Cert.Outproj.τ).loc Cert.Outproj.main_arg8) = m ((c.tc : Thread Cert.Outproj.nD Cert.Outproj.τ).loc Cert.Outproj.main_arg8)
      ∧ r.2.mem ((c.tc : Thread Cert.Outproj.nD Cert.Outproj.τ).loc Cert.Outproj.main_arg9) = m ((c.tc : Thread Cert.Outproj.nD Cert.Outproj.τ).loc Cert.Outproj.main_arg9))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
      ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
      ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
      ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5)
      ∧ r.2.mem ((c.tc : Thread Cert.OutprojRefIdeal.nD Cert.OutprojRefIdeal.τ).loc Cert.OutprojRefIdeal.main_arg6) = m ((c.tc : Thread Cert.OutprojRefIdeal.nD Cert.OutprojRefIdeal.τ).loc Cert.OutprojRefIdeal.main_arg6)
      ∧ r.2.mem ((c.tc : Thread Cert.OutprojRefIdeal.nD Cert.OutprojRefIdeal.τ).loc Cert.OutprojRefIdeal.main_arg7) = m ((c.tc : Thread Cert.OutprojRefIdeal.nD Cert.OutprojRefIdeal.τ).loc Cert.OutprojRefIdeal.main_arg7)
      ∧ r.2.mem ((c.tc : Thread Cert.OutprojRefIdeal.nD Cert.OutprojRefIdeal.τ).loc Cert.OutprojRefIdeal.main_arg8) = m ((c.tc : Thread Cert.OutprojRefIdeal.nD Cert.OutprojRefIdeal.τ).loc Cert.OutprojRefIdeal.main_arg8)
      ∧ r.2.mem ((c.tc : Thread Cert.OutprojRefIdeal.nD Cert.OutprojRefIdeal.τ).loc Cert.OutprojRefIdeal.main_arg9) = m ((c.tc : Thread Cert.OutprojRefIdeal.nD Cert.OutprojRefIdeal.τ).loc Cert.OutprojRefIdeal.main_arg9))
      ∧ r.2.sem = fun _ => 0)

def preserves_Fox_FoxIdeal : Prop :=
  IdealRules.named_const.Statement Cert.FoxIdeal.κ "mask" .f32 0xF149F2CA#32 ⊥
  ∧ IdealRules.named_const.Statement Cert.FoxIdeal.κ "log2e" .f32 0x3FB8AA3B#32 (((Real.log 2)⁻¹ : ℝ) : EReal)

def algebraic_FoxIdeal_FoxRefIdeal_pre_finite [hFoxIdeal : Cert.FoxIdeal.Facts] [hFoxRefIdeal : Cert.FoxRefIdeal.Facts] [hPre_finite : Cert.Pre_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)
      ∧ m' ((c.tc : Thread Cert.FoxRefIdeal.nD Cert.FoxRefIdeal.τ).loc Cert.FoxRefIdeal.main_arg4) = m ((c.tc : Thread Cert.FoxIdeal.nD Cert.FoxIdeal.τ).loc Cert.FoxIdeal.main_arg4)) →
    ∃ (v0 : (c : Dev Cert.FoxIdeal.nD) → Buf (Elt Ideal) ((c.tc : Thread Cert.FoxIdeal.nD Cert.FoxIdeal.τ).loc Cert.FoxIdeal.main_v50)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v50) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
          ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v48) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3)
          ∧ r.2.mem ((c.tc : Thread Cert.FoxRefIdeal.nD Cert.FoxRefIdeal.τ).loc Cert.FoxRefIdeal.main_arg4) = m' ((c.tc : Thread Cert.FoxRefIdeal.nD Cert.FoxRefIdeal.τ).loc Cert.FoxRefIdeal.main_arg4))

def preserves_Moe_MoeIdeal : Prop :=
  True

def algebraic_MoeIdeal_MoeRefIdeal [hMoeIdeal : Cert.MoeIdeal.Facts] [hMoeRefIdeal : Cert.MoeRefIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v7)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v7) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v85) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6))

def preserves_MoeFirst_MoeFirstIdeal : Prop :=
  True

def algebraic_MoeFirstIdeal_MoeFirstRefIdeal [hMoeFirstIdeal : Cert.MoeFirstIdeal.Facts] [hMoeFirstRefIdeal : Cert.MoeFirstRefIdeal.Facts] : Prop :=
  ∀ (m : (ℓ : Loc Cert.MoeFirstIdeal.nD Cert.MoeFirstIdeal.τ Cert.MoeFirstIdeal.sig) → Buf (Elt Ideal) ℓ) (g : Dev Cert.MoeFirstIdeal.nD → PrngReg)
    (m' : (ℓ : Loc Cert.MoeFirstRefIdeal.nD Cert.MoeFirstRefIdeal.τ Cert.MoeFirstRefIdeal.sig) → Buf (Elt Ideal) ℓ) (g' : Dev Cert.MoeFirstRefIdeal.nD → PrngReg), Pre_MoeFirstIdeal m →
    (∀ c : Dev Cert.MoeFirstIdeal.nD,
      m' ((c.tc : Thread Cert.MoeFirstRefIdeal.nD Cert.MoeFirstRefIdeal.τ).loc Cert.MoeFirstRefIdeal.main_arg0) = m ((c.tc : Thread Cert.MoeFirstIdeal.nD Cert.MoeFirstIdeal.τ).loc Cert.MoeFirstIdeal.main_arg0)
      ∧ m' ((c.tc : Thread Cert.MoeFirstRefIdeal.nD Cert.MoeFirstRefIdeal.τ).loc Cert.MoeFirstRefIdeal.main_arg1) = m ((c.tc : Thread Cert.MoeFirstIdeal.nD Cert.MoeFirstIdeal.τ).loc Cert.MoeFirstIdeal.main_arg1)
      ∧ m' ((c.tc : Thread Cert.MoeFirstRefIdeal.nD Cert.MoeFirstRefIdeal.τ).loc Cert.MoeFirstRefIdeal.main_arg2) = m ((c.tc : Thread Cert.MoeFirstIdeal.nD Cert.MoeFirstIdeal.τ).loc Cert.MoeFirstIdeal.main_arg2)
      ∧ m' ((c.tc : Thread Cert.MoeFirstRefIdeal.nD Cert.MoeFirstRefIdeal.τ).loc Cert.MoeFirstRefIdeal.main_arg3) = m ((c.tc : Thread Cert.MoeFirstIdeal.nD Cert.MoeFirstIdeal.τ).loc Cert.MoeFirstIdeal.main_arg3)
      ∧ m' ((c.tc : Thread Cert.MoeFirstRefIdeal.nD Cert.MoeFirstRefIdeal.τ).loc Cert.MoeFirstRefIdeal.main_arg4) = m ((c.tc : Thread Cert.MoeFirstIdeal.nD Cert.MoeFirstIdeal.τ).loc Cert.MoeFirstIdeal.main_arg4)
      ∧ m' ((c.tc : Thread Cert.MoeFirstRefIdeal.nD Cert.MoeFirstRefIdeal.τ).loc Cert.MoeFirstRefIdeal.main_arg5) = m ((c.tc : Thread Cert.MoeFirstIdeal.nD Cert.MoeFirstIdeal.τ).loc Cert.MoeFirstIdeal.main_arg5)
      ∧ m' ((c.tc : Thread Cert.MoeFirstRefIdeal.nD Cert.MoeFirstRefIdeal.τ).loc Cert.MoeFirstRefIdeal.main_arg6) = m ((c.tc : Thread Cert.MoeFirstIdeal.nD Cert.MoeFirstIdeal.τ).loc Cert.MoeFirstIdeal.main_arg6)) →
    ∃ (v0 : (c : Dev Cert.MoeFirstIdeal.nD) → Buf (Elt Ideal) ((c.tc : Thread Cert.MoeFirstIdeal.nD Cert.MoeFirstIdeal.τ).loc Cert.MoeFirstIdeal.main_v7)),
      θ_run (Cert.MoeFirstIdeal.defs (F := Ideal)) (onTc (τ := Cert.MoeFirstIdeal.τ) (Cert.MoeFirstIdeal.main (F := Ideal))) ⟨m, fun _ => 0, g⟩ (fun r => ∀ c : Dev Cert.MoeFirstIdeal.nD,
          r.2.mem ((c.tc : Thread Cert.MoeFirstIdeal.nD Cert.MoeFirstIdeal.τ).loc Cert.MoeFirstIdeal.main_v7) = v0 c
          ∧ r.2.mem ((c.tc : Thread Cert.MoeFirstIdeal.nD Cert.MoeFirstIdeal.τ).loc Cert.MoeFirstIdeal.main_arg0) = m ((c.tc : Thread Cert.MoeFirstIdeal.nD Cert.MoeFirstIdeal.τ).loc Cert.MoeFirstIdeal.main_arg0)
          ∧ r.2.mem ((c.tc : Thread Cert.MoeFirstIdeal.nD Cert.MoeFirstIdeal.τ).loc Cert.MoeFirstIdeal.main_arg1) = m ((c.tc : Thread Cert.MoeFirstIdeal.nD Cert.MoeFirstIdeal.τ).loc Cert.MoeFirstIdeal.main_arg1)
          ∧ r.2.mem ((c.tc : Thread Cert.MoeFirstIdeal.nD Cert.MoeFirstIdeal.τ).loc Cert.MoeFirstIdeal.main_arg2) = m ((c.tc : Thread Cert.MoeFirstIdeal.nD Cert.MoeFirstIdeal.τ).loc Cert.MoeFirstIdeal.main_arg2)
          ∧ r.2.mem ((c.tc : Thread Cert.MoeFirstIdeal.nD Cert.MoeFirstIdeal.τ).loc Cert.MoeFirstIdeal.main_arg3) = m ((c.tc : Thread Cert.MoeFirstIdeal.nD Cert.MoeFirstIdeal.τ).loc Cert.MoeFirstIdeal.main_arg3)
          ∧ r.2.mem ((c.tc : Thread Cert.MoeFirstIdeal.nD Cert.MoeFirstIdeal.τ).loc Cert.MoeFirstIdeal.main_arg4) = m ((c.tc : Thread Cert.MoeFirstIdeal.nD Cert.MoeFirstIdeal.τ).loc Cert.MoeFirstIdeal.main_arg4)
          ∧ r.2.mem ((c.tc : Thread Cert.MoeFirstIdeal.nD Cert.MoeFirstIdeal.τ).loc Cert.MoeFirstIdeal.main_arg5) = m ((c.tc : Thread Cert.MoeFirstIdeal.nD Cert.MoeFirstIdeal.τ).loc Cert.MoeFirstIdeal.main_arg5)
          ∧ r.2.mem ((c.tc : Thread Cert.MoeFirstIdeal.nD Cert.MoeFirstIdeal.τ).loc Cert.MoeFirstIdeal.main_arg6) = m ((c.tc : Thread Cert.MoeFirstIdeal.nD Cert.MoeFirstIdeal.τ).loc Cert.MoeFirstIdeal.main_arg6))
      ∧ θ_run (Cert.MoeFirstRefIdeal.defs (F := Ideal)) (onTc (τ := Cert.MoeFirstRefIdeal.τ) (Cert.MoeFirstRefIdeal.main (F := Ideal))) ⟨m', fun _ => 0, g'⟩ (fun r => ∀ c : Dev Cert.MoeFirstRefIdeal.nD,
          r.2.mem ((c.tc : Thread Cert.MoeFirstRefIdeal.nD Cert.MoeFirstRefIdeal.τ).loc Cert.MoeFirstRefIdeal.main_v72) = v0 c
          ∧ r.2.mem ((c.tc : Thread Cert.MoeFirstRefIdeal.nD Cert.MoeFirstRefIdeal.τ).loc Cert.MoeFirstRefIdeal.main_arg0) = m' ((c.tc : Thread Cert.MoeFirstRefIdeal.nD Cert.MoeFirstRefIdeal.τ).loc Cert.MoeFirstRefIdeal.main_arg0)
          ∧ r.2.mem ((c.tc : Thread Cert.MoeFirstRefIdeal.nD Cert.MoeFirstRefIdeal.τ).loc Cert.MoeFirstRefIdeal.main_arg1) = m' ((c.tc : Thread Cert.MoeFirstRefIdeal.nD Cert.MoeFirstRefIdeal.τ).loc Cert.MoeFirstRefIdeal.main_arg1)
          ∧ r.2.mem ((c.tc : Thread Cert.MoeFirstRefIdeal.nD Cert.MoeFirstRefIdeal.τ).loc Cert.MoeFirstRefIdeal.main_arg2) = m' ((c.tc : Thread Cert.MoeFirstRefIdeal.nD Cert.MoeFirstRefIdeal.τ).loc Cert.MoeFirstRefIdeal.main_arg2)
          ∧ r.2.mem ((c.tc : Thread Cert.MoeFirstRefIdeal.nD Cert.MoeFirstRefIdeal.τ).loc Cert.MoeFirstRefIdeal.main_arg3) = m' ((c.tc : Thread Cert.MoeFirstRefIdeal.nD Cert.MoeFirstRefIdeal.τ).loc Cert.MoeFirstRefIdeal.main_arg3)
          ∧ r.2.mem ((c.tc : Thread Cert.MoeFirstRefIdeal.nD Cert.MoeFirstRefIdeal.τ).loc Cert.MoeFirstRefIdeal.main_arg4) = m' ((c.tc : Thread Cert.MoeFirstRefIdeal.nD Cert.MoeFirstRefIdeal.τ).loc Cert.MoeFirstRefIdeal.main_arg4)
          ∧ r.2.mem ((c.tc : Thread Cert.MoeFirstRefIdeal.nD Cert.MoeFirstRefIdeal.τ).loc Cert.MoeFirstRefIdeal.main_arg5) = m' ((c.tc : Thread Cert.MoeFirstRefIdeal.nD Cert.MoeFirstRefIdeal.τ).loc Cert.MoeFirstRefIdeal.main_arg5)
          ∧ r.2.mem ((c.tc : Thread Cert.MoeFirstRefIdeal.nD Cert.MoeFirstRefIdeal.τ).loc Cert.MoeFirstRefIdeal.main_arg6) = m' ((c.tc : Thread Cert.MoeFirstRefIdeal.nD Cert.MoeFirstRefIdeal.τ).loc Cert.MoeFirstRefIdeal.main_arg6))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)
      ∧ m' ((c.tc : Thread Cert.InprojRefIdeal.nD Cert.InprojRefIdeal.τ).loc Cert.InprojRefIdeal.main_arg7) = m ((c.tc : Thread Cert.InprojIdeal.nD Cert.InprojIdeal.τ).loc Cert.InprojIdeal.main_arg7)
      ∧ m' ((c.tc : Thread Cert.InprojRefIdeal.nD Cert.InprojRefIdeal.τ).loc Cert.InprojRefIdeal.main_arg8) = m ((c.tc : Thread Cert.InprojIdeal.nD Cert.InprojIdeal.τ).loc Cert.InprojIdeal.main_arg8)) →
    ∃ (v0 : (c : Dev Cert.InprojIdeal.nD) → Buf (Elt Ideal) ((c.tc : Thread Cert.InprojIdeal.nD Cert.InprojIdeal.τ).loc Cert.InprojIdeal.main_v64_0)) (v1 : (c : Dev Cert.InprojIdeal.nD) → Buf (Elt Ideal) ((c.tc : Thread Cert.InprojIdeal.nD Cert.InprojIdeal.τ).loc Cert.InprojIdeal.main_v64_3)) (v2 : (c : Dev Cert.InprojIdeal.nD) → Buf (Elt Ideal) ((c.tc : Thread Cert.InprojIdeal.nD Cert.InprojIdeal.τ).loc Cert.InprojIdeal.main_v64_4)) (v3 : (c : Dev Cert.InprojIdeal.nD) → Buf (Elt Ideal) ((c.tc : Thread Cert.InprojIdeal.nD Cert.InprojIdeal.τ).loc Cert.InprojIdeal.main_v64_5)) (v4 : (c : Dev Cert.InprojIdeal.nD) → Buf (Elt Ideal) ((c.tc : Thread Cert.InprojIdeal.nD Cert.InprojIdeal.τ).loc Cert.InprojIdeal.main_v64_6)) (v5 : (c : Dev Cert.InprojIdeal.nD) → Buf (Elt Ideal) ((c.tc : Thread Cert.InprojIdeal.nD Cert.InprojIdeal.τ).loc Cert.InprojIdeal.main_v64_7)) (v6 : (c : Dev Cert.InprojIdeal.nD) → Buf (Elt Ideal) ((c.tc : Thread Cert.InprojIdeal.nD Cert.InprojIdeal.τ).loc Cert.InprojIdeal.main_v64_8)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v64_0) = v0 c
          ∧ r.2.mem ((c.tc : Thread Cert.InprojIdeal.nD Cert.InprojIdeal.τ).loc Cert.InprojIdeal.main_v64_3) = v1 c
          ∧ r.2.mem ((c.tc : Thread Cert.InprojIdeal.nD Cert.InprojIdeal.τ).loc Cert.InprojIdeal.main_v64_4) = v2 c
          ∧ r.2.mem ((c.tc : Thread Cert.InprojIdeal.nD Cert.InprojIdeal.τ).loc Cert.InprojIdeal.main_v64_5) = v3 c
          ∧ r.2.mem ((c.tc : Thread Cert.InprojIdeal.nD Cert.InprojIdeal.τ).loc Cert.InprojIdeal.main_v64_6) = v4 c
          ∧ r.2.mem ((c.tc : Thread Cert.InprojIdeal.nD Cert.InprojIdeal.τ).loc Cert.InprojIdeal.main_v64_7) = v5 c
          ∧ r.2.mem ((c.tc : Thread Cert.InprojIdeal.nD Cert.InprojIdeal.τ).loc Cert.InprojIdeal.main_v64_8) = v6 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v22) = v0 c
          ∧ r.2.mem ((c.tc : Thread Cert.InprojRefIdeal.nD Cert.InprojRefIdeal.τ).loc Cert.InprojRefIdeal.main_v23) = v1 c
          ∧ r.2.mem ((c.tc : Thread Cert.InprojRefIdeal.nD Cert.InprojRefIdeal.τ).loc Cert.InprojRefIdeal.main_v25) = v2 c
          ∧ r.2.mem ((c.tc : Thread Cert.InprojRefIdeal.nD Cert.InprojRefIdeal.τ).loc Cert.InprojRefIdeal.main_v28) = v3 c
          ∧ r.2.mem ((c.tc : Thread Cert.InprojRefIdeal.nD Cert.InprojRefIdeal.τ).loc Cert.InprojRefIdeal.main_v30) = v4 c
          ∧ r.2.mem ((c.tc : Thread Cert.InprojRefIdeal.nD Cert.InprojRefIdeal.τ).loc Cert.InprojRefIdeal.main_v32) = v5 c
          ∧ r.2.mem ((c.tc : Thread Cert.InprojRefIdeal.nD Cert.InprojRefIdeal.τ).loc Cert.InprojRefIdeal.main_v37) = v6 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6)
          ∧ r.2.mem ((c.tc : Thread Cert.InprojRefIdeal.nD Cert.InprojRefIdeal.τ).loc Cert.InprojRefIdeal.main_arg7) = m' ((c.tc : Thread Cert.InprojRefIdeal.nD Cert.InprojRefIdeal.τ).loc Cert.InprojRefIdeal.main_arg7)
          ∧ r.2.mem ((c.tc : Thread Cert.InprojRefIdeal.nD Cert.InprojRefIdeal.τ).loc Cert.InprojRefIdeal.main_arg8) = m' ((c.tc : Thread Cert.InprojRefIdeal.nD Cert.InprojRefIdeal.τ).loc Cert.InprojRefIdeal.main_arg8))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)
      ∧ m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5)
      ∧ m' ((c.tc : Thread Cert.OutprojRefIdeal.nD Cert.OutprojRefIdeal.τ).loc Cert.OutprojRefIdeal.main_arg6) = m ((c.tc : Thread Cert.OutprojIdeal.nD Cert.OutprojIdeal.τ).loc Cert.OutprojIdeal.main_arg6)
      ∧ m' ((c.tc : Thread Cert.OutprojRefIdeal.nD Cert.OutprojRefIdeal.τ).loc Cert.OutprojRefIdeal.main_arg7) = m ((c.tc : Thread Cert.OutprojIdeal.nD Cert.OutprojIdeal.τ).loc Cert.OutprojIdeal.main_arg7)
      ∧ m' ((c.tc : Thread Cert.OutprojRefIdeal.nD Cert.OutprojRefIdeal.τ).loc Cert.OutprojRefIdeal.main_arg8) = m ((c.tc : Thread Cert.OutprojIdeal.nD Cert.OutprojIdeal.τ).loc Cert.OutprojIdeal.main_arg8)
      ∧ m' ((c.tc : Thread Cert.OutprojRefIdeal.nD Cert.OutprojRefIdeal.τ).loc Cert.OutprojRefIdeal.main_arg9) = m ((c.tc : Thread Cert.OutprojIdeal.nD Cert.OutprojIdeal.τ).loc Cert.OutprojIdeal.main_arg9)) →
    ∃ (v0 : (c : Dev Cert.OutprojIdeal.nD) → Buf (Elt Ideal) ((c.tc : Thread Cert.OutprojIdeal.nD Cert.OutprojIdeal.τ).loc Cert.OutprojIdeal.main_v11_0)) (v1 : (c : Dev Cert.OutprojIdeal.nD) → Buf (Elt Ideal) ((c.tc : Thread Cert.OutprojIdeal.nD Cert.OutprojIdeal.τ).loc Cert.OutprojIdeal.main_v11_1)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v11_0) = v0 c
          ∧ r.2.mem ((c.tc : Thread Cert.OutprojIdeal.nD Cert.OutprojIdeal.τ).loc Cert.OutprojIdeal.main_v11_1) = v1 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
          ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
          ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
          ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v3) = v0 c
          ∧ r.2.mem ((c.tc : Thread Cert.OutprojRefIdeal.nD Cert.OutprojRefIdeal.τ).loc Cert.OutprojRefIdeal.main_v17) = v1 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5)
          ∧ r.2.mem ((c.tc : Thread Cert.OutprojRefIdeal.nD Cert.OutprojRefIdeal.τ).loc Cert.OutprojRefIdeal.main_arg6) = m' ((c.tc : Thread Cert.OutprojRefIdeal.nD Cert.OutprojRefIdeal.τ).loc Cert.OutprojRefIdeal.main_arg6)
          ∧ r.2.mem ((c.tc : Thread Cert.OutprojRefIdeal.nD Cert.OutprojRefIdeal.τ).loc Cert.OutprojRefIdeal.main_arg7) = m' ((c.tc : Thread Cert.OutprojRefIdeal.nD Cert.OutprojRefIdeal.τ).loc Cert.OutprojRefIdeal.main_arg7)
          ∧ r.2.mem ((c.tc : Thread Cert.OutprojRefIdeal.nD Cert.OutprojRefIdeal.τ).loc Cert.OutprojRefIdeal.main_arg8) = m' ((c.tc : Thread Cert.OutprojRefIdeal.nD Cert.OutprojRefIdeal.τ).loc Cert.OutprojRefIdeal.main_arg8)
          ∧ r.2.mem ((c.tc : Thread Cert.OutprojRefIdeal.nD Cert.OutprojRefIdeal.τ).loc Cert.OutprojRefIdeal.main_arg9) = m' ((c.tc : Thread Cert.OutprojRefIdeal.nD Cert.OutprojRefIdeal.τ).loc Cert.OutprojRefIdeal.main_arg9))

def Claim : Prop :=
  ∃ (hFox : Cert.Fox.Facts) (hFoxIdeal : Cert.FoxIdeal.Facts) (hFoxRefIdeal : Cert.FoxRefIdeal.Facts) (hMoe : Cert.Moe.Facts) (hMoeIdeal : Cert.MoeIdeal.Facts) (hMoeRefIdeal : Cert.MoeRefIdeal.Facts) (hMoeFirst : Cert.MoeFirst.Facts) (hMoeFirstIdeal : Cert.MoeFirstIdeal.Facts) (hMoeFirstRefIdeal : Cert.MoeFirstRefIdeal.Facts) (hInproj : Cert.Inproj.Facts) (hInprojIdeal : Cert.InprojIdeal.Facts) (hInprojRefIdeal : Cert.InprojRefIdeal.Facts) (hOutproj : Cert.Outproj.Facts) (hOutprojIdeal : Cert.OutprojIdeal.Facts) (hOutprojRefIdeal : Cert.OutprojRefIdeal.Facts) (hPre_finite : Cert.Pre_finite.Facts),
    quiescent_Fox (hFox := hFox)
    ∧ quiescent_FoxIdeal (hFoxIdeal := hFoxIdeal)
    ∧ quiescent_FoxIdeal_pre_finite (hFoxIdeal := hFoxIdeal) (hPre_finite := hPre_finite)
    ∧ quiescent_FoxRefIdeal (hFoxRefIdeal := hFoxRefIdeal)
    ∧ quiescent_FoxRefIdeal_pre_finite (hFoxRefIdeal := hFoxRefIdeal) (hPre_finite := hPre_finite)
    ∧ quiescent_Moe (hMoe := hMoe)
    ∧ quiescent_MoeIdeal (hMoeIdeal := hMoeIdeal)
    ∧ quiescent_MoeRefIdeal (hMoeRefIdeal := hMoeRefIdeal)
    ∧ quiescent_MoeFirst (hMoeFirst := hMoeFirst)
    ∧ quiescent_MoeFirstIdeal (hMoeFirstIdeal := hMoeFirstIdeal)
    ∧ quiescent_MoeFirstRefIdeal (hMoeFirstRefIdeal := hMoeFirstRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ preserves_Fox_FoxIdeal
    ∧ algebraic_FoxIdeal_FoxRefIdeal_pre_finite (hFoxIdeal := hFoxIdeal) (hFoxRefIdeal := hFoxRefIdeal) (hPre_finite := hPre_finite)
    ∧ preserves_Moe_MoeIdeal
    ∧ algebraic_MoeIdeal_MoeRefIdeal (hMoeIdeal := hMoeIdeal) (hMoeRefIdeal := hMoeRefIdeal)
    ∧ preserves_MoeFirst_MoeFirstIdeal
    ∧ algebraic_MoeFirstIdeal_MoeFirstRefIdeal (hMoeFirstIdeal := hMoeFirstIdeal) (hMoeFirstRefIdeal := hMoeFirstRefIdeal)
    ∧ preserves_Inproj_InprojIdeal
    ∧ algebraic_InprojIdeal_InprojRefIdeal (hInprojIdeal := hInprojIdeal) (hInprojRefIdeal := hInprojRefIdeal)
    ∧ preserves_Outproj_OutprojIdeal
    ∧ algebraic_OutprojIdeal_OutprojRefIdeal (hOutprojIdeal := hOutprojIdeal) (hOutprojRefIdeal := hOutprojRefIdeal)
-- ==== Pre_finite.lean ====
abbrev S32768x512 : Shape := ⟨2, ![32768, 512]⟩
abbrev S32768x8 : Shape := ⟨2, ![32768, 8]⟩
abbrev S512 : Shape := ⟨1, ![512]⟩
abbrev S_ : Shape := ⟨0, ![]⟩

class Facts : Prop where
  bcast_S_S32768x512 : S_.BroadcastsInDim S32768x512 (![] : Fin 0 → Fin S32768x512.rank)
  bcast_S_S32768x8 : S_.BroadcastsInDim S32768x8 (![] : Fin 0 → Fin S32768x8.rank)

variable [Facts]

def fn {F : FTy → Type} [FloatOps F] (main_arg0 : FVec F S32768x512 .f32) (main_arg1 : FVec F S32768x512 .f32) (main_arg2 : FVec F S32768x512 .f32) (main_arg3 : FVec F S32768x8 .f32) (main_arg4 : FVec F S512 .f32) : IVec S32768x512 1 × IVec S32768x512 1 × IVec S32768x512 1 × IVec S32768x8 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_v3 : FVec F S32768x512 .f32 := Host.absf main_arg1
  let main_cst_0 : FVec F S_ .f32 := constant S_ .f32 0x7F800000#32
  let main_v4 : FVec F S32768x512 .f32 := broadcastInDim S32768x512 ![] bcast_S_S32768x512 main_cst_0
  let main_v5 : IVec S32768x512 1 := cmpf .olt main_v3 main_v4
  let main_v6 : FVec F S32768x512 .f32 := Host.absf main_arg2
  let main_cst_1 : FVec F S_ .f32 := constant S_ .f32 0x7F800000#32
  let main_v7 : FVec F S32768x512 .f32 := broadcastInDim S32768x512 ![] bcast_S_S32768x512 main_cst_1
  let main_v8 : IVec S32768x512 1 := cmpf .olt main_v6 main_v7
  let main_v9 : FVec F S32768x8 .f32 := Host.absf main_arg3
  let main_cst_2 : FVec F S_ .f32 := constant S_ .f32 0x7F800000#32
  let main_v10 : FVec F S32768x8 .f32 := broadcastInDim S32768x8 ![] bcast_S_S32768x8 main_cst_2
  let main_v11 : IVec S32768x8 1 := cmpf .olt main_v9 main_v10
  (main_v2, main_v5, main_v8, main_v11)
-- ==== Fox.lean ====
abbrev S32768x512 : Shape := ⟨2, ![32768, 512]⟩
abbrev S32768x8 : Shape := ⟨2, ![32768, 8]⟩
abbrev S512 : Shape := ⟨1, ![512]⟩
abbrev S_ : Shape := ⟨0, ![]⟩
abbrev S32768x8x64 : Shape := ⟨3, ![32768, 8, 64]⟩
abbrev S32768x8x3 : Shape := ⟨3, ![32768, 8, 3]⟩
abbrev S32768x8x61 : Shape := ⟨3, ![32768, 8, 61]⟩
abbrev S32768x8x128 : Shape := ⟨3, ![32768, 8, 128]⟩
abbrev S32768x1024 : Shape := ⟨2, ![32768, 1024]⟩
abbrev S32768x8x1 : Shape := ⟨3, ![32768, 8, 1]⟩
abbrev S8x64 : Shape := ⟨2, ![8, 64]⟩
abbrev S8x128 : Shape := ⟨2, ![8, 128]⟩
abbrev S1x1024 : Shape := ⟨2, ![1, 1024]⟩
abbrev S256x256 : Shape := ⟨2, ![256, 256]⟩
abbrev S128x128 : Shape := ⟨2, ![128, 128]⟩
abbrev S512x1024 : Shape := ⟨2, ![512, 1024]⟩
abbrev S4096x1024 : Shape := ⟨2, ![4096, 1024]⟩
abbrev S512x512 : Shape := ⟨2, ![512, 512]⟩
abbrev S8x512x128 : Shape := ⟨3, ![8, 512, 128]⟩
abbrev S512x128 : Shape := ⟨2, ![512, 128]⟩
abbrev S256x128 : Shape := ⟨2, ![256, 128]⟩
abbrev S512x256 : Shape := ⟨2, ![512, 256]⟩
abbrev S1x512x128 : Shape := ⟨3, ![1, 512, 128]⟩
abbrev S512x1 : Shape := ⟨2, ![512, 1]⟩
abbrev S1x256x128 : Shape := ⟨3, ![1, 256, 128]⟩
abbrev S256 : Shape := ⟨1, ![256]⟩
abbrev S256x1 : Shape := ⟨2, ![256, 1]⟩
abbrev S1x256 : Shape := ⟨2, ![1, 256]⟩

abbrev nBuf : Space → Nat
  | .hbm => 128
  | .vmem => 11
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S32768x8, .f32⟩
  | .hbm, ⟨4, _⟩ => ⟨S512, .f32⟩
  | .hbm, ⟨5, _⟩ => ⟨S32768x8, .f32⟩
  | .hbm, ⟨6, _⟩ => ⟨S32768x8, .bf16⟩
  | .hbm, ⟨7, _⟩ => ⟨S32768x8, .f32⟩
  | .hbm, ⟨8, _⟩ => ⟨S32768x8, .f32⟩
  | .hbm, ⟨9, _⟩ => ⟨S32768x8, .bf16⟩
  | .hbm, ⟨10, _⟩ => ⟨S32768x8, .f32⟩
  | .hbm, ⟨11, _⟩ => ⟨S32768x8, .f32⟩
  | .hbm, ⟨12, _⟩ => ⟨S32768x8, .bf16⟩
  | .hbm, ⟨13, _⟩ => ⟨S_, .f32⟩
  | .hbm, ⟨14, _⟩ => ⟨S32768x512, .f32⟩
  | .hbm, ⟨15, _⟩ => ⟨S32768x512, .f32⟩
  | .hbm, ⟨16, _⟩ => ⟨S32768x8x64, .f32⟩
  | .hbm, ⟨17, _⟩ => ⟨S_, .f32⟩
  | .hbm, ⟨18, _⟩ => ⟨S32768x8x3, .f32⟩
  | .hbm, ⟨19, _⟩ => ⟨S_, .f32⟩
  | .hbm, ⟨20, _⟩ => ⟨S32768x8x61, .f32⟩
  | .hbm, ⟨21, _⟩ => ⟨S32768x8x128, .f32⟩
  | .hbm, ⟨22, _⟩ => ⟨S32768x1024, .f32⟩
  | .hbm, ⟨23, _⟩ => ⟨S32768x1024, .bf16⟩
  | .hbm, ⟨24, _⟩ => ⟨S32768x8x64, .f32⟩
  | .hbm, ⟨25, _⟩ => ⟨S32768x8x64, .bf16⟩
  | .hbm, ⟨26, _⟩ => ⟨S32768x8x1, .bf16⟩
  | .hbm, ⟨27, _⟩ => ⟨S32768x8x1, .bf16⟩
  | .hbm, ⟨28, _⟩ => ⟨S32768x8x1, .bf16⟩
  | .hbm, ⟨29, _⟩ => ⟨S_, .bf16⟩
  | .hbm, ⟨30, _⟩ => ⟨S32768x8x61, .bf16⟩
  | .hbm, ⟨31, _⟩ => ⟨S32768x8x128, .bf16⟩
  | .hbm, ⟨32, _⟩ => ⟨S32768x1024, .bf16⟩
  | .hbm, ⟨33, _⟩ => ⟨S32768x8x64, .f32⟩
  | .hbm, ⟨34, _⟩ => ⟨S_, .f32⟩
  | .hbm, ⟨35, _⟩ => ⟨S32768x8x64, .f32⟩
  | .hbm, ⟨36, _⟩ => ⟨S32768x8x128, .f32⟩
  | .hbm, ⟨37, _⟩ => ⟨S32768x1024, .f32⟩
  | .hbm, ⟨38, _⟩ => ⟨S32768x1024, .bf16⟩
  | .hbm, ⟨39, _⟩ => ⟨S8x64, .f32⟩
  | .hbm, ⟨40, _⟩ => ⟨S_, .i32⟩
  | .hbm, ⟨41, _⟩ => ⟨S_, .f32⟩
  | .hbm, ⟨42, _⟩ => ⟨S8x128, .f32⟩
  | .hbm, ⟨43, _⟩ => ⟨S1x1024, .f32⟩
  | .hbm, ⟨44, _⟩ => ⟨S256x256, .i32⟩
  | .hbm, ⟨45, _⟩ => ⟨S256x256, .i32⟩
  | .hbm, ⟨46, _⟩ => ⟨S_, .i32⟩
  | .hbm, ⟨47, _⟩ => ⟨S_, .i32⟩
  | .hbm, ⟨48, _⟩ => ⟨S256x256, .i32⟩
  | .hbm, ⟨49, _⟩ => ⟨S256x256, .i32⟩
  | .hbm, ⟨50, _⟩ => ⟨S256x256, .i32⟩
  | .hbm, ⟨51, _⟩ => ⟨S_, .i32⟩
  | .hbm, ⟨52, _⟩ => ⟨S256x256, .i32⟩
  | .hbm, ⟨53, _⟩ => ⟨S256x256, .i1⟩
  | .hbm, ⟨54, _⟩ => ⟨S256x256, .i32⟩
  | .hbm, ⟨55, _⟩ => ⟨S256x256, .i32⟩
  | .hbm, ⟨56, _⟩ => ⟨S_, .i32⟩
  | .hbm, ⟨57, _⟩ => ⟨S256x256, .i32⟩
  | .hbm, ⟨58, _⟩ => ⟨S256x256, .i1⟩
  | .hbm, ⟨59, _⟩ => ⟨S256x256, .i1⟩
  | .hbm, ⟨60, _⟩ => ⟨S_, .i32⟩
  | .hbm, ⟨61, _⟩ => ⟨S256x256, .i32⟩
  | .hbm, ⟨62, _⟩ => ⟨S256x256, .i32⟩
  | .hbm, ⟨63, _⟩ => ⟨S256x256, .i32⟩
  | .hbm, ⟨64, _⟩ => ⟨S_, .i32⟩
  | .hbm, ⟨65, _⟩ => ⟨S_, .i32⟩
  | .hbm, ⟨66, _⟩ => ⟨S256x256, .i32⟩
  | .hbm, ⟨67, _⟩ => ⟨S256x256, .i32⟩
  | .hbm, ⟨68, _⟩ => ⟨S256x256, .i32⟩
  | .hbm, ⟨69, _⟩ => ⟨S_, .i32⟩
  | .hbm, ⟨70, _⟩ => ⟨S256x256, .i32⟩
  | .hbm, ⟨71, _⟩ => ⟨S256x256, .i1⟩
  | .hbm, ⟨72, _⟩ => ⟨S256x256, .i32⟩
  | .hbm, ⟨73, _⟩ => ⟨S256x256, .i32⟩
  | .hbm, ⟨74, _⟩ => ⟨S_, .i32⟩
  | .hbm, ⟨75, _⟩ => ⟨S256x256, .i32⟩
  | .hbm, ⟨76, _⟩ => ⟨S256x256, .i1⟩
  | .hbm, ⟨77, _⟩ => ⟨S256x256, .i1⟩
  | .hbm, ⟨78, _⟩ => ⟨S_, .i32⟩
  | .hbm, ⟨79, _⟩ => ⟨S256x256, .i32⟩
  | .hbm, ⟨80, _⟩ => ⟨S256x256, .i32⟩
  | .hbm, ⟨81, _⟩ => ⟨S256x256, .i32⟩
  | .hbm, ⟨82, _⟩ => ⟨S256x256, .i1⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S_, .i1⟩
  | .hbm, ⟨87, _⟩ => ⟨S_, .i32⟩
  | .hbm, ⟨88, _⟩ => ⟨S_, .i32⟩
  | .hbm, ⟨89, _⟩ => ⟨S256x256, .i32⟩
  | .hbm, ⟨90, _⟩ => ⟨S256x256, .i32⟩
  | .hbm, ⟨91, _⟩ => ⟨S_, .i32⟩
  | .hbm, ⟨92, _⟩ => ⟨S256x256, .i32⟩
  | .hbm, ⟨93, _⟩ => ⟨S256x256, .i1⟩
  | .hbm, ⟨94, _⟩ => ⟨S_, .i32⟩
  | .hbm, ⟨95, _⟩ => ⟨S256x256, .i32⟩
  | .hbm, ⟨96, _⟩ => ⟨S256x256, .i1⟩
  | .hbm, ⟨97, _⟩ => ⟨S_, .i32⟩
  | .hbm, ⟨98, _⟩ => ⟨S_, .i1⟩
  | .hbm, ⟨99, _⟩ => ⟨S256x256, .i1⟩
  | .hbm, ⟨100, _⟩ => ⟨S256x256, .i1⟩
  | .hbm, ⟨101, _⟩ => ⟨S256x256, .i1⟩
  | .hbm, ⟨102, _⟩ => ⟨S256x256, .i32⟩
  | .hbm, ⟨103, _⟩ => ⟨S256x256, .i32⟩
  | .hbm, ⟨104, _⟩ => ⟨S256x256, .i32⟩
  | .hbm, ⟨105, _⟩ => ⟨S_, .i32⟩
  | .hbm, ⟨106, _⟩ => ⟨S256x256, .i32⟩
  | .hbm, ⟨107, _⟩ => ⟨S256x256, .i1⟩
  | .hbm, ⟨108, _⟩ => ⟨S256x256, .i1⟩
  | .hbm, ⟨109, _⟩ => ⟨S_, .f32⟩
  | .hbm, ⟨110, _⟩ => ⟨S_, .f32⟩
  | .hbm, ⟨111, _⟩ => ⟨S256x256, .f32⟩
  | .hbm, ⟨112, _⟩ => ⟨S256x256, .f32⟩
  | .hbm, ⟨113, _⟩ => ⟨S256x256, .f32⟩
  | .hbm, ⟨114, _⟩ => ⟨S256x256, .bf16⟩
  | .hbm, ⟨115, _⟩ => ⟨S128x128, .i32⟩
  | .hbm, ⟨116, _⟩ => ⟨S128x128, .i32⟩
  | .hbm, ⟨117, _⟩ => ⟨S_, .i32⟩
  | .hbm, ⟨118, _⟩ => ⟨S128x128, .i32⟩
  | .hbm, ⟨119, _⟩ => ⟨S128x128, .i32⟩
  | .hbm, ⟨120, _⟩ => ⟨S128x128, .i1⟩
  | .hbm, ⟨121, _⟩ => ⟨S_, .f32⟩
  | .hbm, ⟨122, _⟩ => ⟨S_, .f32⟩
  | .hbm, ⟨123, _⟩ => ⟨S128x128, .f32⟩
  | .hbm, ⟨124, _⟩ => ⟨S128x128, .f32⟩
  | .hbm, ⟨125, _⟩ => ⟨S128x128, .f32⟩
  | .hbm, ⟨126, _⟩ => ⟨S128x128, .bf16⟩
  | .hbm, ⟨127, _⟩ => ⟨S32768x512, .bf16⟩
  | .local _ .vmem, ⟨0, _⟩ => ⟨S512x1024, .bf16⟩
  | .local _ .vmem, ⟨1, _⟩ => ⟨S512x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S256x256, .bf16⟩
  | .local _ .vmem, ⟨6, _⟩ => ⟨S128x128, .bf16⟩
  | .local _ .vmem, ⟨7, _⟩ => ⟨S512x512, .bf16⟩
  | .local _ .vmem, ⟨8, _⟩ => ⟨S512x512, .bf16⟩
  | .local _ .vmem, ⟨9, _⟩ => ⟨S8x512x128, .f32⟩
  | .local _ .vmem, ⟨10, _⟩ => ⟨S8x512x128, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c : Ref sig .tc := ⟨.hbm, 40, rfl⟩
abbrev main_call0_v0 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_4 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_c : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_0 : Ref sig .tc := ⟨.hbm, 60, rfl⟩
abbrev main_call1_v12 : Ref sig .tc := ⟨.hbm, 61, rfl⟩
abbrev main_call1_v13 : Ref sig .tc := ⟨.hbm, 62, rfl⟩
abbrev main_v34 : Ref sig .tc := ⟨.hbm, 63, rfl⟩
abbrev main_c_5 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_c : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_0 : Ref sig .tc := ⟨.hbm, 78, rfl⟩
abbrev main_call2_v12 : Ref sig .tc := ⟨.hbm, 79, rfl⟩
abbrev main_call2_v13 : Ref sig .tc := ⟨.hbm, 80, rfl⟩
abbrev main_v35 : Ref sig .tc := ⟨.hbm, 81, rfl⟩
abbrev main_v36 : Ref sig .tc := ⟨.hbm, 82, rfl⟩
abbrev main_c_6 : Ref sig .tc := ⟨.hbm, 83, rfl⟩
abbrev main_call3_v0 : Ref sig .tc := ⟨.hbm, 84, rfl⟩
abbrev main_call3_c : Ref sig .tc := ⟨.hbm, 85, rfl⟩
abbrev main_call3_v1 : Ref sig .tc := ⟨.hbm, 86, rfl⟩
abbrev main_call3_c_0 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_call3_c_1 : Ref sig .tc := ⟨.hbm, 91, rfl⟩
abbrev main_call3_v5 : Ref sig .tc := ⟨.hbm, 92, rfl⟩
abbrev main_call3_v6 : Ref sig .tc := ⟨.hbm, 93, rfl⟩
abbrev main_call3_c_2 : Ref sig .tc := ⟨.hbm, 94, rfl⟩
abbrev main_call3_v7 : Ref sig .tc := ⟨.hbm, 95, rfl⟩
abbrev main_call3_v8 : Ref sig .tc := ⟨.hbm, 96, rfl⟩
abbrev main_call3_c_3 : Ref sig .tc := ⟨.hbm, 97, rfl⟩
abbrev main_call3_v9 : Ref sig .tc := ⟨.hbm, 98, rfl⟩
abbrev main_call3_v10 : Ref sig .tc := ⟨.hbm, 99, rfl⟩
abbrev main_call3_v11 : Ref sig .tc := ⟨.hbm, 100, rfl⟩
abbrev main_call3_v12 : Ref sig .tc := ⟨.hbm, 101, rfl⟩
abbrev main_call3_v13 : Ref sig .tc := ⟨.hbm, 102, rfl⟩
abbrev main_call3_v14 : Ref sig .tc := ⟨.hbm, 103, rfl⟩
abbrev main_v37 : Ref sig .tc := ⟨.hbm, 104, rfl⟩
abbrev main_c_7 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_cst_8 : Ref sig .tc := ⟨.hbm, 109, rfl⟩
abbrev main_cst_9 : Ref sig .tc := ⟨.hbm, 110, rfl⟩
abbrev main_call4_v0 : Ref sig .tc := ⟨.hbm, 111, rfl⟩
abbrev main_call4_v1 : Ref sig .tc := ⟨.hbm, 112, rfl⟩
abbrev main_v41 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩
abbrev main_c_10 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩
abbrev main_cst_11 : Ref sig .tc := ⟨.hbm, 121, rfl⟩
abbrev main_cst_12 : Ref sig .tc := ⟨.hbm, 122, rfl⟩
abbrev main_call5_v0 : Ref sig .tc := ⟨.hbm, 123, rfl⟩
abbrev main_call5_v1 : Ref sig .tc := ⟨.hbm, 124, rfl⟩
abbrev main_v48 : Ref sig .tc := ⟨.hbm, 125, rfl⟩
abbrev main_v49 : Ref sig .tc := ⟨.hbm, 126, rfl⟩
abbrev main_v50 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_11 : BitVec 32 := 0#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c256_i32 : BitVec 32 := 256#32
  let c0_i32_7 : BitVec 32 := 0#32
  let v15 : BitVec 1 := Scalar.cmpi .sgt c256_i32 c0_i32_7
  let v16 : BitVec 32 := Scalar.extui v15
  let c0_i32_8 : BitVec 32 := 0#32
  let v17 : BitVec 1 := Scalar.cmpi .slt c256_i32 c0_i32_8
  let v18 : BitVec 32 := Scalar.extui v17
  let v19 : BitVec 32 := Scalar.subi v16 v18
  let v20 : BitVec 1 := Scalar.cmpi .ne v14 v19
  let v21 : BitVec 32 := Scalar.remsi v8 c256_i32
  let c0_i32_9 : BitVec 32 := 0#32
  let v22 : BitVec 1 := Scalar.cmpi .ne v21 c0_i32_9
  let v23 : BitVec 1 := Scalar.andi v20 v22
  let v9 : BitVec 32 := Scalar.divsi v8 c256_i32
  let c1_i32 : BitVec 32 := 1#32
  let v24 : BitVec 32 := Scalar.subi v9 c1_i32
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let c1_i32_13 : BitVec 32 := 1#32
  ⟨c0_i32_11, v30, c1_i32_13⟩
def k0_mult1 (i : grid0.Coords) (k0_t1 : Fin (k0_t1_loop i).trips) : BitVec 32 :=
  let c0_i32_11 : BitVec 32 := 0#32
  let c1_i32_13 : BitVec 32 := 1#32
  let arg11 : BitVec 32 := Scf.iv c0_i32_11 c1_i32_13 k0_t1
  let c256_i32_590 : BitVec 32 := 256#32
  let v1059 : BitVec 32 := Scalar.muli arg11 c256_i32_590
  v1059
def k0_off1 (i : grid0.Coords) (k0_t1 : Fin (k0_t1_loop i).trips) : Fin 2 → Nat :=
  let c0_i32_11 : BitVec 32 := 0#32
  let c1_i32_13 : BitVec 32 := 1#32
  let arg11 : BitVec 32 := Scf.iv c0_i32_11 c1_i32_13 k0_t1
  let c256_i32_590 : BitVec 32 := 256#32
  let v1059 : BitVec 32 := Scalar.muli arg11 c256_i32_590
  let v1060 : BitVec 32 := v1059
  let v1063 : Index := Scalar.indexCast v1060
  let c0_593 : Index := 0#32
  ![v1063.toNat, 0]
def k0_off2 (i : grid0.Coords) (k0_t1 : Fin (k0_t1_loop i).trips) : Fin 2 → Nat :=
  let c0_i32_11 : BitVec 32 := 0#32
  let c1_i32_13 : BitVec 32 := 1#32
  let arg11 : BitVec 32 := Scf.iv c0_i32_11 c1_i32_13 k0_t1
  let c256_i32_590 : BitVec 32 := 256#32
  let v1059 : BitVec 32 := Scalar.muli arg11 c256_i32_590
  let v1060 : BitVec 32 := v1059
  let v1097 : Index := Scalar.indexCast v1060
  let c128_613 : Index := 128#32
  ![v1097.toNat, 128]
def k0_off3 (i : grid0.Coords) (k0_t1 : Fin (k0_t1_loop i).trips) : Fin 2 → Nat :=
  let c0_i32_11 : BitVec 32 := 0#32
  let c1_i32_13 : BitVec 32 := 1#32
  let arg11 : BitVec 32 := Scf.iv c0_i32_11 c1_i32_13 k0_t1
  let c256_i32_590 : BitVec 32 := 256#32
  let v1059 : BitVec 32 := Scalar.muli arg11 c256_i32_590
  let v1060 : BitVec 32 := v1059
  let v1131 : Index := Scalar.indexCast v1060
  let c256_633 : Index := 256#32
  ![v1131.toNat, 256]
def k0_off4 (i : grid0.Coords) (k0_t1 : Fin (k0_t1_loop i).trips) : Fin 2 → Nat :=
  let c0_i32_11 : BitVec 32 := 0#32
  let c1_i32_13 : BitVec 32 := 1#32
  let arg11 : BitVec 32 := Scf.iv c0_i32_11 c1_i32_13 k0_t1
  let c256_i32_590 : BitVec 32 := 256#32
  let v1059 : BitVec 32 := Scalar.muli arg11 c256_i32_590
  let v1060 : BitVec 32 := v1059
  let v1165 : Index := Scalar.indexCast v1060
  let c384_653 : Index := 384#32
  ![v1165.toNat, 384]
def k0_off5 (i : grid0.Coords) (k0_t1 : Fin (k0_t1_loop i).trips) : Fin 2 → Nat :=
  let c0_i32_11 : BitVec 32 := 0#32
  let c1_i32_13 : BitVec 32 := 1#32
  let arg11 : BitVec 32 := Scf.iv c0_i32_11 c1_i32_13 k0_t1
  let c256_i32_590 : BitVec 32 := 256#32
  let v1059 : BitVec 32 := Scalar.muli arg11 c256_i32_590
  let v1060 : BitVec 32 := v1059
  let v1199 : Index := Scalar.indexCast v1060
  let c512_673 : Index := 512#32
  ![v1199.toNat, 512]
def k0_off6 (i : grid0.Coords) (k0_t1 : Fin (k0_t1_loop i).trips) : Fin 2 → Nat :=
  let c0_i32_11 : BitVec 32 := 0#32
  let c1_i32_13 : BitVec 32 := 1#32
  let arg11 : BitVec 32 := Scf.iv c0_i32_11 c1_i32_13 k0_t1
  let c256_i32_590 : BitVec 32 := 256#32
  let v1059 : BitVec 32 := Scalar.muli arg11 c256_i32_590
  let v1060 : BitVec 32 := v1059
  let v1233 : Index := Scalar.indexCast v1060
  let c640_693 : Index := 640#32
  ![v1233.toNat, 640]
def k0_off7 (i : grid0.Coords) (k0_t1 : Fin (k0_t1_loop i).trips) : Fin 2 → Nat :=
  let c0_i32_11 : BitVec 32 := 0#32
  let c1_i32_13 : BitVec 32 := 1#32
  let arg11 : BitVec 32 := Scf.iv c0_i32_11 c1_i32_13 k0_t1
  let c256_i32_590 : BitVec 32 := 256#32
  let v1059 : BitVec 32 := Scalar.muli arg11 c256_i32_590
  let v1060 : BitVec 32 := v1059
  let v1267 : Index := Scalar.indexCast v1060
  let c768_713 : Index := 768#32
  ![v1267.toNat, 768]
def k0_off8 (i : grid0.Coords) (k0_t1 : Fin (k0_t1_loop i).trips) : Fin 2 → Nat :=
  let c0_i32_11 : BitVec 32 := 0#32
  let c1_i32_13 : BitVec 32 := 1#32
  let arg11 : BitVec 32 := Scf.iv c0_i32_11 c1_i32_13 k0_t1
  let c256_i32_590 : BitVec 32 := 256#32
  let v1059 : BitVec 32 := Scalar.muli arg11 c256_i32_590
  let v1060 : BitVec 32 := v1059
  let v1301 : Index := Scalar.indexCast v1060
  let c896_733 : Index := 896#32
  ![v1301.toNat, 896]
@[reducible] def k0_t2_loop (i : grid0.Coords) : Scf.Loop 32 :=
  let c0_i32_11 : BitVec 32 := 0#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c256_i32 : BitVec 32 := 256#32
  let c0_i32_7 : BitVec 32 := 0#32
  let v15 : BitVec 1 := Scalar.cmpi .sgt c256_i32 c0_i32_7
  let v16 : BitVec 32 := Scalar.extui v15
  let c0_i32_8 : BitVec 32 := 0#32
  let v17 : BitVec 1 := Scalar.cmpi .slt c256_i32 c0_i32_8
  let v18 : BitVec 32 := Scalar.extui v17
  let v19 : BitVec 32 := Scalar.subi v16 v18
  let v20 : BitVec 1 := Scalar.cmpi .ne v14 v19
  let v21 : BitVec 32 := Scalar.remsi v8 c256_i32
  let c0_i32_9 : BitVec 32 := 0#32
  let v22 : BitVec 1 := Scalar.cmpi .ne v21 c0_i32_9
  let v23 : BitVec 1 := Scalar.andi v20 v22
  let v9 : BitVec 32 := Scalar.divsi v8 c256_i32
  let c1_i32 : BitVec 32 := 1#32
  let v24 : BitVec 32 := Scalar.subi v9 c1_i32
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let v27 : BitVec 32 := Scalar.addi c0_i32_11 v26
  let c1_i32_14 : BitVec 32 := 1#32
  ⟨v30, v27, c1_i32_14⟩
def k0_mult2 (i : grid0.Coords) (k0_t2 : Fin (k0_t2_loop i).trips) : BitVec 32 :=
  let c0_i32_11 : BitVec 32 := 0#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c256_i32 : BitVec 32 := 256#32
  let c0_i32_7 : BitVec 32 := 0#32
  let v15 : BitVec 1 := Scalar.cmpi .sgt c256_i32 c0_i32_7
  let v16 : BitVec 32 := Scalar.extui v15
  let c0_i32_8 : BitVec 32 := 0#32
  let v17 : BitVec 1 := Scalar.cmpi .slt c256_i32 c0_i32_8
  let v18 : BitVec 32 := Scalar.extui v17
  let v19 : BitVec 32 := Scalar.subi v16 v18
  let v20 : BitVec 1 := Scalar.cmpi .ne v14 v19
  let v21 : BitVec 32 := Scalar.remsi v8 c256_i32
  let c0_i32_9 : BitVec 32 := 0#32
  let v22 : BitVec 1 := Scalar.cmpi .ne v21 c0_i32_9
  let v23 : BitVec 1 := Scalar.andi v20 v22
  let v9 : BitVec 32 := Scalar.divsi v8 c256_i32
  let c1_i32 : BitVec 32 := 1#32
  let v24 : BitVec 32 := Scalar.subi v9 c1_i32
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let c1_i32_14 : BitVec 32 := 1#32
  let arg11 : BitVec 32 := Scf.iv v30 c1_i32_14 k0_t2
  let c256_i32_590 : BitVec 32 := 256#32
  let v1059 : BitVec 32 := Scalar.muli arg11 c256_i32_590
  v1059
def k0_off9 (i : grid0.Coords) (k0_t2 : Fin (k0_t2_loop i).trips) : Fin 2 → Nat :=
  let c0_i32_11 : BitVec 32 := 0#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c256_i32 : BitVec 32 := 256#32
  let c0_i32_7 : BitVec 32 := 0#32
  let v15 : BitVec 1 := Scalar.cmpi .sgt c256_i32 c0_i32_7
  let v16 : BitVec 32 := Scalar.extui v15
  let c0_i32_8 : BitVec 32 := 0#32
  let v17 : BitVec 1 := Scalar.cmpi .slt c256_i32 c0_i32_8
  let v18 : BitVec 32 := Scalar.extui v17
  let v19 : BitVec 32 := Scalar.subi v16 v18
  let v20 : BitVec 1 := Scalar.cmpi .ne v14 v19
  let v21 : BitVec 32 := Scalar.remsi v8 c256_i32
  let c0_i32_9 : BitVec 32 := 0#32
  let v22 : BitVec 1 := Scalar.cmpi .ne v21 c0_i32_9
  let v23 : BitVec 1 := Scalar.andi v20 v22
  let v9 : BitVec 32 := Scalar.divsi v8 c256_i32
  let c1_i32 : BitVec 32 := 1#32
  let v24 : BitVec 32 := Scalar.subi v9 c1_i32
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let c1_i32_14 : BitVec 32 := 1#32
  let arg11 : BitVec 32 := Scf.iv v30 c1_i32_14 k0_t2
  let c256_i32_590 : BitVec 32 := 256#32
  let v1059 : BitVec 32 := Scalar.muli arg11 c256_i32_590
  let v1060 : BitVec 32 := v1059
  let v1063 : Index := Scalar.indexCast v1060
  let c0_593 : Index := 0#32
  ![v1063.toNat, 0]
def k0_off10 (i : grid0.Coords) (k0_t2 : Fin (k0_t2_loop i).trips) : Fin 2 → Nat :=
  let c0_i32_11 : BitVec 32 := 0#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c256_i32 : BitVec 32 := 256#32
  let c0_i32_7 : BitVec 32 := 0#32
  let v15 : BitVec 1 := Scalar.cmpi .sgt c256_i32 c0_i32_7
  let v16 : BitVec 32 := Scalar.extui v15
  let c0_i32_8 : BitVec 32 := 0#32
  let v17 : BitVec 1 := Scalar.cmpi .slt c256_i32 c0_i32_8
  let v18 : BitVec 32 := Scalar.extui v17
  let v19 : BitVec 32 := Scalar.subi v16 v18
  let v20 : BitVec 1 := Scalar.cmpi .ne v14 v19
  let v21 : BitVec 32 := Scalar.remsi v8 c256_i32
  let c0_i32_9 : BitVec 32 := 0#32
  let v22 : BitVec 1 := Scalar.cmpi .ne v21 c0_i32_9
  let v23 : BitVec 1 := Scalar.andi v20 v22
  let v9 : BitVec 32 := Scalar.divsi v8 c256_i32
  let c1_i32 : BitVec 32 := 1#32
  let v24 : BitVec 32 := Scalar.subi v9 c1_i32
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let c1_i32_14 : BitVec 32 := 1#32
  let arg11 : BitVec 32 := Scf.iv v30 c1_i32_14 k0_t2
  let c256_i32_590 : BitVec 32 := 256#32
  let v1059 : BitVec 32 := Scalar.muli arg11 c256_i32_590
  let v1060 : BitVec 32 := v1059
  let v1097 : Index := Scalar.indexCast v1060
  let c128_613 : Index := 128#32
  ![v1097.toNat, 128]
def k0_off11 (i : grid0.Coords) (k0_t2 : Fin (k0_t2_loop i).trips) : Fin 2 → Nat :=
  let c0_i32_11 : BitVec 32 := 0#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c256_i32 : BitVec 32 := 256#32
  let c0_i32_7 : BitVec 32 := 0#32
  let v15 : BitVec 1 := Scalar.cmpi .sgt c256_i32 c0_i32_7
  let v16 : BitVec 32 := Scalar.extui v15
  let c0_i32_8 : BitVec 32 := 0#32
  let v17 : BitVec 1 := Scalar.cmpi .slt c256_i32 c0_i32_8
  let v18 : BitVec 32 := Scalar.extui v17
  let v19 : BitVec 32 := Scalar.subi v16 v18
  let v20 : BitVec 1 := Scalar.cmpi .ne v14 v19
  let v21 : BitVec 32 := Scalar.remsi v8 c256_i32
  let c0_i32_9 : BitVec 32 := 0#32
  let v22 : BitVec 1 := Scalar.cmpi .ne v21 c0_i32_9
  let v23 : BitVec 1 := Scalar.andi v20 v22
  let v9 : BitVec 32 := Scalar.divsi v8 c256_i32
  let c1_i32 : BitVec 32 := 1#32
  let v24 : BitVec 32 := Scalar.subi v9 c1_i32
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let c1_i32_14 : BitVec 32 := 1#32
  let arg11 : BitVec 32 := Scf.iv v30 c1_i32_14 k0_t2
  let c256_i32_590 : BitVec 32 := 256#32
  let v1059 : BitVec 32 := Scalar.muli arg11 c256_i32_590
  let v1060 : BitVec 32 := v1059
  let v1131 : Index := Scalar.indexCast v1060
  let c256_633 : Index := 256#32
  ![v1131.toNat, 256]
def k0_off12 (i : grid0.Coords) (k0_t2 : Fin (k0_t2_loop i).trips) : Fin 2 → Nat :=
  let c0_i32_11 : BitVec 32 := 0#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c256_i32 : BitVec 32 := 256#32
  let c0_i32_7 : BitVec 32 := 0#32
  let v15 : BitVec 1 := Scalar.cmpi .sgt c256_i32 c0_i32_7
  let v16 : BitVec 32 := Scalar.extui v15
  let c0_i32_8 : BitVec 32 := 0#32
  let v17 : BitVec 1 := Scalar.cmpi .slt c256_i32 c0_i32_8
  let v18 : BitVec 32 := Scalar.extui v17
  let v19 : BitVec 32 := Scalar.subi v16 v18
  let v20 : BitVec 1 := Scalar.cmpi .ne v14 v19
  let v21 : BitVec 32 := Scalar.remsi v8 c256_i32
  let c0_i32_9 : BitVec 32 := 0#32
  let v22 : BitVec 1 := Scalar.cmpi .ne v21 c0_i32_9
  let v23 : BitVec 1 := Scalar.andi v20 v22
  let v9 : BitVec 32 := Scalar.divsi v8 c256_i32
  let c1_i32 : BitVec 32 := 1#32
  let v24 : BitVec 32 := Scalar.subi v9 c1_i32
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let c1_i32_14 : BitVec 32 := 1#32
  let arg11 : BitVec 32 := Scf.iv v30 c1_i32_14 k0_t2
  let c256_i32_590 : BitVec 32 := 256#32
  let v1059 : BitVec 32 := Scalar.muli arg11 c256_i32_590
  let v1060 : BitVec 32 := v1059
  let v1165 : Index := Scalar.indexCast v1060
  let c384_653 : Index := 384#32
  ![v1165.toNat, 384]
def k0_off13 (i : grid0.Coords) (k0_t2 : Fin (k0_t2_loop i).trips) : Fin 2 → Nat :=
  let c0_i32_11 : BitVec 32 := 0#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c256_i32 : BitVec 32 := 256#32
  let c0_i32_7 : BitVec 32 := 0#32
  let v15 : BitVec 1 := Scalar.cmpi .sgt c256_i32 c0_i32_7
  let v16 : BitVec 32 := Scalar.extui v15
  let c0_i32_8 : BitVec 32 := 0#32
  let v17 : BitVec 1 := Scalar.cmpi .slt c256_i32 c0_i32_8
  let v18 : BitVec 32 := Scalar.extui v17
  let v19 : BitVec 32 := Scalar.subi v16 v18
  let v20 : BitVec 1 := Scalar.cmpi .ne v14 v19
  let v21 : BitVec 32 := Scalar.remsi v8 c256_i32
  let c0_i32_9 : BitVec 32 := 0#32
  let v22 : BitVec 1 := Scalar.cmpi .ne v21 c0_i32_9
  let v23 : BitVec 1 := Scalar.andi v20 v22
  let v9 : BitVec 32 := Scalar.divsi v8 c256_i32
  let c1_i32 : BitVec 32 := 1#32
  let v24 : BitVec 32 := Scalar.subi v9 c1_i32
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let c1_i32_14 : BitVec 32 := 1#32
  let arg11 : BitVec 32 := Scf.iv v30 c1_i32_14 k0_t2
  let c256_i32_590 : BitVec 32 := 256#32
  let v1059 : BitVec 32 := Scalar.muli arg11 c256_i32_590
  let v1060 : BitVec 32 := v1059
  let v1199 : Index := Scalar.indexCast v1060
  let c512_673 : Index := 512#32
  ![v1199.toNat, 512]
def k0_off14 (i : grid0.Coords) (k0_t2 : Fin (k0_t2_loop i).trips) : Fin 2 → Nat :=
  let c0_i32_11 : BitVec 32 := 0#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c256_i32 : BitVec 32 := 256#32
  let c0_i32_7 : BitVec 32 := 0#32
  let v15 : BitVec 1 := Scalar.cmpi .sgt c256_i32 c0_i32_7
  let v16 : BitVec 32 := Scalar.extui v15
  let c0_i32_8 : BitVec 32 := 0#32
  let v17 : BitVec 1 := Scalar.cmpi .slt c256_i32 c0_i32_8
  let v18 : BitVec 32 := Scalar.extui v17
  let v19 : BitVec 32 := Scalar.subi v16 v18
  let v20 : BitVec 1 := Scalar.cmpi .ne v14 v19
  let v21 : BitVec 32 := Scalar.remsi v8 c256_i32
  let c0_i32_9 : BitVec 32 := 0#32
  let v22 : BitVec 1 := Scalar.cmpi .ne v21 c0_i32_9
  let v23 : BitVec 1 := Scalar.andi v20 v22
  let v9 : BitVec 32 := Scalar.divsi v8 c256_i32
  let c1_i32 : BitVec 32 := 1#32
  let v24 : BitVec 32 := Scalar.subi v9 c1_i32
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let c1_i32_14 : BitVec 32 := 1#32
  let arg11 : BitVec 32 := Scf.iv v30 c1_i32_14 k0_t2
  let c256_i32_590 : BitVec 32 := 256#32
  let v1059 : BitVec 32 := Scalar.muli arg11 c256_i32_590
  let v1060 : BitVec 32 := v1059
  let v1233 : Index := Scalar.indexCast v1060
  let c640_693 : Index := 640#32
  ![v1233.toNat, 640]
def k0_off15 (i : grid0.Coords) (k0_t2 : Fin (k0_t2_loop i).trips) : Fin 2 → Nat :=
  let c0_i32_11 : BitVec 32 := 0#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c256_i32 : BitVec 32 := 256#32
  let c0_i32_7 : BitVec 32 := 0#32
  let v15 : BitVec 1 := Scalar.cmpi .sgt c256_i32 c0_i32_7
  let v16 : BitVec 32 := Scalar.extui v15
  let c0_i32_8 : BitVec 32 := 0#32
  let v17 : BitVec 1 := Scalar.cmpi .slt c256_i32 c0_i32_8
  let v18 : BitVec 32 := Scalar.extui v17
  let v19 : BitVec 32 := Scalar.subi v16 v18
  let v20 : BitVec 1 := Scalar.cmpi .ne v14 v19
  let v21 : BitVec 32 := Scalar.remsi v8 c256_i32
  let c0_i32_9 : BitVec 32 := 0#32
  let v22 : BitVec 1 := Scalar.cmpi .ne v21 c0_i32_9
  let v23 : BitVec 1 := Scalar.andi v20 v22
  let v9 : BitVec 32 := Scalar.divsi v8 c256_i32
  let c1_i32 : BitVec 32 := 1#32
  let v24 : BitVec 32 := Scalar.subi v9 c1_i32
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let c1_i32_14 : BitVec 32 := 1#32
  let arg11 : BitVec 32 := Scf.iv v30 c1_i32_14 k0_t2
  let c256_i32_590 : BitVec 32 := 256#32
  let v1059 : BitVec 32 := Scalar.muli arg11 c256_i32_590
  let v1060 : BitVec 32 := v1059
  let v1267 : Index := Scalar.indexCast v1060
  let c768_713 : Index := 768#32
  ![v1267.toNat, 768]
def k0_off16 (i : grid0.Coords) (k0_t2 : Fin (k0_t2_loop i).trips) : Fin 2 → Nat :=
  let c0_i32_11 : BitVec 32 := 0#32
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c256_i32 : BitVec 32 := 256#32
  let c0_i32_7 : BitVec 32 := 0#32
  let v15 : BitVec 1 := Scalar.cmpi .sgt c256_i32 c0_i32_7
  let v16 : BitVec 32 := Scalar.extui v15
  let c0_i32_8 : BitVec 32 := 0#32
  let v17 : BitVec 1 := Scalar.cmpi .slt c256_i32 c0_i32_8
  let v18 : BitVec 32 := Scalar.extui v17
  let v19 : BitVec 32 := Scalar.subi v16 v18
  let v20 : BitVec 1 := Scalar.cmpi .ne v14 v19
  let v21 : BitVec 32 := Scalar.remsi v8 c256_i32
  let c0_i32_9 : BitVec 32 := 0#32
  let v22 : BitVec 1 := Scalar.cmpi .ne v21 c0_i32_9
  let v23 : BitVec 1 := Scalar.andi v20 v22
  let v9 : BitVec 32 := Scalar.divsi v8 c256_i32
  let c1_i32 : BitVec 32 := 1#32
  let v24 : BitVec 32 := Scalar.subi v9 c1_i32
  let v25 : BitVec 32 := Scalar.select v23 v24 v9
  let v26 : BitVec 32 := Scalar.subi v25 c0_i32_11
  let c1_i32_12 : BitVec 32 := 1#32
  let v28 : BitVec 32 := Scalar.divsi v26 c1_i32_12
  let v29 : BitVec 32 := Scalar.muli v28 c1_i32_12
  let v30 : BitVec 32 := Scalar.addi c0_i32_11 v29
  let c1_i32_14 : BitVec 32 := 1#32
  let arg11 : BitVec 32 := Scf.iv v30 c1_i32_14 k0_t2
  let c256_i32_590 : BitVec 32 := 256#32
  let v1059 : BitVec 32 := Scalar.muli arg11 c256_i32_590
  let v1060 : BitVec 32 := v1059
  let v1301 : Index := Scalar.indexCast v1060
  let c896_733 : Index := 896#32
  ![v1301.toNat, 896]
def k0_mult3 (i : grid0.Coords) : BitVec 32 :=
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c256_i32 : BitVec 32 := 256#32
  let c0_i32_7 : BitVec 32 := 0#32
  let v15 : BitVec 1 := Scalar.cmpi .sgt c256_i32 c0_i32_7
  let v16 : BitVec 32 := Scalar.extui v15
  let c0_i32_8 : BitVec 32 := 0#32
  let v17 : BitVec 1 := Scalar.cmpi .slt c256_i32 c0_i32_8
  let v18 : BitVec 32 := Scalar.extui v17
  let v19 : BitVec 32 := Scalar.subi v16 v18
  let v20 : BitVec 1 := Scalar.cmpi .ne v14 v19
  let v21 : BitVec 32 := Scalar.remsi v8 c256_i32
  let c0_i32_9 : BitVec 32 := 0#32
  let v22 : BitVec 1 := Scalar.cmpi .ne v21 c0_i32_9
  let v23 : BitVec 1 := Scalar.andi v20 v22
  let v9 : BitVec 32 := Scalar.divsi v8 c256_i32
  let c1_i32 : BitVec 32 := 1#32
  let v24 : BitVec 32 := Scalar.subi v9 c1_i32
  let v25 : BitVec 32 := Scalar.select v23 v24 v9
  let c0_i32_15 : BitVec 32 := 0#32
  let v34 : BitVec 32 := Scalar.addi v25 c0_i32_15
  let c256_i32_16 : BitVec 32 := 256#32
  let v35 : BitVec 32 := Scalar.muli v34 c256_i32_16
  v35
def k0_off17 (i : grid0.Coords) (c0_i32_15 : BitVec 32) : Fin 2 → Nat :=
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c256_i32 : BitVec 32 := 256#32
  let c0_i32_7 : BitVec 32 := 0#32
  let v15 : BitVec 1 := Scalar.cmpi .sgt c256_i32 c0_i32_7
  let v16 : BitVec 32 := Scalar.extui v15
  let c0_i32_8 : BitVec 32 := 0#32
  let v17 : BitVec 1 := Scalar.cmpi .slt c256_i32 c0_i32_8
  let v18 : BitVec 32 := Scalar.extui v17
  let v19 : BitVec 32 := Scalar.subi v16 v18
  let v20 : BitVec 1 := Scalar.cmpi .ne v14 v19
  let v21 : BitVec 32 := Scalar.remsi v8 c256_i32
  let c0_i32_9 : BitVec 32 := 0#32
  let v22 : BitVec 1 := Scalar.cmpi .ne v21 c0_i32_9
  let v23 : BitVec 1 := Scalar.andi v20 v22
  let v9 : BitVec 32 := Scalar.divsi v8 c256_i32
  let c1_i32 : BitVec 32 := 1#32
  let v24 : BitVec 32 := Scalar.subi v9 c1_i32
  let v25 : BitVec 32 := Scalar.select v23 v24 v9
  let v34 : BitVec 32 := Scalar.addi v25 c0_i32_15
  let c256_i32_16 : BitVec 32 := 256#32
  let v35 : BitVec 32 := Scalar.muli v34 c256_i32_16
  let v36 : BitVec 32 := v35
  let v39 : Index := Scalar.indexCast v36
  let c0_19 : Index := 0#32
  ![v39.toNat, 0]
def k0_off18 (i : grid0.Coords) (c0_i32_15 : BitVec 32) : Fin 2 → Nat :=
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c256_i32 : BitVec 32 := 256#32
  let c0_i32_7 : BitVec 32 := 0#32
  let v15 : BitVec 1 := Scalar.cmpi .sgt c256_i32 c0_i32_7
  let v16 : BitVec 32 := Scalar.extui v15
  let c0_i32_8 : BitVec 32 := 0#32
  let v17 : BitVec 1 := Scalar.cmpi .slt c256_i32 c0_i32_8
  let v18 : BitVec 32 := Scalar.extui v17
  let v19 : BitVec 32 := Scalar.subi v16 v18
  let v20 : BitVec 1 := Scalar.cmpi .ne v14 v19
  let v21 : BitVec 32 := Scalar.remsi v8 c256_i32
  let c0_i32_9 : BitVec 32 := 0#32
  let v22 : BitVec 1 := Scalar.cmpi .ne v21 c0_i32_9
  let v23 : BitVec 1 := Scalar.andi v20 v22
  let v9 : BitVec 32 := Scalar.divsi v8 c256_i32
  let c1_i32 : BitVec 32 := 1#32
  let v24 : BitVec 32 := Scalar.subi v9 c1_i32
  let v25 : BitVec 32 := Scalar.select v23 v24 v9
  let v34 : BitVec 32 := Scalar.addi v25 c0_i32_15
  let c256_i32_16 : BitVec 32 := 256#32
  let v35 : BitVec 32 := Scalar.muli v34 c256_i32_16
  let v36 : BitVec 32 := v35
  let v75 : Index := Scalar.indexCast v36
  let c128_39 : Index := 128#32
  ![v75.toNat, 128]
def k0_off19 (i : grid0.Coords) (c0_i32_15 : BitVec 32) : Fin 2 → Nat :=
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c256_i32 : BitVec 32 := 256#32
  let c0_i32_7 : BitVec 32 := 0#32
  let v15 : BitVec 1 := Scalar.cmpi .sgt c256_i32 c0_i32_7
  let v16 : BitVec 32 := Scalar.extui v15
  let c0_i32_8 : BitVec 32 := 0#32
  let v17 : BitVec 1 := Scalar.cmpi .slt c256_i32 c0_i32_8
  let v18 : BitVec 32 := Scalar.extui v17
  let v19 : BitVec 32 := Scalar.subi v16 v18
  let v20 : BitVec 1 := Scalar.cmpi .ne v14 v19
  let v21 : BitVec 32 := Scalar.remsi v8 c256_i32
  let c0_i32_9 : BitVec 32 := 0#32
  let v22 : BitVec 1 := Scalar.cmpi .ne v21 c0_i32_9
  let v23 : BitVec 1 := Scalar.andi v20 v22
  let v9 : BitVec 32 := Scalar.divsi v8 c256_i32
  let c1_i32 : BitVec 32 := 1#32
  let v24 : BitVec 32 := Scalar.subi v9 c1_i32
  let v25 : BitVec 32 := Scalar.select v23 v24 v9
  let v34 : BitVec 32 := Scalar.addi v25 c0_i32_15
  let c256_i32_16 : BitVec 32 := 256#32
  let v35 : BitVec 32 := Scalar.muli v34 c256_i32_16
  let v36 : BitVec 32 := v35
  let v111 : Index := Scalar.indexCast v36
  let c256_58 : Index := 256#32
  ![v111.toNat, 256]
def k0_off20 (i : grid0.Coords) (c0_i32_15 : BitVec 32) : Fin 2 → Nat :=
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c256_i32 : BitVec 32 := 256#32
  let c0_i32_7 : BitVec 32 := 0#32
  let v15 : BitVec 1 := Scalar.cmpi .sgt c256_i32 c0_i32_7
  let v16 : BitVec 32 := Scalar.extui v15
  let c0_i32_8 : BitVec 32 := 0#32
  let v17 : BitVec 1 := Scalar.cmpi .slt c256_i32 c0_i32_8
  let v18 : BitVec 32 := Scalar.extui v17
  let v19 : BitVec 32 := Scalar.subi v16 v18
  let v20 : BitVec 1 := Scalar.cmpi .ne v14 v19
  let v21 : BitVec 32 := Scalar.remsi v8 c256_i32
  let c0_i32_9 : BitVec 32 := 0#32
  let v22 : BitVec 1 := Scalar.cmpi .ne v21 c0_i32_9
  let v23 : BitVec 1 := Scalar.andi v20 v22
  let v9 : BitVec 32 := Scalar.divsi v8 c256_i32
  let c1_i32 : BitVec 32 := 1#32
  let v24 : BitVec 32 := Scalar.subi v9 c1_i32
  let v25 : BitVec 32 := Scalar.select v23 v24 v9
  let v34 : BitVec 32 := Scalar.addi v25 c0_i32_15
  let c256_i32_16 : BitVec 32 := 256#32
  let v35 : BitVec 32 := Scalar.muli v34 c256_i32_16
  let v36 : BitVec 32 := v35
  let v147 : Index := Scalar.indexCast v36
  let c384_77 : Index := 384#32
  ![v147.toNat, 384]
def k0_off21 (i : grid0.Coords) (c0_i32_15 : BitVec 32) : Fin 2 → Nat :=
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c256_i32 : BitVec 32 := 256#32
  let c0_i32_7 : BitVec 32 := 0#32
  let v15 : BitVec 1 := Scalar.cmpi .sgt c256_i32 c0_i32_7
  let v16 : BitVec 32 := Scalar.extui v15
  let c0_i32_8 : BitVec 32 := 0#32
  let v17 : BitVec 1 := Scalar.cmpi .slt c256_i32 c0_i32_8
  let v18 : BitVec 32 := Scalar.extui v17
  let v19 : BitVec 32 := Scalar.subi v16 v18
  let v20 : BitVec 1 := Scalar.cmpi .ne v14 v19
  let v21 : BitVec 32 := Scalar.remsi v8 c256_i32
  let c0_i32_9 : BitVec 32 := 0#32
  let v22 : BitVec 1 := Scalar.cmpi .ne v21 c0_i32_9
  let v23 : BitVec 1 := Scalar.andi v20 v22
  let v9 : BitVec 32 := Scalar.divsi v8 c256_i32
  let c1_i32 : BitVec 32 := 1#32
  let v24 : BitVec 32 := Scalar.subi v9 c1_i32
  let v25 : BitVec 32 := Scalar.select v23 v24 v9
  let v34 : BitVec 32 := Scalar.addi v25 c0_i32_15
  let c256_i32_16 : BitVec 32 := 256#32
  let v35 : BitVec 32 := Scalar.muli v34 c256_i32_16
  let v36 : BitVec 32 := v35
  let v183 : Index := Scalar.indexCast v36
  let c512_96 : Index := 512#32
  ![v183.toNat, 512]
def k0_off22 (i : grid0.Coords) (c0_i32_15 : BitVec 32) : Fin 2 → Nat :=
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c256_i32 : BitVec 32 := 256#32
  let c0_i32_7 : BitVec 32 := 0#32
  let v15 : BitVec 1 := Scalar.cmpi .sgt c256_i32 c0_i32_7
  let v16 : BitVec 32 := Scalar.extui v15
  let c0_i32_8 : BitVec 32 := 0#32
  let v17 : BitVec 1 := Scalar.cmpi .slt c256_i32 c0_i32_8
  let v18 : BitVec 32 := Scalar.extui v17
  let v19 : BitVec 32 := Scalar.subi v16 v18
  let v20 : BitVec 1 := Scalar.cmpi .ne v14 v19
  let v21 : BitVec 32 := Scalar.remsi v8 c256_i32
  let c0_i32_9 : BitVec 32 := 0#32
  let v22 : BitVec 1 := Scalar.cmpi .ne v21 c0_i32_9
  let v23 : BitVec 1 := Scalar.andi v20 v22
  let v9 : BitVec 32 := Scalar.divsi v8 c256_i32
  let c1_i32 : BitVec 32 := 1#32
  let v24 : BitVec 32 := Scalar.subi v9 c1_i32
  let v25 : BitVec 32 := Scalar.select v23 v24 v9
  let v34 : BitVec 32 := Scalar.addi v25 c0_i32_15
  let c256_i32_16 : BitVec 32 := 256#32
  let v35 : BitVec 32 := Scalar.muli v34 c256_i32_16
  let v36 : BitVec 32 := v35
  let v219 : Index := Scalar.indexCast v36
  let c640_115 : Index := 640#32
  ![v219.toNat, 640]
def k0_off23 (i : grid0.Coords) (c0_i32_15 : BitVec 32) : Fin 2 → Nat :=
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c256_i32 : BitVec 32 := 256#32
  let c0_i32_7 : BitVec 32 := 0#32
  let v15 : BitVec 1 := Scalar.cmpi .sgt c256_i32 c0_i32_7
  let v16 : BitVec 32 := Scalar.extui v15
  let c0_i32_8 : BitVec 32 := 0#32
  let v17 : BitVec 1 := Scalar.cmpi .slt c256_i32 c0_i32_8
  let v18 : BitVec 32 := Scalar.extui v17
  let v19 : BitVec 32 := Scalar.subi v16 v18
  let v20 : BitVec 1 := Scalar.cmpi .ne v14 v19
  let v21 : BitVec 32 := Scalar.remsi v8 c256_i32
  let c0_i32_9 : BitVec 32 := 0#32
  let v22 : BitVec 1 := Scalar.cmpi .ne v21 c0_i32_9
  let v23 : BitVec 1 := Scalar.andi v20 v22
  let v9 : BitVec 32 := Scalar.divsi v8 c256_i32
  let c1_i32 : BitVec 32 := 1#32
  let v24 : BitVec 32 := Scalar.subi v9 c1_i32
  let v25 : BitVec 32 := Scalar.select v23 v24 v9
  let v34 : BitVec 32 := Scalar.addi v25 c0_i32_15
  let c256_i32_16 : BitVec 32 := 256#32
  let v35 : BitVec 32 := Scalar.muli v34 c256_i32_16
  let v36 : BitVec 32 := v35
  let v255 : Index := Scalar.indexCast v36
  let c768_134 : Index := 768#32
  ![v255.toNat, 768]
def k0_off24 (i : grid0.Coords) (c0_i32_15 : BitVec 32) : Fin 2 → Nat :=
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c256_i32 : BitVec 32 := 256#32
  let c0_i32_7 : BitVec 32 := 0#32
  let v15 : BitVec 1 := Scalar.cmpi .sgt c256_i32 c0_i32_7
  let v16 : BitVec 32 := Scalar.extui v15
  let c0_i32_8 : BitVec 32 := 0#32
  let v17 : BitVec 1 := Scalar.cmpi .slt c256_i32 c0_i32_8
  let v18 : BitVec 32 := Scalar.extui v17
  let v19 : BitVec 32 := Scalar.subi v16 v18
  let v20 : BitVec 1 := Scalar.cmpi .ne v14 v19
  let v21 : BitVec 32 := Scalar.remsi v8 c256_i32
  let c0_i32_9 : BitVec 32 := 0#32
  let v22 : BitVec 1 := Scalar.cmpi .ne v21 c0_i32_9
  let v23 : BitVec 1 := Scalar.andi v20 v22
  let v9 : BitVec 32 := Scalar.divsi v8 c256_i32
  let c1_i32 : BitVec 32 := 1#32
  let v24 : BitVec 32 := Scalar.subi v9 c1_i32
  let v25 : BitVec 32 := Scalar.select v23 v24 v9
  let v34 : BitVec 32 := Scalar.addi v25 c0_i32_15
  let c256_i32_16 : BitVec 32 := 256#32
  let v35 : BitVec 32 := Scalar.muli v34 c256_i32_16
  let v36 : BitVec 32 := v35
  let v291 : Index := Scalar.indexCast v36
  let c896_153 : Index := 896#32
  ![v291.toNat, 896]
def k0_mult4 (i : grid0.Coords) : BitVec 32 :=
  let arg1 : BitVec 32 := BitVec.ofNat 32 (i 1).val
  let c512_i32 : BitVec 32 := 512#32
  let v8 : BitVec 32 := Scalar.muli arg1 c512_i32
  let c0_i32 : BitVec 32 := 0#32
  let v10 : BitVec 1 := Scalar.cmpi .sgt v8 c0_i32
  let v11 : BitVec 32 := Scalar.extui v10
  let c0_i32_6 : BitVec 32 := 0#32
  let v12 : BitVec 1 := Scalar.cmpi .slt v8 c0_i32_6
  let v13 : BitVec 32 := Scalar.extui v12
  let v14 : BitVec 32 := Scalar.subi v11 v13
  let c256_i32 : BitVec 32 := 256#32
  let c0_i32_7 : BitVec 32 := 0#32
  let v15 : BitVec 1 := Scalar.cmpi .sgt c256_i32 c0_i32_7
  let v16 : BitVec 32 := Scalar.extui v15
  let c0_i32_8 : BitVec 32 := 0#32
  let v17 : BitVec 1 := Scalar.cmpi .slt c256_i32 c0_i32_8
  let v18 : BitVec 32 := Scalar.extui v17
  let v19 : BitVec 32 := Scalar.subi v16 v18
  let v20 : BitVec 1 := Scalar.cmpi .ne v14 v19
  let v21 : BitVec 32 := Scalar.remsi v8 c256_i32
  let c0_i32_9 : BitVec 32 := 0#32
  let v22 : BitVec 1 := Scalar.cmpi .ne v21 c0_i32_9
  let v23 : BitVec 1 := Scalar.andi v20 v22
  let v9 : BitVec 32 := Scalar.divsi v8 c256_i32
  let c1_i32 : BitVec 32 := 1#32
  let v24 : BitVec 32 := Scalar.subi v9 c1_i32
  let v25 : BitVec 32 := Scalar.select v23 v24 v9
  let c1_i32_331 : BitVec 32 := 1#32
  let v597 : BitVec 32 := Scalar.addi v25 c1_i32_331
  let c256_i32_332 : BitVec 32 := 256#32
  let v598 : BitVec 32 := Scalar.muli v597 c256_i32_332
  v598
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FoxIdeal.lean ====
variable {F : FTy → Type} [FloatOps F] [Named F]
def κ : String → Option EReal := fun
  | "log2e" => some (((Real.log 2)⁻¹ : ℝ) : EReal)
  | "mask" => some ⊥
  | _ => none
-- ==== FoxRefIdeal.lean ====
abbrev S32768x512 : Shape := ⟨2, ![32768, 512]⟩
abbrev S32768x8 : Shape := ⟨2, ![32768, 8]⟩
abbrev S512 : Shape := ⟨1, ![512]⟩
abbrev S8x4096x8x64 : Shape := ⟨4, ![8, 4096, 8, 64]⟩
abbrev S8x4096x8 : Shape := ⟨3, ![8, 4096, 8]⟩
abbrev S8x8x4096x4096 : Shape := ⟨4, ![8, 8, 4096, 4096]⟩
abbrev S_ : Shape := ⟨0, ![]⟩
abbrev S8x8x4096 : Shape := ⟨3, ![8, 8, 4096]⟩
abbrev S8x8x4096x1 : Shape := ⟨4, ![8, 8, 4096, 1]⟩
abbrev S8x8x1x4096 : Shape := ⟨4, ![8, 8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x8x64x4096 : Shape := ⟨4, ![8, 8, 64, 4096]⟩
abbrev S8x4096x8x1 : Shape := ⟨4, ![8, 4096, 8, 1]⟩
abbrev S1x512 : Shape := ⟨2, ![1, 512]⟩

abbrev nBuf : Space → Nat
  | .hbm => 65
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S32768x8, .f32⟩
  | .hbm, ⟨4, _⟩ => ⟨S512, .f32⟩
  | .hbm, ⟨5, _⟩ => ⟨S8x4096x8x64, .f32⟩
  | .hbm, ⟨6, _⟩ => ⟨S8x4096x8x64, .f32⟩
  | .hbm, ⟨7, _⟩ => ⟨S8x4096x8x64, .f32⟩
  | .hbm, ⟨8, _⟩ => ⟨S8x4096x8, .f32⟩
  | .hbm, ⟨9, _⟩ => ⟨S8x8x4096x4096, .f32⟩
  | .hbm, ⟨10, _⟩ => ⟨S_, .f32⟩
  | .hbm, ⟨11, _⟩ => ⟨S8x8x4096x4096, .f32⟩
  | .hbm, ⟨12, _⟩ => ⟨S8x8x4096x4096, .f32⟩
  | .hbm, ⟨13, _⟩ => ⟨S8x8x4096, .f32⟩
  | .hbm, ⟨14, _⟩ => ⟨S8x8x4096x1, .f32⟩
  | .hbm, ⟨15, _⟩ => ⟨S8x8x4096x4096, .f32⟩
  | .hbm, ⟨16, _⟩ => ⟨S8x8x4096x4096, .f32⟩
  | .hbm, ⟨17, _⟩ => ⟨S8x8x1x4096, .f32⟩
  | .hbm, ⟨18, _⟩ => ⟨S8x8x4096x4096, .f32⟩
  | .hbm, ⟨19, _⟩ => ⟨S8x8x4096x4096, .f32⟩
  | .hbm, ⟨20, _⟩ => ⟨S4096, .i32⟩
  | .hbm, ⟨21, _⟩ => ⟨S1x4096, .i32⟩
  | .hbm, ⟨22, _⟩ => ⟨S4096x1, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S_, .f32⟩
  | .hbm, ⟨27, _⟩ => ⟨S_, .f32⟩
  | .hbm, ⟨28, _⟩ => ⟨S8x8x4096x4096, .i1⟩
  | .hbm, ⟨29, _⟩ => ⟨S8x8x4096x4096, .f32⟩
  | .hbm, ⟨30, _⟩ => ⟨S8x8x4096x4096, .f32⟩
  | .hbm, ⟨31, _⟩ => ⟨S_, .f32⟩
  | .hbm, ⟨32, _⟩ => ⟨S8x8x4096, .f32⟩
  | .hbm, ⟨33, _⟩ => ⟨S_, .f32⟩
  | .hbm, ⟨34, _⟩ => ⟨S8x8x4096, .f32⟩
  | .hbm, ⟨35, _⟩ => ⟨S8x8x4096, .f32⟩
  | .hbm, ⟨36, _⟩ => ⟨S8x8x4096x1, .f32⟩
  | .hbm, ⟨37, _⟩ => ⟨S8x8x4096x4096, .f32⟩
  | .hbm, ⟨38, _⟩ => ⟨S8x8x4096x4096, .f32⟩
  | .hbm, ⟨39, _⟩ => ⟨S8x8x4096x4096, .f32⟩
  | .hbm, ⟨40, _⟩ => ⟨S_, .f32⟩
  | .hbm, ⟨41, _⟩ => ⟨S8x8x4096, .f32⟩
  | .hbm, ⟨42, _⟩ => ⟨S8x8x4096x1, .f32⟩
  | .hbm, ⟨43, _⟩ => ⟨S8x8x4096x4096, .f32⟩
  | .hbm, ⟨44, _⟩ => ⟨S8x8x4096x4096, .f32⟩
  | .hbm, ⟨45, _⟩ => ⟨S8x8x64x4096, .f32⟩
  | .hbm, ⟨46, _⟩ => ⟨S8x4096x8x64, .f32⟩
  | .hbm, ⟨47, _⟩ => ⟨S8x4096x8x64, .f32⟩
  | .hbm, ⟨48, _⟩ => ⟨S_, .f32⟩
  | .hbm, ⟨49, _⟩ => ⟨S8x4096x8, .f32⟩
  | .hbm, ⟨50, _⟩ => ⟨S8x4096x8x1, .f32⟩
  | .hbm, ⟨51, _⟩ => ⟨S_, .f32⟩
  | .hbm, ⟨52, _⟩ => ⟨S8x4096x8x1, .f32⟩
  | .hbm, ⟨53, _⟩ => ⟨S8x4096x8x1, .f32⟩
  | .hbm, ⟨54, _⟩ => ⟨S_, .f32⟩
  | .hbm, ⟨55, _⟩ => ⟨S8x4096x8x1, .f32⟩
  | .hbm, ⟨56, _⟩ => ⟨S8x4096x8x1, .f32⟩
  | .hbm, ⟨57, _⟩ => ⟨S8x4096x8x1, .f32⟩
  | .hbm, ⟨58, _⟩ => ⟨S8x4096x8x64, .f32⟩
  | .hbm, ⟨59, _⟩ => ⟨S8x4096x8x64, .f32⟩
  | .hbm, ⟨60, _⟩ => ⟨S32768x512, .f32⟩
  | .hbm, ⟨61, _⟩ => ⟨S1x512, .f32⟩
  | .hbm, ⟨62, _⟩ => ⟨S32768x512, .f32⟩
  | .hbm, ⟨63, _⟩ => ⟨S32768x512, .f32⟩
  | .hbm, ⟨64, _⟩ => ⟨S32768x512, .bf16⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]
-- ==== Moe.lean ====
abbrev S32768x1024 : Shape := ⟨2, ![32768, 1024]⟩
abbrev S32768x128 : Shape := ⟨2, ![32768, 128]⟩
abbrev S4x4x1024x256 : Shape := ⟨4, ![4, 4, 1024, 256]⟩
abbrev S4x4x256x1024 : Shape := ⟨4, ![4, 4, 256, 1024]⟩
abbrev S1024 : Shape := ⟨1, ![1024]⟩
abbrev S16x1024x256 : Shape := ⟨3, ![16, 1024, 256]⟩
abbrev S16x256x1024 : Shape := ⟨3, ![16, 256, 1024]⟩
abbrev S1x1024 : Shape := ⟨2, ![1, 1024]⟩
abbrev S1024x1024 : Shape := ⟨2, ![1024, 1024]⟩
abbrev S1024x128 : Shape := ⟨2, ![1024, 128]⟩
abbrev S4x1024x256 : Shape := ⟨3, ![4, 1024, 256]⟩
abbrev S4x256x1024 : Shape := ⟨3, ![4, 256, 1024]⟩
abbrev S1x1024x256 : Shape := ⟨3, ![1, 1024, 256]⟩
abbrev S1024x256 : Shape := ⟨2, ![1024, 256]⟩
abbrev S1024x1 : Shape := ⟨2, ![1024, 1]⟩
abbrev S1x256x1024 : Shape := ⟨3, ![1, 256, 1024]⟩
abbrev S256x1024 : Shape := ⟨2, ![256, 1024]⟩

abbrev nBuf : Space → Nat
  | .hbm => 15
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x128, .f32⟩
  | .hbm, ⟨3, _⟩ => ⟨S4x4x1024x256, .f32⟩
  | .hbm, ⟨4, _⟩ => ⟨S4x4x1024x256, .f32⟩
  | .hbm, ⟨5, _⟩ => ⟨S4x4x256x1024, .f32⟩
  | .hbm, ⟨6, _⟩ => ⟨S1024, .f32⟩
  | .hbm, ⟨7, _⟩ => ⟨S16x1024x256, .f32⟩
  | .hbm, ⟨8, _⟩ => ⟨S16x1024x256, .bf16⟩
  | .hbm, ⟨9, _⟩ => ⟨S16x1024x256, .f32⟩
  | .hbm, ⟨10, _⟩ => ⟨S16x1024x256, .bf16⟩
  | .hbm, ⟨11, _⟩ => ⟨S16x256x1024, .f32⟩
  | .hbm, ⟨12, _⟩ => ⟨S16x256x1024, .bf16⟩
  | .hbm, ⟨13, _⟩ => ⟨S1x1024, .f32⟩
  | .hbm, ⟨14, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x128, .f32⟩
  | .local _ .vmem, ⟨5, _⟩ => ⟨S1024x128, .f32⟩
  | .local _ .vmem, ⟨6, _⟩ => ⟨S4x1024x256, .bf16⟩
  | .local _ .vmem, ⟨7, _⟩ => ⟨S4x1024x256, .bf16⟩
  | .local _ .vmem, ⟨8, _⟩ => ⟨S4x1024x256, .bf16⟩
  | .local _ .vmem, ⟨9, _⟩ => ⟨S4x1024x256, .bf16⟩
  | .local _ .vmem, ⟨10, _⟩ => ⟨S4x256x1024, .bf16⟩
  | .local _ .vmem, ⟨11, _⟩ => ⟨S4x256x1024, .bf16⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32_76 : BitVec 32 := 3#32
  let v130 : BitVec 1 := Scalar.cmpi .eq arg1 c3_i32_76
  let v131 : BitVec 32 := Scalar.extui v130
  let c0_i32_77 : BitVec 32 := 0#32
  let v132 : BitVec 1 := Scalar.cmpi .ne v131 c0_i32_77
  v132

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MoeRefIdeal.lean ====
abbrev S32768x1024 : Shape := ⟨2, ![32768, 1024]⟩
abbrev S32768x128 : Shape := ⟨2, ![32768, 128]⟩
abbrev S4x4x1024x256 : Shape := ⟨4, ![4, 4, 1024, 256]⟩
abbrev S4x4x256x1024 : Shape := ⟨4, ![4, 4, 256, 1024]⟩
abbrev S1024 : Shape := ⟨1, ![1024]⟩
abbrev S32768x16 : Shape := ⟨2, ![32768, 16]⟩
abbrev S32768x4x4 : Shape := ⟨3, ![32768, 4, 4]⟩
abbrev S_ : Shape := ⟨0, ![]⟩
abbrev S1x4x1024x256 : Shape := ⟨4, ![1, 4, 1024, 256]⟩
abbrev S4x1024x256 : Shape := ⟨3, ![4, 1024, 256]⟩
abbrev S32768x4x256 : Shape := ⟨3, ![32768, 4, 256]⟩
abbrev S32768x1x4 : Shape := ⟨3, ![32768, 1, 4]⟩
abbrev S32768x4 : Shape := ⟨2, ![32768, 4]⟩
abbrev S32768x4x1 : Shape := ⟨3, ![32768, 4, 1]⟩
abbrev S1x4x256x1024 : Shape := ⟨4, ![1, 4, 256, 1024]⟩
abbrev S4x256x1024 : Shape := ⟨3, ![4, 256, 1024]⟩
abbrev S32768 : Shape := ⟨1, ![32768]⟩
abbrev S32768x1 : Shape := ⟨2, ![32768, 1]⟩
abbrev S1x1024 : Shape := ⟨2, ![1, 1024]⟩

abbrev nBuf : Space → Nat
  | .hbm => 129
  | .vmem => 0
  | .smem => 0
  | _ => 0

abbrev hbmTy0_0 (i : Nat) : BufTy := match i % 128 with
  | 0 => ⟨S32768x1024, .f32⟩
  | 1 => ⟨S32768x1024, .bf16⟩
  | 2 => ⟨S32768x128, .f32⟩
  | 3 => ⟨S4x4x1024x256, .f32⟩
  | 4 => ⟨S4x4x1024x256, .f32⟩
  | 5 => ⟨S4x4x256x1024, .f32⟩
  | 6 => ⟨S1024, .f32⟩
  | 7 => ⟨S32768x1024, .f32⟩
  | 8 => ⟨S32768x16, .f32⟩
  | 9 => ⟨S32768x4x4, .f32⟩
  | 10 => ⟨S_, .f32⟩
  | 11 => ⟨S32768x1024, .f32⟩
  | 12 => ⟨S1x4x1024x256, .f32⟩
  | 13 => ⟨S4x1024x256, .f32⟩
  | 14 => ⟨S32768x4x256, .f32⟩
  | 15 => ⟨S1x4x1024x256, .f32⟩
  | 16 => ⟨S4x1024x256, .f32⟩
  | 17 => ⟨S32768x4x256, .f32⟩
  | 18 => ⟨S32768x4x256, .f32⟩
  | 19 => ⟨S32768x4x256, .f32⟩
  | 20 => ⟨S_, .f32⟩
  | 21 => ⟨S32768x4x256, .f32⟩
  | 22 => ⟨S32768x4x256, .f32⟩
  | 23 => ⟨S_, .f32⟩
  | 24 => ⟨S32768x4x256, .f32⟩
  | 25 => ⟨S32768x4x256, .f32⟩
  | 26 => ⟨S32768x4x256, .f32⟩
  | 27 => ⟨S32768x4x256, .f32⟩
  | 28 => ⟨S32768x1x4, .f32⟩
  | 29 => ⟨S32768x4, .f32⟩
  | 30 => ⟨S32768x4x1, .f32⟩
  | 31 => ⟨S32768x4x256, .f32⟩
  | 32 => ⟨S32768x4x256, .f32⟩
  | 33 => ⟨S1x4x256x1024, .f32⟩
  | 34 => ⟨S4x256x1024, .f32⟩
  | 35 => ⟨S32768x1024, .f32⟩
  | 36 => ⟨S32768x1024, .f32⟩
  | 37 => ⟨S1x4x1024x256, .f32⟩
  | 38 => ⟨S4x1024x256, .f32⟩
  | 39 => ⟨S32768x4x256, .f32⟩
  | 40 => ⟨S1x4x1024x256, .f32⟩
  | 41 => ⟨S4x1024x256, .f32⟩
  | 42 => ⟨S32768x4x256, .f32⟩
  | 43 => ⟨S32768x4x256, .f32⟩
  | 44 => ⟨S32768x4x256, .f32⟩
  | 45 => ⟨S_, .f32⟩
  | 46 => ⟨S32768x4x256, .f32⟩
  | 47 => ⟨S32768x4x256, .f32⟩
  | 48 => ⟨S_, .f32⟩
  | 49 => ⟨S32768x4x256, .f32⟩
  | 50 => ⟨S32768x4x256, .f32⟩
  | 51 => ⟨S32768x4x256, .f32⟩
  | 52 => ⟨S32768x4x256, .f32⟩
  | 53 => ⟨S32768x1x4, .f32⟩
  | 54 => ⟨S32768x4, .f32⟩
  | 55 => ⟨S32768x4x1, .f32⟩
  | 56 => ⟨S32768x4x256, .f32⟩
  | 57 => ⟨S32768x4x256, .f32⟩
  | 58 => ⟨S1x4x256x1024, .f32⟩
  | 59 => ⟨S4x256x1024, .f32⟩
  | 60 => ⟨S32768x1024, .f32⟩
  | 61 => ⟨S32768x1024, .f32⟩
  | 62 => ⟨S1x4x1024x256, .f32⟩
  | 63 => ⟨S4x1024x256, .f32⟩
  | 64 => ⟨S32768x4x256, .f32⟩
  | 65 => ⟨S1x4x1024x256, .f32⟩
  | 66 => ⟨S4x1024x256, .f32⟩
  | 67 => ⟨S32768x4x256, .f32⟩
  | 68 => ⟨S32768x4x256, .f32⟩
  | 69 => ⟨S32768x4x256, .f32⟩
  | 70 => ⟨S_, .f32⟩
  | 71 => ⟨S32768x4x256, .f32⟩
  | 72 => ⟨S32768x4x256, .f32⟩
  | 73 => ⟨S_, .f32⟩
  | 74 => ⟨S32768x4x256, .f32⟩
  | 75 => ⟨S32768x4x256, .f32⟩
  | 76 => ⟨S32768x4x256, .f32⟩
  | 77 => ⟨S32768x4x256, .f32⟩
  | 78 => ⟨S32768x1x4, .f32⟩
  | 79 => ⟨S32768x4, .f32⟩
  | 80 => ⟨S32768x4x1, .f32⟩
  | 81 => ⟨S32768x4x256, .f32⟩
  | 82 => ⟨S32768x4x256, .f32⟩
  | 83 => ⟨S1x4x256x1024, .f32⟩
  | 84 => ⟨S4x256x1024, .f32⟩
  | 85 => ⟨S32768x1024, .f32⟩
  | 86 => ⟨S32768x1024, .f32⟩
  | 87 => ⟨S1x4x1024x256, .f32⟩
  | 88 => ⟨S4x1024x256, .f32⟩
  | 89 => ⟨S32768x4x256, .f32⟩
  | 90 => ⟨S1x4x1024x256, .f32⟩
  | 91 => ⟨S4x1024x256, .f32⟩
  | 92 => ⟨S32768x4x256, .f32⟩
  | 93 => ⟨S32768x4x256, .f32⟩
  | 94 => ⟨S32768x4x256, .f32⟩
  | 95 => ⟨S_, .f32⟩
  | 96 => ⟨S32768x4x256, .f32⟩
  | 97 => ⟨S32768x4x256, .f32⟩
  | 98 => ⟨S_, .f32⟩
  | 99 => ⟨S32768x4x256, .f32⟩
  | 100 => ⟨S32768x4x256, .f32⟩
  | 101 => ⟨S32768x4x256, .f32⟩
  | 102 => ⟨S32768x4x256, .f32⟩
  | 103 => ⟨S32768x1x4, .f32⟩
  | 104 => ⟨S32768x4, .f32⟩
  | 105 => ⟨S32768x4x1, .f32⟩
  | 106 => ⟨S32768x4x256, .f32⟩
  | 107 => ⟨S32768x4x256, .f32⟩
  | 108 => ⟨S1x4x256x1024, .f32⟩
  | 109 => ⟨S4x256x1024, .f32⟩
  | 110 => ⟨S32768x1024, .f32⟩
  | 111 => ⟨S32768x1024, .f32⟩
  | 112 => ⟨S32768x1024, .f32⟩
  | 113 => ⟨S32768x1024, .f32⟩
  | 114 => ⟨S_, .f32⟩
  | 115 => ⟨S32768, .f32⟩
  | 116 => ⟨S32768x1, .f32⟩
  | 117 => ⟨S_, .f32⟩
  | 118 => ⟨S32768x1, .f32⟩
  | 119 => ⟨S32768x1, .f32⟩
  | 120 => ⟨S_, .f32⟩
  | 121 => ⟨S32768x1, .f32⟩
  | 122 => ⟨S32768x1, .f32⟩
  | 123 => ⟨S32768x1, .f32⟩
  | 124 => ⟨S32768x1024, .f32⟩
  | 125 => ⟨S32768x1024, .f32⟩
  | 126 => ⟨S1x1024, .f32⟩
  | 127 => ⟨S32768x1024, .f32⟩
  | _ => ⟨S32768x1024, .f32⟩

abbrev hbmTy0_1 (i : Nat) : BufTy := match i % 128 with
  | 0 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_call2_v0 : Ref sig .tc := ⟨.hbm, 68, rfl⟩
abbrev main_call2_v1 : Ref sig .tc := ⟨.hbm, 69, rfl⟩
abbrev main_call2_cst : Ref sig .tc := ⟨.hbm, 70, rfl⟩
abbrev main_call2_v2 : Ref sig .tc := ⟨.hbm, 71, rfl⟩
abbrev main_call2_v3 : Ref sig .tc := ⟨.hbm, 72, rfl⟩
abbrev main_call2_cst_0 : Ref sig .tc := ⟨.hbm, 73, rfl⟩
abbrev main_call2_v4 : Ref sig .tc := ⟨.hbm, 74, rfl⟩
abbrev main_call2_v5 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_call3_v0 : Ref sig .tc := ⟨.hbm, 93, rfl⟩
abbrev main_call3_v1 : Ref sig .tc := ⟨.hbm, 94, rfl⟩
abbrev main_call3_cst : Ref sig .tc := ⟨.hbm, 95, rfl⟩
abbrev main_call3_v2 : Ref sig .tc := ⟨.hbm, 96, rfl⟩
abbrev main_call3_v3 : Ref sig .tc := ⟨.hbm, 97, rfl⟩
abbrev main_call3_cst_0 : Ref sig .tc := ⟨.hbm, 98, rfl⟩
abbrev main_call3_v4 : Ref sig .tc := ⟨.hbm, 99, rfl⟩
abbrev main_call3_v5 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_0 : Ref sig .tc := ⟨.hbm, 114, rfl⟩
abbrev main_v74 : Ref sig .tc := ⟨.hbm, 115, rfl⟩
abbrev main_v75 : Ref sig .tc := ⟨.hbm, 116, rfl⟩
abbrev main_cst_1 : Ref sig .tc := ⟨.hbm, 117, rfl⟩
abbrev main_v76 : Ref sig .tc := ⟨.hbm, 118, rfl⟩
abbrev main_v77 : Ref sig .tc := ⟨.hbm, 119, rfl⟩
abbrev main_cst_2 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩

abbrev nD : Nat := 1
abbrev τ : Topo := Topo.v7x

variable {F : FTy → Type} [FloatOps F]
-- ==== MoeFirst.lean ====
abbrev S32768x1024 : Shape := ⟨2, ![32768, 1024]⟩
abbrev S32768x128 : Shape := ⟨2, ![32768, 128]⟩
abbrev S4x4x1024x256 : Shape := ⟨4, ![4, 4, 1024, 256]⟩
abbrev S4x4x256x1024 : Shape := ⟨4, ![4, 4, 256, 1024]⟩
abbrev S1024 : Shape := ⟨1, ![1024]⟩
abbrev S16x1024x256 : Shape := ⟨3, ![16, 1024, 256]⟩
abbrev S16x256x1024 : Shape := ⟨3, ![16, 256, 1024]⟩
abbrev S1x1024 : Shape := ⟨2, ![1, 1024]⟩
abbrev S1024x1024 : Shape := ⟨2, ![1024, 1024]⟩
abbrev S1024x128 : Shape := ⟨2, ![1024, 128]⟩
abbrev S4x1024x256 : Shape := ⟨3, ![4, 1024, 256]⟩
abbrev S4x256x1024 : Shape := ⟨3, ![4, 256, 1024]⟩
abbrev S1x1024x256 : Shape := ⟨3, ![1, 1024, 256]⟩
abbrev S1024x256 : Shape := ⟨2, ![1024, 256]⟩
abbrev S1024x1 : Shape := ⟨2, ![1024, 1]⟩
abbrev S1x256x1024 : Shape := ⟨3, ![1, 256, 1024]⟩
abbrev S256x1024 : Shape := ⟨2, ![256, 1024]⟩

abbrev nBuf : Space → Nat
  | .hbm => 15
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x128, .f32⟩
  | .hbm, ⟨3, _⟩ => ⟨S4x4x1024x256, .f32⟩
  | .hbm, ⟨4, _⟩ => ⟨S4x4x1024x256, .f32⟩
  | .hbm, ⟨5, _⟩ => ⟨S4x4x256x1024, .f32⟩
  | .hbm, ⟨6, _⟩ => ⟨S1024, .f32⟩
  | .hbm, ⟨7, _⟩ => ⟨S16x1024x256, .f32⟩
  | .hbm, ⟨8, _⟩ => ⟨S16x1024x256, .bf16⟩
  | .hbm, ⟨9, _⟩ => ⟨S16x1024x256, .f32⟩
  | .hbm, ⟨10, _⟩ => ⟨S16x1024x256, .bf16⟩
  | .hbm, ⟨11, _⟩ => ⟨S16x256x1024, .f32⟩
  | .hbm, ⟨12, _⟩ => ⟨S16x256x1024, .bf16⟩
  | .hbm, ⟨13, _⟩ => ⟨S1x1024, .f32⟩
  | .hbm, ⟨14, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x128, .f32⟩
  | .local _ .vmem, ⟨5, _⟩ => ⟨S1024x128, .f32⟩
  | .local _ .vmem, ⟨6, _⟩ => ⟨S4x1024x256, .bf16⟩
  | .local _ .vmem, ⟨7, _⟩ => ⟨S4x1024x256, .bf16⟩
  | .local _ .vmem, ⟨8, _⟩ => ⟨S4x1024x256, .bf16⟩
  | .local _ .vmem, ⟨9, _⟩ => ⟨S4x1024x256, .bf16⟩
  | .local _ .vmem, ⟨10, _⟩ => ⟨S4x256x1024, .bf16⟩
  | .local _ .vmem, ⟨11, _⟩ => ⟨S4x256x1024, .bf16⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32_76 : BitVec 32 := 3#32
  let v130 : BitVec 1 := Scalar.cmpi .eq arg1 c3_i32_76
  let v131 : BitVec 32 := Scalar.extui v130
  let c0_i32_77 : BitVec 32 := 0#32
  let v132 : BitVec 1 := Scalar.cmpi .ne v131 c0_i32_77
  v132

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MoeFirstRefIdeal.lean ====
abbrev S32768x1024 : Shape := ⟨2, ![32768, 1024]⟩
abbrev S32768x128 : Shape := ⟨2, ![32768, 128]⟩
abbrev S4x4x1024x256 : Shape := ⟨4, ![4, 4, 1024, 256]⟩
abbrev S4x4x256x1024 : Shape := ⟨4, ![4, 4, 256, 1024]⟩
abbrev S1024 : Shape := ⟨1, ![1024]⟩
abbrev S32768x16 : Shape := ⟨2, ![32768, 16]⟩
abbrev S32768x4x4 : Shape := ⟨3, ![32768, 4, 4]⟩
abbrev S_ : Shape := ⟨0, ![]⟩
abbrev S1x4x1024x256 : Shape := ⟨4, ![1, 4, 1024, 256]⟩
abbrev S4x1024x256 : Shape := ⟨3, ![4, 1024, 256]⟩
abbrev S32768x4x256 : Shape := ⟨3, ![32768, 4, 256]⟩
abbrev S32768x1x4 : Shape := ⟨3, ![32768, 1, 4]⟩
abbrev S32768x4 : Shape := ⟨2, ![32768, 4]⟩
abbrev S32768x4x1 : Shape := ⟨3, ![32768, 4, 1]⟩
abbrev S1x4x256x1024 : Shape := ⟨4, ![1, 4, 256, 1024]⟩
abbrev S4x256x1024 : Shape := ⟨3, ![4, 256, 1024]⟩

abbrev nBuf : Space → Nat
  | .hbm => 113
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x128, .f32⟩
  | .hbm, ⟨3, _⟩ => ⟨S4x4x1024x256, .f32⟩
  | .hbm, ⟨4, _⟩ => ⟨S4x4x1024x256, .f32⟩
  | .hbm, ⟨5, _⟩ => ⟨S4x4x256x1024, .f32⟩
  | .hbm, ⟨6, _⟩ => ⟨S1024, .f32⟩
  | .hbm, ⟨7, _⟩ => ⟨S32768x1024, .f32⟩
  | .hbm, ⟨8, _⟩ => ⟨S32768x16, .f32⟩
  | .hbm, ⟨9, _⟩ => ⟨S32768x4x4, .f32⟩
  | .hbm, ⟨10, _⟩ => ⟨S_, .f32⟩
  | .hbm, ⟨11, _⟩ => ⟨S32768x1024, .f32⟩
  | .hbm, ⟨12, _⟩ => ⟨S1x4x1024x256, .f32⟩
  | .hbm, ⟨13, _⟩ => ⟨S4x1024x256, .f32⟩
  | .hbm, ⟨14, _⟩ => ⟨S32768x4x256, .f32⟩
  | .hbm, ⟨15, _⟩ => ⟨S1x4x1024x256, .f32⟩
  | .hbm, ⟨16, _⟩ => ⟨S4x1024x256, .f32⟩
  | .hbm, ⟨17, _⟩ => ⟨S32768x4x256, .f32⟩
  | .hbm, ⟨18, _⟩ => ⟨S32768x4x256, .f32⟩
  | .hbm, ⟨19, _⟩ => ⟨S32768x4x256, .f32⟩
  | .hbm, ⟨20, _⟩ => ⟨S_, .f32⟩
  | .hbm, ⟨21, _⟩ => ⟨S32768x4x256, .f32⟩
  | .hbm, ⟨22, _⟩ => ⟨S32768x4x256, .f32⟩
  | .hbm, ⟨23, _⟩ => ⟨S_, .f32⟩
  | .hbm, ⟨24, _⟩ => ⟨S32768x4x256, .f32⟩
  | .hbm, ⟨25, _⟩ => ⟨S32768x4x256, .f32⟩
  | .hbm, ⟨26, _⟩ => ⟨S32768x4x256, .f32⟩
  | .hbm, ⟨27, _⟩ => ⟨S32768x4x256, .f32⟩
  | .hbm, ⟨28, _⟩ => ⟨S32768x1x4, .f32⟩
  | .hbm, ⟨29, _⟩ => ⟨S32768x4, .f32⟩
  | .hbm, ⟨30, _⟩ => ⟨S32768x4x1, .f32⟩
  | .hbm, ⟨31, _⟩ => ⟨S32768x4x256, .f32⟩
  | .hbm, ⟨32, _⟩ => ⟨S32768x4x256, .f32⟩
  | .hbm, ⟨33, _⟩ => ⟨S1x4x256x1024, .f32⟩
  | .hbm, ⟨34, _⟩ => ⟨S4x256x1024, .f32⟩
  | .hbm, ⟨35, _⟩ => ⟨S32768x1024, .f32⟩
  | .hbm, ⟨36, _⟩ => ⟨S32768x1024, .f32⟩
  | .hbm, ⟨37, _⟩ => ⟨S1x4x1024x256, .f32⟩
  | .hbm, ⟨38, _⟩ => ⟨S4x1024x256, .f32⟩
  | .hbm, ⟨39, _⟩ => ⟨S32768x4x256, .f32⟩
  | .hbm, ⟨40, _⟩ => ⟨S1x4x1024x256, .f32⟩
  | .hbm, ⟨41, _⟩ => ⟨S4x1024x256, .f32⟩
  | .hbm, ⟨42, _⟩ => ⟨S32768x4x256, .f32⟩
  | .hbm, ⟨43, _⟩ => ⟨S32768x4x256, .f32⟩
  | .hbm, ⟨44, _⟩ => ⟨S32768x4x256, .f32⟩
  | .hbm, ⟨45, _⟩ => ⟨S_, .f32⟩
  | .hbm, ⟨46, _⟩ => ⟨S32768x4x256, .f32⟩
  | .hbm, ⟨47, _⟩ => ⟨S32768x4x256, .f32⟩
  | .hbm, ⟨48, _⟩ => ⟨S_, .f32⟩
  | .hbm, ⟨49, _⟩ => ⟨S32768x4x256, .f32⟩
  | .hbm, ⟨50, _⟩ => ⟨S32768x4x256, .f32⟩
  | .hbm, ⟨51, _⟩ => ⟨S32768x4x256, .f32⟩
  | .hbm, ⟨52, _⟩ => ⟨S32768x4x256, .f32⟩
  | .hbm, ⟨53, _⟩ => ⟨S32768x1x4, .f32⟩
  | .hbm, ⟨54, _⟩ => ⟨S32768x4, .f32⟩
  | .hbm, ⟨55, _⟩ => ⟨S32768x4x1, .f32⟩
  | .hbm, ⟨56, _⟩ => ⟨S32768x4x256, .f32⟩
  | .hbm, ⟨57, _⟩ => ⟨S32768x4x256, .f32⟩
  | .hbm, ⟨58, _⟩ => ⟨S1x4x256x1024, .f32⟩
  | .hbm, ⟨59, _⟩ => ⟨S4x256x1024, .f32⟩
  | .hbm, ⟨60, _⟩ => ⟨S32768x1024, .f32⟩
  | .hbm, ⟨61, _⟩ => ⟨S32768x1024, .f32⟩
  | .hbm, ⟨62, _⟩ => ⟨S1x4x1024x256, .f32⟩
  | .hbm, ⟨63, _⟩ => ⟨S4x1024x256, .f32⟩
  | .hbm, ⟨64, _⟩ => ⟨S32768x4x256, .f32⟩
  | .hbm, ⟨65, _⟩ => ⟨S1x4x1024x256, .f32⟩
  | .hbm, ⟨66, _⟩ => ⟨S4x1024x256, .f32⟩
  | .hbm, ⟨67, _⟩ => ⟨S32768x4x256, .f32⟩
  | .hbm, ⟨68, _⟩ => ⟨S32768x4x256, .f32⟩
  | .hbm, ⟨69, _⟩ => ⟨S32768x4x256, .f32⟩
  | .hbm, ⟨70, _⟩ => ⟨S_, .f32⟩
  | .hbm, ⟨71, _⟩ => ⟨S32768x4x256, .f32⟩
  | .hbm, ⟨72, _⟩ => ⟨S32768x4x256, .f32⟩
  | .hbm, ⟨73, _⟩ => ⟨S_, .f32⟩
  | .hbm, ⟨74, _⟩ => ⟨S32768x4x256, .f32⟩
  | .hbm, ⟨75, _⟩ => ⟨S32768x4x256, .f32⟩
  | .hbm, ⟨76, _⟩ => ⟨S32768x4x256, .f32⟩
  | .hbm, ⟨77, _⟩ => ⟨S32768x4x256, .f32⟩
  | .hbm, ⟨78, _⟩ => ⟨S32768x1x4, .f32⟩
  | .hbm, ⟨79, _⟩ => ⟨S32768x4, .f32⟩
  | .hbm, ⟨80, _⟩ => ⟨S32768x4x1, .f32⟩
  | .hbm, ⟨81, _⟩ => ⟨S32768x4x256, .f32⟩
  | .hbm, ⟨82, _⟩ => ⟨S32768x4x256, .f32⟩
  | .hbm, ⟨83, _⟩ => ⟨S1x4x256x1024, .f32⟩
  | .hbm, ⟨84, _⟩ => ⟨S4x256x1024, .f32⟩
  | .hbm, ⟨85, _⟩ => ⟨S32768x1024, .f32⟩
  | .hbm, ⟨86, _⟩ => ⟨S32768x1024, .f32⟩
  | .hbm, ⟨87, _⟩ => ⟨S1x4x1024x256, .f32⟩
  | .hbm, ⟨88, _⟩ => ⟨S4x1024x256, .f32⟩
  | .hbm, ⟨89, _⟩ => ⟨S32768x4x256, .f32⟩
  | .hbm, ⟨90, _⟩ => ⟨S1x4x1024x256, .f32⟩
  | .hbm, ⟨91, _⟩ => ⟨S4x1024x256, .f32⟩
  | .hbm, ⟨92, _⟩ => ⟨S32768x4x256, .f32⟩
  | .hbm, ⟨93, _⟩ => ⟨S32768x4x256, .f32⟩
  | .hbm, ⟨94, _⟩ => ⟨S32768x4x256, .f32⟩
  | .hbm, ⟨95, _⟩ => ⟨S_, .f32⟩
  | .hbm, ⟨96, _⟩ => ⟨S32768x4x256, .f32⟩
  | .hbm, ⟨97, _⟩ => ⟨S32768x4x256, .f32⟩
  | .hbm, ⟨98, _⟩ => ⟨S_, .f32⟩
  | .hbm, ⟨99, _⟩ => ⟨S32768x4x256, .f32⟩
  | .hbm, ⟨100, _⟩ => ⟨S32768x4x256, .f32⟩
  | .hbm, ⟨101, _⟩ => ⟨S32768x4x256, .f32⟩
  | .hbm, ⟨102, _⟩ => ⟨S32768x4x256, .f32⟩
  | .hbm, ⟨103, _⟩ => ⟨S32768x1x4, .f32⟩
  | .hbm, ⟨104, _⟩ => ⟨S32768x4, .f32⟩
  | .hbm, ⟨105, _⟩ => ⟨S32768x4x1, .f32⟩
  | .hbm, ⟨106, _⟩ => ⟨S32768x4x256, .f32⟩
  | .hbm, ⟨107, _⟩ => ⟨S32768x4x256, .f32⟩
  | .hbm, ⟨108, _⟩ => ⟨S1x4x256x1024, .f32⟩
  | .hbm, ⟨109, _⟩ => ⟨S4x256x1024, .f32⟩
  | .hbm, ⟨110, _⟩ => ⟨S32768x1024, .f32⟩
  | .hbm, ⟨111, _⟩ => ⟨S32768x1024, .f32⟩
  | .hbm, ⟨112, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_call2_v0 : Ref sig .tc := ⟨.hbm, 68, rfl⟩
abbrev main_call2_v1 : Ref sig .tc := ⟨.hbm, 69, rfl⟩
abbrev main_call2_cst : Ref sig .tc := ⟨.hbm, 70, rfl⟩
abbrev main_call2_v2 : Ref sig .tc := ⟨.hbm, 71, rfl⟩
abbrev main_call2_v3 : Ref sig .tc := ⟨.hbm, 72, rfl⟩
abbrev main_call2_cst_0 : Ref sig .tc := ⟨.hbm, 73, rfl⟩
abbrev main_call2_v4 : Ref sig .tc := ⟨.hbm, 74, rfl⟩
abbrev main_call2_v5 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_call3_v0 : Ref sig .tc := ⟨.hbm, 93, rfl⟩
abbrev main_call3_v1 : Ref sig .tc := ⟨.hbm, 94, rfl⟩
abbrev main_call3_cst : Ref sig .tc := ⟨.hbm, 95, rfl⟩
abbrev main_call3_v2 : Ref sig .tc := ⟨.hbm, 96, rfl⟩
abbrev main_call3_v3 : Ref sig .tc := ⟨.hbm, 97, rfl⟩
abbrev main_call3_cst_0 : Ref sig .tc := ⟨.hbm, 98, rfl⟩
abbrev main_call3_v4 : Ref sig .tc := ⟨.hbm, 99, rfl⟩
abbrev main_call3_v5 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩

abbrev nD : Nat := 1
abbrev τ : Topo := Topo.v7x

variable {F : FTy → Type} [FloatOps F]
-- ==== Inproj.lean ====
abbrev S8x4096x1024 : Shape := ⟨3, ![8, 4096, 1024]⟩
abbrev S1024 : Shape := ⟨1, ![1024]⟩
abbrev S1024x3080 : Shape := ⟨2, ![1024, 3080]⟩
abbrev S2x256 : Shape := ⟨2, ![2, 256]⟩
abbrev S8 : Shape := ⟨1, ![8]⟩
abbrev S256 : Shape := ⟨1, ![256]⟩
abbrev S4x128x128 : Shape := ⟨3, ![4, 128, 128]⟩
abbrev S4x128 : Shape := ⟨2, ![4, 128]⟩
abbrev S32768x1024 : Shape := ⟨2, ![32768, 1024]⟩
abbrev S1024x2560 : Shape := ⟨2, ![1024, 2560]⟩
abbrev S1024x512 : Shape := ⟨2, ![1024, 512]⟩
abbrev S1024x8 : Shape := ⟨2, ![1024, 8]⟩
abbrev S_ : Shape := ⟨0, ![]⟩
abbrev S1024x120 : Shape := ⟨2, ![1024, 120]⟩
abbrev S1024x3200 : Shape := ⟨2, ![1024, 3200]⟩
abbrev S1x8 : Shape := ⟨2, ![1, 8]⟩
abbrev S1x128 : Shape := ⟨2, ![1, 128]⟩
abbrev S128x128 : Shape := ⟨2, ![128, 128]⟩
abbrev S1x128x128 : Shape := ⟨3, ![1, 128, 128]⟩
abbrev S128x4 : Shape := ⟨2, ![128, 4]⟩
abbrev S128x4x1 : Shape := ⟨3, ![128, 4, 1]⟩
abbrev S128x4x64 : Shape := ⟨3, ![128, 4, 64]⟩
abbrev S128x256 : Shape := ⟨2, ![128, 256]⟩
abbrev S256x256 : Shape := ⟨2, ![256, 256]⟩
abbrev S512x512 : Shape := ⟨2, ![512, 512]⟩
abbrev S384x1024 : Shape := ⟨2, ![384, 1024]⟩
abbrev S1x1024 : Shape := ⟨2, ![1, 1024]⟩
abbrev S1x256 : Shape := ⟨2, ![1, 256]⟩
abbrev S32768x256 : Shape := ⟨2, ![32768, 256]⟩
abbrev S32768x512 : Shape := ⟨2, ![32768, 512]⟩
abbrev S1x8x512x4096 : Shape := ⟨4, ![1, 8, 512, 4096]⟩
abbrev S32768x8 : Shape := ⟨2, ![32768, 8]⟩
abbrev S512x1024 : Shape := ⟨2, ![512, 1024]⟩
abbrev S512x256 : Shape := ⟨2, ![512, 256]⟩
abbrev S1x1x512x512 : Shape := ⟨4, ![1, 1, 512, 512]⟩
abbrev S512x8 : Shape := ⟨2, ![512, 8]⟩
abbrev S8x128 : Shape := ⟨2, ![8, 128]⟩
abbrev S512 : Shape := ⟨1, ![512]⟩
abbrev S512x1 : Shape := ⟨2, ![512, 1]⟩
abbrev S512x3200 : Shape := ⟨2, ![512, 3200]⟩
abbrev S512x128 : Shape := ⟨2, ![512, 128]⟩
abbrev S512x384 : Shape := ⟨2, ![512, 384]⟩

abbrev nBuf : Space → Nat
  | .hbm => 234
  | .vmem => 44
  | .smem => 0
  | _ => 0

abbrev hbmTy0_0 (i : Nat) : BufTy := match i % 128 with
  | 0 => ⟨S8x4096x1024, .f32⟩
  | 1 => ⟨S1024, .f32⟩
  | 2 => ⟨S1024x3080, .f32⟩
  | 3 => ⟨S2x256, .f32⟩
  | 4 => ⟨S8, .f32⟩
  | 5 => ⟨S256, .f32⟩
  | 6 => ⟨S4x128x128, .f32⟩
  | 7 => ⟨S4x128, .f32⟩
  | 8 => ⟨S256, .f32⟩
  | 9 => ⟨S32768x1024, .f32⟩
  | 10 => ⟨S1024x2560, .f32⟩
  | 11 => ⟨S1024x512, .f32⟩
  | 12 => ⟨S1024x8, .f32⟩
  | 13 => ⟨S_, .f32⟩
  | 14 => ⟨S1024x120, .f32⟩
  | 15 => ⟨S1024x3200, .f32⟩
  | 16 => ⟨S1024x3200, .bf16⟩
  | 17 => ⟨S1x8, .f32⟩
  | 18 => ⟨S_, .i32⟩
  | 19 => ⟨S_, .f32⟩
  | 20 => ⟨S1x128, .f32⟩
  | 21 => ⟨S128x128, .i32⟩
  | 22 => ⟨S128x128, .i32⟩
  | 23 => ⟨S128x128, .i1⟩
  | 24 => ⟨S_, .f32⟩
  | 25 => ⟨S_, .f32⟩
  | 26 => ⟨S128x128, .f32⟩
  | 27 => ⟨S128x128, .f32⟩
  | 28 => ⟨S128x128, .f32⟩
  | 29 => ⟨S128x128, .f32⟩
  | 30 => ⟨S1x128x128, .f32⟩
  | 31 => ⟨S4x128x128, .f32⟩
  | 32 => ⟨S4x128x128, .f32⟩
  | 33 => ⟨S4x128x128, .bf16⟩
  | 34 => ⟨S128x4, .f32⟩
  | 35 => ⟨S128x4x1, .f32⟩
  | 36 => ⟨S128x4x64, .f32⟩
  | 37 => ⟨S128x256, .f32⟩
  | 38 => ⟨S256x256, .i32⟩
  | 39 => ⟨S_, .i32⟩
  | 40 => ⟨S_, .i32⟩
  | 41 => ⟨S256x256, .i32⟩
  | 42 => ⟨S256x256, .i32⟩
  | 43 => ⟨S256x256, .i32⟩
  | 44 => ⟨S_, .i32⟩
  | 45 => ⟨S256x256, .i32⟩
  | 46 => ⟨S256x256, .i1⟩
  | 47 => ⟨S256x256, .i32⟩
  | 48 => ⟨S256x256, .i32⟩
  | 49 => ⟨S_, .i32⟩
  | 50 => ⟨S256x256, .i32⟩
  | 51 => ⟨S256x256, .i1⟩
  | 52 => ⟨S256x256, .i1⟩
  | 53 => ⟨S_, .i32⟩
  | 54 => ⟨S256x256, .i32⟩
  | 55 => ⟨S256x256, .i32⟩
  | 56 => ⟨S256x256, .i32⟩
  | 57 => ⟨S256x256, .i32⟩
  | 58 => ⟨S_, .i32⟩
  | 59 => ⟨S_, .i32⟩
  | 60 => ⟨S256x256, .i32⟩
  | 61 => ⟨S256x256, .i32⟩
  | 62 => ⟨S256x256, .i32⟩
  | 63 => ⟨S_, .i32⟩
  | 64 => ⟨S256x256, .i32⟩
  | 65 => ⟨S256x256, .i1⟩
  | 66 => ⟨S256x256, .i32⟩
  | 67 => ⟨S256x256, .i32⟩
  | 68 => ⟨S_, .i32⟩
  | 69 => ⟨S256x256, .i32⟩
  | 70 => ⟨S256x256, .i1⟩
  | 71 => ⟨S256x256, .i1⟩
  | 72 => ⟨S_, .i32⟩
  | 73 => ⟨S256x256, .i32⟩
  | 74 => ⟨S256x256, .i32⟩
  | 75 => ⟨S256x256, .i32⟩
  | 76 => ⟨S256x256, .i1⟩
  | 77 => ⟨S_, .f32⟩
  | 78 => ⟨S_, .f32⟩
  | 79 => ⟨S256x256, .f32⟩
  | 80 => ⟨S256x256, .f32⟩
  | 81 => ⟨S256x256, .f32⟩
  | 82 => ⟨S256x256, .bf16⟩
  | 83 => ⟨S512x512, .i32⟩
  | 84 => ⟨S512x512, .i32⟩
  | 85 => ⟨S512x512, .i1⟩
  | 86 => ⟨S_, .f32⟩
  | 87 => ⟨S_, .f32⟩
  | 88 => ⟨S512x512, .f32⟩
  | 89 => ⟨S512x512, .f32⟩
  | 90 => ⟨S512x512, .f32⟩
  | 91 => ⟨S512x512, .bf16⟩
  | 92 => ⟨S384x1024, .i32⟩
  | 93 => ⟨S384x1024, .i32⟩
  | 94 => ⟨S_, .i32⟩
  | 95 => ⟨S_, .i32⟩
  | 96 => ⟨S_, .i32⟩
  | 97 => ⟨S_, .i1⟩
  | 98 => ⟨S_, .i32⟩
  | 99 => ⟨S_, .i32⟩
  | 100 => ⟨S384x1024, .i32⟩
  | 101 => ⟨S384x1024, .i32⟩
  | 102 => ⟨S_, .i32⟩
  | 103 => ⟨S384x1024, .i32⟩
  | 104 => ⟨S384x1024, .i1⟩
  | 105 => ⟨S_, .i32⟩
  | 106 => ⟨S384x1024, .i32⟩
  | 107 => ⟨S384x1024, .i1⟩
  | 108 => ⟨S_, .i32⟩
  | 109 => ⟨S_, .i1⟩
  | 110 => ⟨S384x1024, .i1⟩
  | 111 => ⟨S384x1024, .i1⟩
  | 112 => ⟨S384x1024, .i1⟩
  | 113 => ⟨S384x1024, .i32⟩
  | 114 => ⟨S384x1024, .i32⟩
  | 115 => ⟨S384x1024, .i32⟩
  | 116 => ⟨S_, .i32⟩
  | 117 => ⟨S384x1024, .i32⟩
  | 118 => ⟨S384x1024, .i1⟩
  | 119 => ⟨S_, .i32⟩
  | 120 => ⟨S_, .i32⟩
  | 121 => ⟨S_, .i32⟩
  | 122 => ⟨S_, .i1⟩
  | 123 => ⟨S_, .i32⟩
  | 124 => ⟨S_, .i32⟩
  | 125 => ⟨S384x1024, .i32⟩
  | 126 => ⟨S384x1024, .i32⟩
  | 127 => ⟨S_, .i32⟩
  | _ => ⟨S8x4096x1024, .f32⟩

abbrev hbmTy0_1 (i : Nat) : BufTy := match i % 128 with
  | 0 => ⟨S384x1024, .i32⟩
  | 1 => ⟨S384x1024, .i1⟩
  | 2 => ⟨S_, .i32⟩
  | 3 => ⟨S384x1024, .i32⟩
  | 4 => ⟨S384x1024, .i1⟩
  | 5 => ⟨S_, .i32⟩
  | 6 => ⟨S_, .i1⟩
  | 7 => ⟨S384x1024, .i1⟩
  | 8 => ⟨S384x1024, .i1⟩
  | 9 => ⟨S384x1024, .i1⟩
  | 10 => ⟨S384x1024, .i32⟩
  | 11 => ⟨S384x1024, .i32⟩
  | 12 => ⟨S384x1024, .i32⟩
  | 13 => ⟨S_, .i32⟩
  | 14 => ⟨S384x1024, .i32⟩
  | 15 => ⟨S384x1024, .i32⟩
  | 16 => ⟨S_, .i32⟩
  | 17 => ⟨S384x1024, .i32⟩
  | 18 => ⟨S384x1024, .i32⟩
  | 19 => ⟨S_, .i32⟩
  | 20 => ⟨S_, .i32⟩
  | 21 => ⟨S384x1024, .i32⟩
  | 22 => ⟨S384x1024, .i32⟩
  | 23 => ⟨S384x1024, .i32⟩
  | 24 => ⟨S_, .i32⟩
  | 25 => ⟨S384x1024, .i32⟩
  | 26 => ⟨S384x1024, .i1⟩
  | 27 => ⟨S384x1024, .i32⟩
  | 28 => ⟨S384x1024, .i32⟩
  | 29 => ⟨S_, .i32⟩
  | 30 => ⟨S384x1024, .i32⟩
  | 31 => ⟨S384x1024, .i1⟩
  | 32 => ⟨S384x1024, .i1⟩
  | 33 => ⟨S_, .i32⟩
  | 34 => ⟨S384x1024, .i32⟩
  | 35 => ⟨S384x1024, .i32⟩
  | 36 => ⟨S384x1024, .i32⟩
  | 37 => ⟨S384x1024, .i32⟩
  | 38 => ⟨S384x1024, .i1⟩
  | 39 => ⟨S384x1024, .i1⟩
  | 40 => ⟨S_, .f32⟩
  | 41 => ⟨S_, .f32⟩
  | 42 => ⟨S384x1024, .f32⟩
  | 43 => ⟨S384x1024, .f32⟩
  | 44 => ⟨S384x1024, .f32⟩
  | 45 => ⟨S384x1024, .bf16⟩
  | 46 => ⟨S1x1024, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S1x1024, .i32⟩
  | 54 => ⟨S1x1024, .i32⟩
  | 55 => ⟨S_, .i32⟩
  | 56 => ⟨S1x1024, .i32⟩
  | 57 => ⟨S1x1024, .i1⟩
  | 58 => ⟨S_, .i32⟩
  | 59 => ⟨S1x1024, .i32⟩
  | 60 => ⟨S1x1024, .i1⟩
  | 61 => ⟨S_, .i32⟩
  | 62 => ⟨S_, .i1⟩
  | 63 => ⟨S1x1024, .i1⟩
  | 64 => ⟨S1x1024, .i1⟩
  | 65 => ⟨S1x1024, .i1⟩
  | 66 => ⟨S1x1024, .i32⟩
  | 67 => ⟨S1x1024, .i32⟩
  | 68 => ⟨S1x1024, .i32⟩
  | 69 => ⟨S_, .i32⟩
  | 70 => ⟨S1x1024, .i32⟩
  | 71 => ⟨S1x1024, .i1⟩
  | 72 => ⟨S_, .i32⟩
  | 73 => ⟨S1x1024, .i32⟩
  | 74 => ⟨S1x1024, .i1⟩
  | 75 => ⟨S1x1024, .i1⟩
  | 76 => ⟨S_, .f32⟩
  | 77 => ⟨S_, .f32⟩
  | 78 => ⟨S1x1024, .f32⟩
  | 79 => ⟨S1x1024, .f32⟩
  | 80 => ⟨S1x1024, .f32⟩
  | 81 => ⟨S_, .i32⟩
  | 82 => ⟨S1x1024, .i32⟩
  | 83 => ⟨S1x1024, .i1⟩
  | 84 => ⟨S_, .f32⟩
  | 85 => ⟨S_, .f32⟩
  | 86 => ⟨S1x1024, .f32⟩
  | 87 => ⟨S1x1024, .f32⟩
  | 88 => ⟨S1x1024, .f32⟩
  | 89 => ⟨S1x1024, .f32⟩
  | 90 => ⟨S1x256, .f32⟩
  | 91 => ⟨S1x256, .f32⟩
  | 92 => ⟨S32768x256, .f32⟩
  | 93 => ⟨S32768x256, .f32⟩
  | 94 => ⟨S32768x256, .f32⟩
  | 95 => ⟨S32768x256, .f32⟩
  | 96 => ⟨S32768x256, .f32⟩
  | 97 => ⟨S32768x512, .f32⟩
  | 98 => ⟨S1x8x512x4096, .f32⟩
  | 99 => ⟨S1x8x512x4096, .f32⟩
  | 100 => ⟨S32768x8, .f32⟩
  | 101 => ⟨S32768x256, .bf16⟩
  | 102 => ⟨S32768x256, .f32⟩
  | 103 => ⟨S32768x1024, .bf16⟩
  | 104 => ⟨S32768x1024, .bf16⟩
  | 105 => ⟨S32768x1024, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3200, .bf16⟩
  | .local _ .vmem, ⟨4, _⟩ => ⟨S2x256, .f32⟩
  | .local _ .vmem, ⟨5, _⟩ => ⟨S1x128, .f32⟩
  | .local _ .vmem, ⟨6, _⟩ => ⟨S1x256, .f32⟩
  | .local _ .vmem, ⟨7, _⟩ => ⟨S4x128x128, .bf16⟩
  | .local _ .vmem, ⟨8, _⟩ => ⟨S128x256, .f32⟩
  | .local _ .vmem, ⟨9, _⟩ => ⟨S1x256, .f32⟩
  | .local _ .vmem, ⟨10, _⟩ => ⟨S256x256, .bf16⟩
  | .local _ .vmem, ⟨11, _⟩ => ⟨S512x512, .bf16⟩
  | .local _ .vmem, ⟨12, _⟩ => ⟨S384x1024, .bf16⟩
  | .local _ .vmem, ⟨13, _⟩ => ⟨S1x1024, .f32⟩
  | .local _ .vmem, ⟨14, _⟩ => ⟨S1x1024, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x512, .f32⟩
  | .local _ .vmem, ⟨26, _⟩ => ⟨S512x512, .f32⟩
  | .local _ .vmem, ⟨27, _⟩ => ⟨S1x1x512x512, .f32⟩
  | .local _ .vmem, ⟨28, _⟩ => ⟨S1x1x512x512, .f32⟩
  | .local _ .vmem, ⟨29, _⟩ => ⟨S1x1x512x512, .f32⟩
  | .local _ .vmem, ⟨30, _⟩ => ⟨S1x1x512x512, .f32⟩
  | .local _ .vmem, ⟨31, _⟩ => ⟨S512x8, .f32⟩
  | .local _ .vmem, ⟨32, _⟩ => ⟨S512x8, .f32⟩
  | .local _ .vmem, ⟨33, _⟩ => ⟨S512x256, .bf16⟩
  | .local _ .vmem, ⟨34, _⟩ => ⟨S512x256, .bf16⟩
  | .local _ .vmem, ⟨35, _⟩ => ⟨S512x256, .f32⟩
  | .local _ .vmem, ⟨36, _⟩ => ⟨S512x256, .f32⟩
  | .local _ .vmem, ⟨37, _⟩ => ⟨S512x1024, .bf16⟩
  | .local _ .vmem, ⟨38, _⟩ => ⟨S512x1024, .bf16⟩
  | .local _ .vmem, ⟨39, _⟩ => ⟨S512x1024, .bf16⟩
  | .local _ .vmem, ⟨40, _⟩ => ⟨S512x1024, .bf16⟩
  | .local _ .vmem, ⟨41, _⟩ => ⟨S512x1024, .bf16⟩
  | .local _ .vmem, ⟨42, _⟩ => ⟨S512x1024, .bf16⟩
  | .local _ .vmem, ⟨43, _⟩ => ⟨S8x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_call0_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_cst_1 : Ref sig .tc := ⟨.hbm, 25, rfl⟩
abbrev main_call1_v0 : Ref sig .tc := ⟨.hbm, 26, rfl⟩
abbrev main_call1_v1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_2 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_call2_v5 : Ref sig .tc := ⟨.hbm, 45, rfl⟩
abbrev main_call2_v6 : Ref sig .tc := ⟨.hbm, 46, rfl⟩
abbrev main_call2_v7 : Ref sig .tc := ⟨.hbm, 47, rfl⟩
abbrev main_call2_v8 : Ref sig .tc := ⟨.hbm, 48, rfl⟩
abbrev main_call2_c : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_c_0 : Ref sig .tc := ⟨.hbm, 53, rfl⟩
abbrev main_call2_v12 : Ref sig .tc := ⟨.hbm, 54, rfl⟩
abbrev main_call2_v13 : Ref sig .tc := ⟨.hbm, 55, rfl⟩
abbrev main_v23 : Ref sig .tc := ⟨.hbm, 56, rfl⟩
abbrev main_v24 : Ref sig .tc := ⟨.hbm, 57, rfl⟩
abbrev main_c_3 : Ref sig .tc := ⟨.hbm, 58, rfl⟩
abbrev main_call3_v0 : Ref sig .tc := ⟨.hbm, 59, rfl⟩
abbrev main_call3_v1 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_call3_v5 : Ref sig .tc := ⟨.hbm, 64, rfl⟩
abbrev main_call3_v6 : Ref sig .tc := ⟨.hbm, 65, rfl⟩
abbrev main_call3_v7 : Ref sig .tc := ⟨.hbm, 66, rfl⟩
abbrev main_call3_v8 : Ref sig .tc := ⟨.hbm, 67, rfl⟩
abbrev main_call3_c : Ref sig .tc := ⟨.hbm, 68, rfl⟩
abbrev main_call3_v9 : Ref sig .tc := ⟨.hbm, 69, rfl⟩
abbrev main_call3_v10 : Ref sig .tc := ⟨.hbm, 70, rfl⟩
abbrev main_call3_v11 : Ref sig .tc := ⟨.hbm, 71, rfl⟩
abbrev main_call3_c_0 : Ref sig .tc := ⟨.hbm, 72, rfl⟩
abbrev main_call3_v12 : Ref sig .tc := ⟨.hbm, 73, rfl⟩
abbrev main_call3_v13 : Ref sig .tc := ⟨.hbm, 74, rfl⟩
abbrev main_v25 : Ref sig .tc := ⟨.hbm, 75, rfl⟩
abbrev main_v26 : Ref sig .tc := ⟨.hbm, 76, rfl⟩
abbrev main_cst_4 : Ref sig .tc := ⟨.hbm, 77, rfl⟩
abbrev main_cst_5 : Ref sig .tc := ⟨.hbm, 78, rfl⟩
abbrev main_call4_v0 : Ref sig .tc := ⟨.hbm, 79, rfl⟩
abbrev main_call4_v1 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_cst_6 : Ref sig .tc := ⟨.hbm, 86, rfl⟩
abbrev main_cst_7 : Ref sig .tc := ⟨.hbm, 87, rfl⟩
abbrev main_call5_v0 : Ref sig .tc := ⟨.hbm, 88, rfl⟩
abbrev main_call5_v1 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_c_8 : Ref sig .tc := ⟨.hbm, 94, rfl⟩
abbrev main_call6_v0 : Ref sig .tc := ⟨.hbm, 95, rfl⟩
abbrev main_call6_c : Ref sig .tc := ⟨.hbm, 96, rfl⟩
abbrev main_call6_v1 : Ref sig .tc := ⟨.hbm, 97, rfl⟩
abbrev main_call6_c_0 : Ref sig .tc := ⟨.hbm, 98, rfl⟩
abbrev main_call6_v2 : Ref sig .tc := ⟨.hbm, 99, rfl⟩
abbrev main_call6_v3 : Ref sig .tc := ⟨.hbm, 100, rfl⟩
abbrev main_call6_v4 : Ref sig .tc := ⟨.hbm, 101, rfl⟩
abbrev main_call6_c_1 : Ref sig .tc := ⟨.hbm, 102, rfl⟩
abbrev main_call6_v5 : Ref sig .tc := ⟨.hbm, 103, rfl⟩
abbrev main_call6_v6 : Ref sig .tc := ⟨.hbm, 104, rfl⟩
abbrev main_call6_c_2 : Ref sig .tc := ⟨.hbm, 105, rfl⟩
abbrev main_call6_v7 : Ref sig .tc := ⟨.hbm, 106, rfl⟩
abbrev main_call6_v8 : Ref sig .tc := ⟨.hbm, 107, rfl⟩
abbrev main_call6_c_3 : Ref sig .tc := ⟨.hbm, 108, rfl⟩
abbrev main_call6_v9 : Ref sig .tc := ⟨.hbm, 109, rfl⟩
abbrev main_call6_v10 : Ref sig .tc := ⟨.hbm, 110, rfl⟩
abbrev main_call6_v11 : Ref sig .tc := ⟨.hbm, 111, rfl⟩
abbrev main_call6_v12 : Ref sig .tc := ⟨.hbm, 112, rfl⟩
abbrev main_call6_v13 : Ref sig .tc := ⟨.hbm, 113, rfl⟩
abbrev main_call6_v14 : Ref sig .tc := ⟨.hbm, 114, rfl⟩
abbrev main_v36 : Ref sig .tc := ⟨.hbm, 115, rfl⟩
abbrev main_c_9 : Ref sig .tc := ⟨.hbm, 116, rfl⟩
abbrev main_v37 : Ref sig .tc := ⟨.hbm, 117, rfl⟩
abbrev main_v38 : Ref sig .tc := ⟨.hbm, 118, rfl⟩
abbrev main_c_10 : Ref sig .tc := ⟨.hbm, 119, rfl⟩
abbrev main_call7_v0 : Ref sig .tc := ⟨.hbm, 120, rfl⟩
abbrev main_call7_c : Ref sig .tc := ⟨.hbm, 121, rfl⟩
abbrev main_call7_v1 : Ref sig .tc := ⟨.hbm, 122, rfl⟩
abbrev main_call7_c_0 : Ref sig .tc := ⟨.hbm, 123, rfl⟩
abbrev main_call7_v2 : Ref sig .tc := ⟨.hbm, 124, rfl⟩
abbrev main_call7_v3 : Ref sig .tc := ⟨.hbm, 125, rfl⟩
abbrev main_call7_v4 : Ref sig .tc := ⟨.hbm, 126, rfl⟩
abbrev main_call7_c_1 : Ref sig .tc := ⟨.hbm, 127, rfl⟩
abbrev main_call7_v5 : Ref sig .tc := ⟨.hbm, 128, rfl⟩
abbrev main_call7_v6 : Ref sig .tc := ⟨.hbm, 129, rfl⟩
abbrev main_call7_c_2 : Ref sig .tc := ⟨.hbm, 130, rfl⟩
abbrev main_call7_v7 : Ref sig .tc := ⟨.hbm, 131, rfl⟩
abbrev main_call7_v8 : Ref sig .tc := ⟨.hbm, 132, rfl⟩
abbrev main_call7_c_3 : Ref sig .tc := ⟨.hbm, 133, rfl⟩
abbrev main_call7_v9 : Ref sig .tc := ⟨.hbm, 134, rfl⟩
abbrev main_call7_v10 : Ref sig .tc := ⟨.hbm, 135, rfl⟩
abbrev main_call7_v11 : Ref sig .tc := ⟨.hbm, 136, rfl⟩
abbrev main_call7_v12 : Ref sig .tc := ⟨.hbm, 137, rfl⟩
abbrev main_call7_v13 : Ref sig .tc := ⟨.hbm, 138, rfl⟩
abbrev main_call7_v14 : Ref sig .tc := ⟨.hbm, 139, rfl⟩
abbrev main_v39 : Ref sig .tc := ⟨.hbm, 140, rfl⟩
abbrev main_c_11 : Ref sig .tc := ⟨.hbm, 141, rfl⟩
abbrev main_v40 : Ref sig .tc := ⟨.hbm, 142, rfl⟩
abbrev main_v41 : Ref sig .tc := ⟨.hbm, 143, rfl⟩
abbrev main_c_12 : Ref sig .tc := ⟨.hbm, 144, rfl⟩
abbrev main_v42 : Ref sig .tc := ⟨.hbm, 145, rfl⟩
abbrev main_v43 : Ref sig .tc := ⟨.hbm, 146, rfl⟩
abbrev main_c_13 : Ref sig .tc := ⟨.hbm, 147, rfl⟩
abbrev main_call8_v0 : Ref sig .tc := ⟨.hbm, 148, rfl⟩
abbrev main_call8_v1 : Ref sig .tc := ⟨.hbm, 149, rfl⟩
abbrev main_call8_v2 : Ref sig .tc := ⟨.hbm, 150, rfl⟩
abbrev main_call8_v3 : Ref sig .tc := ⟨.hbm, 151, rfl⟩
abbrev main_call8_v4 : Ref sig .tc := ⟨.hbm, 152, rfl⟩
abbrev main_call8_v5 : Ref sig .tc := ⟨.hbm, 153, rfl⟩
abbrev main_call8_v6 : Ref sig .tc := ⟨.hbm, 154, rfl⟩
abbrev main_call8_v7 : Ref sig .tc := ⟨.hbm, 155, rfl⟩
abbrev main_call8_v8 : Ref sig .tc := ⟨.hbm, 156, rfl⟩
abbrev main_call8_c : Ref sig .tc := ⟨.hbm, 157, rfl⟩
abbrev main_call8_v9 : Ref sig .tc := ⟨.hbm, 158, rfl⟩
abbrev main_call8_v10 : Ref sig .tc := ⟨.hbm, 159, rfl⟩
abbrev main_call8_v11 : Ref sig .tc := ⟨.hbm, 160, rfl⟩
abbrev main_call8_c_0 : Ref sig .tc := ⟨.hbm, 161, rfl⟩
abbrev main_call8_v12 : Ref sig .tc := ⟨.hbm, 162, rfl⟩
abbrev main_call8_v13 : Ref sig .tc := ⟨.hbm, 163, rfl⟩
abbrev main_v44 : Ref sig .tc := ⟨.hbm, 164, rfl⟩
abbrev main_v45 : Ref sig .tc := ⟨.hbm, 165, rfl⟩
abbrev main_v46 : Ref sig .tc := ⟨.hbm, 166, rfl⟩
abbrev main_v47 : Ref sig .tc := ⟨.hbm, 167, rfl⟩
abbrev main_cst_14 : Ref sig .tc := ⟨.hbm, 168, rfl⟩
abbrev main_cst_15 : Ref sig .tc := ⟨.hbm, 169, rfl⟩
abbrev main_call9_v0 : Ref sig .tc := ⟨.hbm, 170, rfl⟩
abbrev main_call9_v1 : Ref sig .tc := ⟨.hbm, 171, rfl⟩
abbrev main_v48 : Ref sig .tc := ⟨.hbm, 172, rfl⟩
abbrev main_v49 : Ref sig .tc := ⟨.hbm, 173, rfl⟩
abbrev main_v50 : Ref sig .tc := ⟨.hbm, 174, rfl⟩
abbrev main_c_16 : Ref sig .tc := ⟨.hbm, 175, rfl⟩
abbrev main_call10_v0 : Ref sig .tc := ⟨.hbm, 176, rfl⟩
abbrev main_call10_c : Ref sig .tc := ⟨.hbm, 177, rfl⟩
abbrev main_call10_v1 : Ref sig .tc := ⟨.hbm, 178, rfl⟩
abbrev main_call10_c_0 : Ref sig .tc := ⟨.hbm, 179, rfl⟩
abbrev main_call10_v2 : Ref sig .tc := ⟨.hbm, 180, rfl⟩
abbrev main_call10_v3 : Ref sig .tc := ⟨.hbm, 181, rfl⟩
abbrev main_call10_v4 : Ref sig .tc := ⟨.hbm, 182, rfl⟩
abbrev main_call10_c_1 : Ref sig .tc := ⟨.hbm, 183, rfl⟩
abbrev main_call10_v5 : Ref sig .tc := ⟨.hbm, 184, rfl⟩
abbrev main_call10_v6 : Ref sig .tc := ⟨.hbm, 185, rfl⟩
abbrev main_call10_c_2 : Ref sig .tc := ⟨.hbm, 186, rfl⟩
abbrev main_call10_v7 : Ref sig .tc := ⟨.hbm, 187, rfl⟩
abbrev main_call10_v8 : Ref sig .tc := ⟨.hbm, 188, rfl⟩
abbrev main_call10_c_3 : Ref sig .tc := ⟨.hbm, 189, rfl⟩
abbrev main_call10_v9 : Ref sig .tc := ⟨.hbm, 190, rfl⟩
abbrev main_call10_v10 : Ref sig .tc := ⟨.hbm, 191, rfl⟩
abbrev main_call10_v11 : Ref sig .tc := ⟨.hbm, 192, rfl⟩
abbrev main_call10_v12 : Ref sig .tc := ⟨.hbm, 193, rfl⟩
abbrev main_call10_v13 : Ref sig .tc := ⟨.hbm, 194, rfl⟩
abbrev main_call10_v14 : Ref sig .tc := ⟨.hbm, 195, rfl⟩
abbrev main_v51 : Ref sig .tc := ⟨.hbm, 196, rfl⟩
abbrev main_c_17 : Ref sig .tc := ⟨.hbm, 197, rfl⟩
abbrev main_v52 : Ref sig .tc := ⟨.hbm, 198, rfl⟩
abbrev main_v53 : Ref sig .tc := ⟨.hbm, 199, rfl⟩
abbrev main_c_18 : Ref sig .tc := ⟨.hbm, 200, rfl⟩
abbrev main_v54 : Ref sig .tc := ⟨.hbm, 201, rfl⟩
abbrev main_v55 : Ref sig .tc := ⟨.hbm, 202, rfl⟩
abbrev main_v56 : Ref sig .tc := ⟨.hbm, 203, rfl⟩
abbrev main_cst_19 : Ref sig .tc := ⟨.hbm, 204, rfl⟩
abbrev main_cst_20 : Ref sig .tc := ⟨.hbm, 205, rfl⟩
abbrev main_call11_v0 : Ref sig .tc := ⟨.hbm, 206, rfl⟩
abbrev main_call11_v1 : Ref sig .tc := ⟨.hbm, 207, rfl⟩
abbrev main_v57 : Ref sig .tc := ⟨.hbm, 208, rfl⟩
abbrev main_c_21 : Ref sig .tc := ⟨.hbm, 209, rfl⟩
abbrev main_v58 : Ref sig .tc := ⟨.hbm, 210, rfl⟩
abbrev main_v59 : Ref sig .tc := ⟨.hbm, 211, rfl⟩
abbrev main_cst_22 : Ref sig .tc := ⟨.hbm, 212, rfl⟩
abbrev main_cst_23 : Ref sig .tc := ⟨.hbm, 213, rfl⟩
abbrev main_call12_v0 : Ref sig .tc := ⟨.hbm, 214, rfl⟩
abbrev main_call12_v1 : Ref sig .tc := ⟨.hbm, 215, rfl⟩
abbrev main_v60 : Ref sig .tc := ⟨.hbm, 216, rfl⟩
abbrev main_v61 : Ref sig .tc := ⟨.hbm, 217, rfl⟩
abbrev main_v62 : Ref sig .tc := ⟨.hbm, 218, rfl⟩
abbrev main_v63 : Ref sig .tc := ⟨.hbm, 219, rfl⟩
abbrev main_v64_0 : Ref sig .tc := ⟨.hbm, 220, rfl⟩
abbrev main_v64_1 : Ref sig .tc := ⟨.hbm, 221, rfl⟩
abbrev main_v64_2 : Ref sig .tc := ⟨.hbm, 222, rfl⟩
abbrev main_v64_3 : Ref sig .tc := ⟨.hbm, 223, rfl⟩
abbrev main_v64_4 : Ref sig .tc := ⟨.hbm, 224, rfl⟩
abbrev main_v64_5 : Ref sig .tc := ⟨.hbm, 225, rfl⟩
abbrev main_v64_6 : Ref sig .tc := ⟨.hbm, 226, rfl⟩
abbrev main_v64_7 : Ref sig .tc := ⟨.hbm, 227, rfl⟩
abbrev main_v64_8 : Ref sig .tc := ⟨.hbm, 228, rfl⟩
abbrev main_v64_9 : Ref sig .tc := ⟨.hbm, 229, rfl⟩
abbrev main_v64_10 : Ref sig .tc := ⟨.hbm, 230, rfl⟩
abbrev main_v64_11 : Ref sig .tc := ⟨.hbm, 231, rfl⟩
abbrev main_v64_12 : Ref sig .tc := ⟨.hbm, 232, rfl⟩
abbrev main_v64_13 : Ref sig .tc := ⟨.hbm, 233, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_stg22_0 : Ref sig .tc := ⟨.vmem, 31, rfl⟩
abbrev cc0_stg22_1 : Ref sig .tc := ⟨.vmem, 32, rfl⟩
abbrev cc0_stg23_0 : Ref sig .tc := ⟨.vmem, 33, rfl⟩
abbrev cc0_stg23_1 : Ref sig .tc := ⟨.vmem, 34, rfl⟩
abbrev cc0_stg24_0 : Ref sig .tc := ⟨.vmem, 35, rfl⟩
abbrev cc0_stg24_1 : Ref sig .tc := ⟨.vmem, 36, rfl⟩
abbrev cc0_stg25_0 : Ref sig .tc := ⟨.vmem, 37, rfl⟩
abbrev cc0_stg25_1 : Ref sig .tc := ⟨.vmem, 38, rfl⟩
abbrev cc0_stg26_0 : Ref sig .tc := ⟨.vmem, 39, rfl⟩
abbrev cc0_stg26_1 : Ref sig .tc := ⟨.vmem, 40, rfl⟩
abbrev cc0_stg27_0 : Ref sig .tc := ⟨.vmem, 41, rfl⟩
abbrev cc0_stg27_1 : Ref sig .tc := ⟨.vmem, 42, rfl⟩
abbrev cc0_scratch0 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30
abbrev cc0_sem22_0 : DmaSem sig := 31
abbrev cc0_sem22_1 : DmaSem sig := 32
abbrev cc0_sem23_0 : DmaSem sig := 33
abbrev cc0_sem23_1 : DmaSem sig := 34
abbrev cc0_sem24_0 : DmaSem sig := 35
abbrev cc0_sem24_1 : DmaSem sig := 36
abbrev cc0_sem25_0 : DmaSem sig := 37
abbrev cc0_sem25_1 : DmaSem sig := 38
abbrev cc0_sem26_0 : DmaSem sig := 39
abbrev cc0_sem26_1 : DmaSem sig := 40
abbrev cc0_sem27_0 : DmaSem sig := 41
abbrev cc0_sem27_1 : DmaSem sig := 42

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_21 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S384x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1x512x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x1x512x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x8 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x256 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S512x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S512x1024 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S512x1024 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S512x1024 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]
-- ==== InprojRefIdeal.lean ====
abbrev S8x4096x1024 : Shape := ⟨3, ![8, 4096, 1024]⟩
abbrev S1024 : Shape := ⟨1, ![1024]⟩
abbrev S1024x3080 : Shape := ⟨2, ![1024, 3080]⟩
abbrev S2x256 : Shape := ⟨2, ![2, 256]⟩
abbrev S8 : Shape := ⟨1, ![8]⟩
abbrev S256 : Shape := ⟨1, ![256]⟩
abbrev S4x128x128 : Shape := ⟨3, ![4, 128, 128]⟩
abbrev S4x128 : Shape := ⟨2, ![4, 128]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3080 : Shape := ⟨3, ![8, 4096, 3080]⟩
abbrev S8x4096x256 : Shape := ⟨3, ![8, 4096, 256]⟩
abbrev S8x4096x512 : Shape := ⟨3, ![8, 4096, 512]⟩
abbrev S8x4096x8 : Shape := ⟨3, ![8, 4096, 8]⟩
abbrev S32768x256 : Shape := ⟨2, ![32768, 256]⟩
abbrev S32768x512 : Shape := ⟨2, ![32768, 512]⟩
abbrev S8x512x4096 : Shape := ⟨3, ![8, 512, 4096]⟩
abbrev S1x8x512x4096 : Shape := ⟨4, ![1, 8, 512, 4096]⟩
abbrev S1x1x8 : Shape := ⟨3, ![1, 1, 8]⟩
abbrev S32768x8 : Shape := ⟨2, ![32768, 8]⟩

abbrev nBuf : Space → Nat
  | .hbm => 82
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3080, .f32⟩
  | .hbm, ⟨3, _⟩ => ⟨S2x256, .f32⟩
  | .hbm, ⟨4, _⟩ => ⟨S8, .f32⟩
  | .hbm, ⟨5, _⟩ => ⟨S256, .f32⟩
  | .hbm, ⟨6, _⟩ => ⟨S4x128x128, .f32⟩
  | .hbm, ⟨7, _⟩ => ⟨S4x128, .f32⟩
  | .hbm, ⟨8, _⟩ => ⟨S256, .f32⟩
  | .hbm, ⟨9, _⟩ => ⟨S8x4096x1024, .f32⟩
  | .hbm, ⟨10, _⟩ => ⟨S_, .f32⟩
  | .hbm, ⟨11, _⟩ => ⟨S8x4096, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x1, .f32⟩
  | .hbm, ⟨20, _⟩ => ⟨S8x4096x1024, .f32⟩
  | .hbm, ⟨21, _⟩ => ⟨S8x4096x1024, .f32⟩
  | .hbm, ⟨22, _⟩ => ⟨S1x1x1024, .f32⟩
  | .hbm, ⟨23, _⟩ => ⟨S8x4096x1024, .f32⟩
  | .hbm, ⟨24, _⟩ => ⟨S8x4096x1024, .f32⟩
  | .hbm, ⟨25, _⟩ => ⟨S8x4096x3080, .f32⟩
  | .hbm, ⟨26, _⟩ => ⟨S8x4096x256, .f32⟩
  | .hbm, ⟨27, _⟩ => ⟨S8x4096x256, .f32⟩
  | .hbm, ⟨28, _⟩ => ⟨S8x4096x256, .f32⟩
  | .hbm, ⟨29, _⟩ => ⟨S8x4096x512, .f32⟩
  | .hbm, ⟨30, _⟩ => ⟨S8x4096x512, .f32⟩
  | .hbm, ⟨31, _⟩ => ⟨S8x4096x512, .f32⟩
  | .hbm, ⟨32, _⟩ => ⟨S8x4096x8, .f32⟩
  | .hbm, ⟨33, _⟩ => ⟨S8x4096x256, .f32⟩
  | .hbm, ⟨34, _⟩ => ⟨S8x4096x256, .f32⟩
  | .hbm, ⟨35, _⟩ => ⟨S_, .f32⟩
  | .hbm, ⟨36, _⟩ => ⟨S8x4096x256, .f32⟩
  | .hbm, ⟨37, _⟩ => ⟨S8x4096x256, .f32⟩
  | .hbm, ⟨38, _⟩ => ⟨S_, .f32⟩
  | .hbm, ⟨39, _⟩ => ⟨S8x4096x256, .f32⟩
  | .hbm, ⟨40, _⟩ => ⟨S8x4096x256, .f32⟩
  | .hbm, ⟨41, _⟩ => ⟨S8x4096x256, .f32⟩
  | .hbm, ⟨42, _⟩ => ⟨S32768x256, .f32⟩
  | .hbm, ⟨43, _⟩ => ⟨S32768x256, .f32⟩
  | .hbm, ⟨44, _⟩ => ⟨S8x4096x256, .f32⟩
  | .hbm, ⟨45, _⟩ => ⟨S8x4096x256, .f32⟩
  | .hbm, ⟨46, _⟩ => ⟨S_, .f32⟩
  | .hbm, ⟨47, _⟩ => ⟨S8x4096x256, .f32⟩
  | .hbm, ⟨48, _⟩ => ⟨S8x4096x256, .f32⟩
  | .hbm, ⟨49, _⟩ => ⟨S_, .f32⟩
  | .hbm, ⟨50, _⟩ => ⟨S8x4096x256, .f32⟩
  | .hbm, ⟨51, _⟩ => ⟨S8x4096x256, .f32⟩
  | .hbm, ⟨52, _⟩ => ⟨S8x4096x256, .f32⟩
  | .hbm, ⟨53, _⟩ => ⟨S32768x256, .f32⟩
  | .hbm, ⟨54, _⟩ => ⟨S_, .f32⟩
  | .hbm, ⟨55, _⟩ => ⟨S8x4096x512, .f32⟩
  | .hbm, ⟨56, _⟩ => ⟨S8x4096x512, .f32⟩
  | .hbm, ⟨57, _⟩ => ⟨S32768x512, .f32⟩
  | .hbm, ⟨58, _⟩ => ⟨S8x512x4096, .f32⟩
  | .hbm, ⟨59, _⟩ => ⟨S1x8x512x4096, .f32⟩
  | .hbm, ⟨60, _⟩ => ⟨S8x512x4096, .f32⟩
  | .hbm, ⟨61, _⟩ => ⟨S1x8x512x4096, .f32⟩
  | .hbm, ⟨62, _⟩ => ⟨S1x1x8, .f32⟩
  | .hbm, ⟨63, _⟩ => ⟨S8x4096x8, .f32⟩
  | .hbm, ⟨64, _⟩ => ⟨S8x4096x8, .f32⟩
  | .hbm, ⟨65, _⟩ => ⟨S8x4096x8, .f32⟩
  | .hbm, ⟨66, _⟩ => ⟨S_, .f32⟩
  | .hbm, ⟨67, _⟩ => ⟨S8x4096x8, .f32⟩
  | .hbm, ⟨68, _⟩ => ⟨S8x4096x8, .f32⟩
  | .hbm, ⟨69, _⟩ => ⟨S8x4096x8, .f32⟩
  | .hbm, ⟨70, _⟩ => ⟨S8x4096x8, .f32⟩
  | .hbm, ⟨71, _⟩ => ⟨S8x4096x8, .i1⟩
  | .hbm, ⟨72, _⟩ => ⟨S8x4096x8, .f32⟩
  | .hbm, ⟨73, _⟩ => ⟨S8x4096x8, .f32⟩
  | .hbm, ⟨74, _⟩ => ⟨S8x4096x8, .f32⟩
  | .hbm, ⟨75, _⟩ => ⟨S8x4096x8, .f32⟩
  | .hbm, ⟨76, _⟩ => ⟨S8x4096x8, .f32⟩
  | .hbm, ⟨77, _⟩ => ⟨S8x4096x8, .f32⟩
  | .hbm, ⟨78, _⟩ => ⟨S8x4096x8, .f32⟩
  | .hbm, ⟨79, _⟩ => ⟨S8x4096x8, .f32⟩
  | .hbm, ⟨80, _⟩ => ⟨S8x4096x8, .f32⟩
  | .hbm, ⟨81, _⟩ => ⟨S32768x8, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v24 : Ref sig .tc := ⟨.hbm, 52, rfl⟩
abbrev main_v25 : Ref sig .tc := ⟨.hbm, 53, rfl⟩
abbrev main_cst_2 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_call2_v0 : Ref sig .tc := ⟨.hbm, 65, rfl⟩
abbrev main_call2_call0_cst : Ref sig .tc := ⟨.hbm, 66, rfl⟩
abbrev main_call2_call0_v0 : Ref sig .tc := ⟨.hbm, 67, rfl⟩
abbrev main_call2_call0_v1 : Ref sig .tc := ⟨.hbm, 68, rfl⟩
abbrev main_call2_call0_v2 : Ref sig .tc := ⟨.hbm, 69, rfl⟩
abbrev main_call2_call0_v3 : Ref sig .tc := ⟨.hbm, 70, rfl⟩
abbrev main_call2_call0_v4 : Ref sig .tc := ⟨.hbm, 71, rfl⟩
abbrev main_call2_call0_v5 : Ref sig .tc := ⟨.hbm, 72, rfl⟩
abbrev main_call2_call0_v6 : Ref sig .tc := ⟨.hbm, 73, rfl⟩
abbrev main_call2_call0_v7 : Ref sig .tc := ⟨.hbm, 74, rfl⟩
abbrev main_call2_call0_v8 : Ref sig .tc := ⟨.hbm, 75, rfl⟩
abbrev main_call2_call0_v9 : Ref sig .tc := ⟨.hbm, 76, rfl⟩
abbrev main_call2_call0_v10 : Ref sig .tc := ⟨.hbm, 77, rfl⟩
abbrev main_call2_call0_v11 : Ref sig .tc := ⟨.hbm, 78, rfl⟩
abbrev main_call2_v1 : Ref sig .tc := ⟨.hbm, 79, rfl⟩
abbrev main_v36 : Ref sig .tc := ⟨.hbm, 80, rfl⟩
abbrev main_v37 : Ref sig .tc := ⟨.hbm, 81, rfl⟩

abbrev nD : Nat := 1
abbrev τ : Topo := Topo.v7x

variable {F : FTy → Type} [FloatOps F]
-- ==== Outproj.lean ====
abbrev S32768x1024 : Shape := ⟨2, ![32768, 1024]⟩
abbrev S32768x256 : Shape := ⟨2, ![32768, 256]⟩
abbrev S32768x512 : Shape := ⟨2, ![32768, 512]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S4x1024x4 : Shape := ⟨3, ![4, 1024, 4]⟩
abbrev S4x4 : Shape := ⟨2, ![4, 4]⟩
abbrev S4x1024 : Shape := ⟨2, ![4, 1024]⟩
abbrev S4x4x1024 : Shape := ⟨3, ![4, 4, 1024]⟩
abbrev S16x1024 : Shape := ⟨2, ![16, 1024]⟩
abbrev S_ : Shape := ⟨0, ![]⟩
abbrev S12x1024 : Shape := ⟨2, ![12, 1024]⟩
abbrev S32x1024 : Shape := ⟨2, ![32, 1024]⟩
abbrev S16 : Shape := ⟨1, ![16]⟩
abbrev S12 : Shape := ⟨1, ![12]⟩
abbrev S32 : Shape := ⟨1, ![32]⟩
abbrev S32x1 : Shape := ⟨2, ![32, 1]⟩
abbrev S1x1024 : Shape := ⟨2, ![1, 1024]⟩
abbrev S32768x128 : Shape := ⟨2, ![32768, 128]⟩
abbrev S512x1024 : Shape := ⟨2, ![512, 1024]⟩
abbrev S512x256 : Shape := ⟨2, ![512, 256]⟩
abbrev S512x512 : Shape := ⟨2, ![512, 512]⟩
abbrev S512x128 : Shape := ⟨2, ![512, 128]⟩
abbrev S256x1024 : Shape := ⟨2, ![256, 1024]⟩
abbrev S512 : Shape := ⟨1, ![512]⟩
abbrev S512x1 : Shape := ⟨2, ![512, 1]⟩
abbrev S32x512 : Shape := ⟨2, ![32, 512]⟩
abbrev S1x512 : Shape := ⟨2, ![1, 512]⟩
abbrev S16x512 : Shape := ⟨2, ![16, 512]⟩
abbrev S112x512 : Shape := ⟨2, ![112, 512]⟩
abbrev S128x512 : Shape := ⟨2, ![128, 512]⟩

abbrev nBuf : Space → Nat
  | .hbm => 26
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S32768x256, .bf16⟩
  | .hbm, ⟨2, _⟩ => ⟨S32768x512, .bf16⟩
  | .hbm, ⟨3, _⟩ => ⟨S32768x256, .bf16⟩
  | .hbm, ⟨4, _⟩ => ⟨S1024x1024, .f32⟩
  | .hbm, ⟨5, _⟩ => ⟨S1024, .f32⟩
  | .hbm, ⟨6, _⟩ => ⟨S1024x4, .f32⟩
  | .hbm, ⟨7, _⟩ => ⟨S4, .f32⟩
  | .hbm, ⟨8, _⟩ => ⟨S4x1024x4, .f32⟩
  | .hbm, ⟨9, _⟩ => ⟨S4x4, .f32⟩
  | .hbm, ⟨10, _⟩ => ⟨S4x1024, .f32⟩
  | .hbm, ⟨11, _⟩ => ⟨S4x4x1024, .f32⟩
  | .hbm, ⟨12, _⟩ => ⟨S16x1024, .f32⟩
  | .hbm, ⟨13, _⟩ => ⟨S_, .f32⟩
  | .hbm, ⟨14, _⟩ => ⟨S12x1024, .f32⟩
  | .hbm, ⟨15, _⟩ => ⟨S32x1024, .f32⟩
  | .hbm, ⟨16, _⟩ => ⟨S16, .f32⟩
  | .hbm, ⟨17, _⟩ => ⟨S_, .f32⟩
  | .hbm, ⟨18, _⟩ => ⟨S12, .f32⟩
  | .hbm, ⟨19, _⟩ => ⟨S32, .f32⟩
  | .hbm, ⟨20, _⟩ => ⟨S32x1, .f32⟩
  | .hbm, ⟨21, _⟩ => ⟨S1024x1024, .bf16⟩
  | .hbm, ⟨22, _⟩ => ⟨S1x1024, .f32⟩
  | .hbm, ⟨23, _⟩ => ⟨S32768x1024, .f32⟩
  | .hbm, ⟨24, _⟩ => ⟨S32768x1024, .bf16⟩
  | .hbm, ⟨25, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x512, .bf16⟩
  | .local _ .vmem, ⟨5, _⟩ => ⟨S512x512, .bf16⟩
  | .local _ .vmem, ⟨6, _⟩ => ⟨S512x256, .bf16⟩
  | .local _ .vmem, ⟨7, _⟩ => ⟨S512x256, .bf16⟩
  | .local _ .vmem, ⟨8, _⟩ => ⟨S1024x1024, .bf16⟩
  | .local _ .vmem, ⟨9, _⟩ => ⟨S1x1024, .f32⟩
  | .local _ .vmem, ⟨10, _⟩ => ⟨S32x1024, .f32⟩
  | .local _ .vmem, ⟨11, _⟩ => ⟨S32x1, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x128, .f32⟩
  | .local _ .vmem, ⟨17, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutprojRefIdeal.lean ====
abbrev S32768x1024 : Shape := ⟨2, ![32768, 1024]⟩
abbrev S32768x256 : Shape := ⟨2, ![32768, 256]⟩
abbrev S32768x512 : Shape := ⟨2, ![32768, 512]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S4x1024x4 : Shape := ⟨3, ![4, 1024, 4]⟩
abbrev S4x4 : Shape := ⟨2, ![4, 4]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x256, .bf16⟩
  | .hbm, ⟨2, _⟩ => ⟨S32768x512, .bf16⟩
  | .hbm, ⟨3, _⟩ => ⟨S32768x256, .bf16⟩
  | .hbm, ⟨4, _⟩ => ⟨S1024x1024, .f32⟩
  | .hbm, ⟨5, _⟩ => ⟨S1024, .f32⟩
  | .hbm, ⟨6, _⟩ => ⟨S1024x4, .f32⟩
  | .hbm, ⟨7, _⟩ => ⟨S4, .f32⟩
  | .hbm, ⟨8, _⟩ => ⟨S4x1024x4, .f32⟩
  | .hbm, ⟨9, _⟩ => ⟨S4x4, .f32⟩
  | .hbm, ⟨10, _⟩ => ⟨S32768x1024, .bf16⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S32768x1, .f32⟩
  | .hbm, ⟨25, _⟩ => ⟨S32768x1024, .f32⟩
  | .hbm, ⟨26, _⟩ => ⟨S32768x1024, .f32⟩
  | .hbm, ⟨27, _⟩ => ⟨S1x1024, .f32⟩
  | .hbm, ⟨28, _⟩ => ⟨S32768x1024, .f32⟩
  | .hbm, ⟨29, _⟩ => ⟨S32768x1024, .f32⟩
  | .hbm, ⟨30, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]
-- ==== Proof.FoxMath.lean ====
module

public import Idealize.ShloMosaic.Lib.Pointwise
public import Idealize.ShloMosaic.Lib.Pipeline.ValueKit

@[expose] public section

noncomputable section

namespace Cert.FoxMath

open Idealize.ShloMosaic

/-! # The running softmax of one query row and one head, in real numbers -/

/-- The reciprocal of the natural logarithm of two. -/
def L2E : EReal := (((Real.log 2)⁻¹ : ℝ) : EReal)

theorem coe_sum {ι : Type} (t : Finset ι) (f : ι → ℝ) : ((∑ j ∈ t, f j : ℝ) : EReal) = ∑ j ∈ t, (f j : EReal) := by
  classical
  induction t using Finset.induction_on with
  | empty => simp
  | insert a t ha ih => rw [Finset.sum_insert ha, Finset.sum_insert ha, EReal.coe_add, ih]

/-- The running maximum after a block of 256 logits `sb`. -/
def newM (m : Fin 128 → EReal) (sb : Fin 256 → EReal) (l : Fin 128) : EReal :=
  max (m l) (Finset.fold max ⊥ sb Finset.univ)

/-- The running sum after a block of 256 logits `sb` with the values `vb`: what was there, scaled to the new maximum, plus the block's. -/
def newA (m a : Fin 128 → EReal) (sb : Fin 256 → EReal) (vb : Fin 256 → Fin 128 → EReal) (l : Fin 128) : EReal :=
  Ideal.exp2 (m l - newM m sb l) * a l
    + ((∑ x : Fin 128, Ideal.exp2 (sb ⟨x, by omega⟩ - newM m sb x) * vb ⟨x, by omega⟩ l)
      + ∑ x : Fin 128, Ideal.exp2 (sb ⟨128 + x, by omega⟩ - newM m sb x) * vb ⟨128 + x, by omega⟩ l)

/-- What the two running buffers of a row hold when the first `n` keys are done, the logits (to base two) being `s` and the values `v`:
    a maximum `μ`, any real, and the values' sum under the weights `2 ^ (s j - μ)`; before the first key, `⊥` and zero. -/
def Held (s : ℕ → ℝ) (v : ℕ → Fin 128 → ℝ) (n : ℕ) (m a : Fin 128 → EReal) : Prop :=
  (n = 0 ∧ ∀ l, m l = ⊥ ∧ a l = 0) ∨
    ∃ μ : ℝ, (∀ l, m l = (μ : EReal)) ∧ ∀ l, a l = ((∑ j ∈ Finset.range n, Real.rpow 2 (s j - μ) * v j l : ℝ) : EReal)

theorem fold_real (sb : Fin 256 → EReal) (h : ∀ j, sb j ≠ ⊤) (j0 : Fin 256) (h0 : sb j0 ≠ ⊥) :
    ∃ β : ℝ, Finset.fold max ⊥ sb Finset.univ = (β : EReal) := by
  have hlt : Finset.fold max ⊥ sb Finset.univ < ⊤ :=
    (Finset.fold_max_lt _).mpr ⟨bot_lt_top, fun j _ => lt_top_iff_ne_top.mpr (h j)⟩
  have hgt : ⊥ < Finset.fold max ⊥ sb Finset.univ :=
    (Finset.lt_fold_max _).mpr (Or.inr ⟨j0, Finset.mem_univ _, bot_lt_iff_ne_bot.mpr h0⟩)
  exact ⟨_, (EReal.coe_toReal hlt.ne hgt.ne').symm⟩

theorem rpow_shift (a b c : ℝ) : Real.rpow 2 (b - c) * Real.rpow 2 (a - b) = Real.rpow 2 (a - c) := by
  show (2 : ℝ) ^ (b - c) * (2 : ℝ) ^ (a - b) = (2 : ℝ) ^ (a - c)
  rw [← Real.rpow_add (by norm_num)]
  congr 1; ring

/-- The block's two half sums are one real sum over the block's unmasked keys. -/
theorem block_sum (s : ℕ → ℝ) (v : ℕ → Fin 128 → ℝ) (n w : ℕ) (hw : w ≤ 256) (sb : Fin 256 → EReal) (vb : Fin 256 → Fin 128 → EReal)
    (hs : ∀ j : Fin 256, sb j = if j.val < w then ((s (n + j) : ℝ) : EReal) else ⊥)
    (hv : ∀ j : Fin 256, j.val < w → ∀ l, vb j l = ((v (n + j) l : ℝ) : EReal)) (M : Fin 128 → EReal) (μ : ℝ) (hM : ∀ l, M l = (μ : EReal))
    (l : Fin 128) :
    ((∑ x : Fin 128, Ideal.exp2 (sb ⟨x, by omega⟩ - M x) * vb ⟨x, by omega⟩ l)
      + ∑ x : Fin 128, Ideal.exp2 (sb ⟨128 + x, by omega⟩ - M x) * vb ⟨128 + x, by omega⟩ l)
      = ((∑ j ∈ Finset.range w, Real.rpow 2 (s (n + j) - μ) * v (n + j) l : ℝ) : EReal) := by
  have key : ∀ j : Fin 256, Ideal.exp2 (sb j - (μ : EReal)) * vb j l
      = ((if j.val < w then Real.rpow 2 (s (n + j) - μ) * v (n + j) l else 0 : ℝ) : EReal) := by
    intro j
    by_cases hj : j.val < w
    · rw [hs j, if_pos hj, if_pos hj, hv j hj l, ← EReal.coe_sub, Ideal.exp2_coe, ← EReal.coe_mul]
    · rw [hs j, if_neg hj, if_neg hj, EReal.bot_sub, Ideal.exp2_bot, zero_mul, EReal.coe_zero]
  have h1 : (∑ x : Fin 128, Ideal.exp2 (sb ⟨x, by omega⟩ - M x) * vb ⟨x, by omega⟩ l)
      = ∑ x : Fin 128, ((if x.val < w then Real.rpow 2 (s (n + x) - μ) * v (n + x) l else 0 : ℝ) : EReal) :=
    Finset.sum_congr rfl fun x _ => by rw [hM x]; exact key ⟨x, by omega⟩
  have h2 : (∑ x : Fin 128, Ideal.exp2 (sb ⟨128 + x, by omega⟩ - M x) * vb ⟨128 + x, by omega⟩ l)
      = ∑ x : Fin 128, ((if 128 + x.val < w then Real.rpow 2 (s (n + (128 + x)) - μ) * v (n + (128 + x)) l else 0 : ℝ) : EReal) :=
    Finset.sum_congr rfl fun x _ => by rw [hM x]; exact key ⟨128 + x, by omega⟩
  rw [h1, h2, ← coe_sum, ← coe_sum, ← EReal.coe_add]
  congr 1
  rw [Fin.sum_univ_eq_sum_range (fun x => if x < w then Real.rpow 2 (s (n + x) - μ) * v (n + x) l else 0) 128,
    Fin.sum_univ_eq_sum_range (fun x => if 128 + x < w then Real.rpow 2 (s (n + (128 + x)) - μ) * v (n + (128 + x)) l else 0) 128,
    ← Finset.sum_range_add (fun x => if x < w then Real.rpow 2 (s (n + x) - μ) * v (n + x) l else 0) 128 128]
  rw [← Finset.sum_filter]
  refine Finset.sum_congr ?_ fun _ _ => rfl
  ext j
  simp only [Finset.mem_filter, Finset.mem_range]
  omega

/-- One block of keys, the first `w` of them unmasked: the row goes from `n` keys to `n + w`. -/
theorem Held.step {s : ℕ → ℝ} {v : ℕ → Fin 128 → ℝ} {n w : ℕ} (h0 : 0 < w) (hw : w ≤ 256) {m a : Fin 128 → EReal}
    (H : Held s v n m a) {sb : Fin 256 → EReal} {vb : Fin 256 → Fin 128 → EReal}
    (hs : ∀ j : Fin 256, sb j = if j.val < w then ((s (n + j) : ℝ) : EReal) else ⊥)
    (hv : ∀ j : Fin 256, j.val < w → ∀ l, vb j l = ((v (n + j) l : ℝ) : EReal)) :
    Held s v (n + w) (newM m sb) (newA m a sb vb) := by
  obtain ⟨β, hβ⟩ := fold_real sb (fun j => by rw [hs j]; split <;> simp) ⟨0, by omega⟩ (by rw [hs]; simp [h0])
  right
  rcases H with ⟨rfl, hma⟩ | ⟨μ, hm, ha⟩
  · have hM : ∀ l, newM m sb l = (β : EReal) := fun l => by
      unfold newM; rw [hβ, (hma l).1]; exact max_eq_right bot_le
    refine ⟨β, hM, fun l => ?_⟩
    unfold newA
    rw [block_sum s v 0 w hw sb vb hs hv _ β hM l, (hma l).2, mul_zero, zero_add]
    simp only [Nat.zero_add]
  · have hM : ∀ l, newM m sb l = ((max μ β : ℝ) : EReal) := fun l => by
      unfold newM; rw [hβ, hm l]; exact (EReal.coe_strictMono.monotone.map_max (a := μ) (b := β)).symm
    refine ⟨max μ β, hM, fun l => ?_⟩
    unfold newA
    rw [block_sum s v n w hw sb vb hs hv _ _ hM l, hM l, hm l, ha l, ← EReal.coe_sub, Ideal.exp2_coe, ← EReal.coe_mul, ← EReal.coe_add,
      Finset.sum_range_add, Finset.mul_sum]
    congr 2
    refine Finset.sum_congr rfl fun j _ => ?_
    rw [← mul_assoc, rpow_shift]

end Cert.FoxMath

end
-- ==== Proof.FoxPay.lean ====
module

public import proofs.«01_k».proof.Proof.Gen.FoxIdeal.Value
public import proofs.«01_k».proof.Proof.FoxMath
public import Idealize.ShloMosaic.Lib.Pointwise
public import Idealize.ShloMosaic.Lib.Pipeline.ValueKit

@[expose] public section

set_option maxRecDepth 16384

noncomputable section

namespace Cert.FoxPay

open Cert.FoxIdeal Cert.FoxIdeal.Gen Cert.FoxMath Idealize.ShloMosaic Idealize.ShloMosaic.TcCoe Idealize.SL.Sem

/-! # What the attention kernel's blocks of vector operations compute, element by element -/

theorem log2e_eq : Named.named (F := Ideal) κ (φ := .f32) "log2e" 0x3FB8AA3B#32 = L2E := rfl

theorem mask_eq : Named.named (F := Ideal) κ (φ := .f32) "mask" 0xF149F2CA#32 = (⊥ : EReal) := rfl

theorem ninf_eq : Ideal.ofBits FTy.f32 0xFF800000#32 = (⊥ : EReal) := by simp [Ideal.ofBits, Ideal.ieee]

/-- The logit of a query row against one of the block's keys, to base two. -/
def logit {R : Nat} (q : Vec Ideal ⟨2, ![R, 128]⟩ .bf16) (k : Vec Ideal S256x128 .bf16) (r : Fin R) (x : Fin 256) : EReal :=
  (∑ y : Fin 128, (q (ix2 r y) : EReal) * (k (ix2 x y) : EReal)) * L2E

/-- The same, masked above the diagonal. -/
def triLogit (q : Vec Ideal ⟨2, ![256, 128]⟩ .bf16) (k : Vec Ideal S256x128 .bf16) (r x : Fin 256) : EReal :=
  if x.val ≤ r.val then logit q k r x else ⊥

theorem full_m (q : Vec Ideal S512x128 .bf16) (k : Vec Ideal S256x128 .bf16) (m : Vec Ideal S1x512x128 .f32) (r : Fin 512) (l : Fin 128) :
    k0_pay6 q k m (ix3 0 r l) = newM (fun l => m (ix3 0 r l)) (logit q k r) l := by
  pointwise [k0_pay6, k0_pay4, k0_pay3, k0_pay2]
  rw [ninf_eq, log2e_eq]; rfl

theorem full_a (q : Vec Ideal S512x128 .bf16) (k v : Vec Ideal S256x128 .bf16) (m a : Vec Ideal S1x512x128 .f32) (r : Fin 512) (l : Fin 128) :
    k0_pay5 q k m a v (ix3 0 r l) = newA (fun l => m (ix3 0 r l)) (fun l => a (ix3 0 r l)) (logit q k r) (fun x l => v (ix2 x l)) l := by
  pointwise [k0_pay5, k0_pay4, k0_pay3, k0_pay2]
  rw [ninf_eq, log2e_eq]; rfl

theorem sq_m (q : Vec Ideal S256x128 .bf16) (k : Vec Ideal S256x128 .bf16) (m : Vec Ideal S1x256x128 .f32) (r : Fin 256) (l : Fin 128) :
    k0_pay143 q k m (ix3 0 r l) = newM (fun l => m (ix3 0 r l)) (logit q k r) l := by
  pointwise [k0_pay143, k0_pay141, k0_pay140, k0_pay139]
  rw [ninf_eq, log2e_eq]; rfl

theorem sq_a (q : Vec Ideal S256x128 .bf16) (k v : Vec Ideal S256x128 .bf16) (m a : Vec Ideal S1x256x128 .f32) (r : Fin 256) (l : Fin 128) :
    k0_pay142 q k m a v (ix3 0 r l) = newA (fun l => m (ix3 0 r l)) (fun l => a (ix3 0 r l)) (logit q k r) (fun x l => v (ix2 x l)) l := by
  pointwise [k0_pay142, k0_pay141, k0_pay140, k0_pay139]
  rw [ninf_eq, log2e_eq]; rfl

theorem select_tri (x : Nat) (hx256 : x < 256) (r : Fin 256) (s : EReal) :
    Scalar.select (IntOp.cmpi CmpIPredicate.sle (BitVec.ofNat 32 x) (BitVec.ofNat 32 r.val)) s (⊥ : EReal)
      = if x ≤ r.val then s else ⊥ := by
  have hx : (BitVec.ofNat 32 x).toInt = x := by
    rw [BitVec.toInt_ofNat', Int.bmod_eq_of_le] <;> omega
  have hr : (BitVec.ofNat 32 r.val).toInt = r.val := by
    rw [BitVec.toInt_ofNat', Int.bmod_eq_of_le] <;> omega
  by_cases h : x ≤ r.val
  · have h' : BitVec.sle (BitVec.ofNat 32 x) (BitVec.ofNat 32 r.val) = true := by
      simp only [BitVec.sle, hx, hr, Nat.cast_le, h, decide_true]
    simp only [IntOp.cmpi, h', if_pos h]; rfl
  · have h' : BitVec.sle (BitVec.ofNat 32 x) (BitVec.ofNat 32 r.val) = false := by
      simp only [BitVec.sle, hx, hr, Nat.cast_le, h, decide_false]
    simp only [IntOp.cmpi, h', if_neg h]; rfl

theorem tri_m (q : Vec Ideal S256x128 .bf16) (k : Vec Ideal S256x128 .bf16) (m : Vec Ideal S1x256x128 .f32) (r : Fin 256) (l : Fin 128) :
    k0_pay103 (k0_pay101 kernelRun0_A.sl.v31 kernelRun0_A.sl.v32 q k m) (ix3 0 r l) = newM (fun l => m (ix3 0 r l)) (triLogit q k r) l := by
  pointwise [k0_pay103, k0_pay101, k0_pay100, k0_pay99, k0_pay98, kernelRun0_A.sl.v31, kernelRun0_A.sl.v32]
  rw [ninf_eq, log2e_eq, mask_eq]; simp only [select_tri _ (Fin.isLt _)]; rfl

theorem tri_a (q : Vec Ideal S256x128 .bf16) (k v : Vec Ideal S256x128 .bf16) (m a : Vec Ideal S1x256x128 .f32) (r : Fin 256) (l : Fin 128) :
    k0_pay102 kernelRun0_A.sl.v31 kernelRun0_A.sl.v32 q k m a v (ix3 0 r l)
      = newA (fun l => m (ix3 0 r l)) (fun l => a (ix3 0 r l)) (triLogit q k r) (fun x l => v (ix2 x l)) l := by
  pointwise [k0_pay102, k0_pay101, k0_pay100, k0_pay99, k0_pay98, kernelRun0_A.sl.v31, kernelRun0_A.sl.v32]
  rw [ninf_eq, log2e_eq, mask_eq]; simp only [select_tri _ (Fin.isLt _)]
  have e1 : ∀ (x : Fin 128) (s : EReal), Scalar.select (IntOp.cmpi CmpIPredicate.sle (BitVec.ofNat 32 x.val) (BitVec.ofNat 32 r.val)) s (⊥ : EReal)
      = if x.val ≤ r.val then s else ⊥ := fun x s => select_tri _ (by omega) r s
  have e2 : ∀ (x : Fin 128) (s : EReal), Scalar.select (IntOp.cmpi CmpIPredicate.sle (BitVec.ofNat 32 (128 + x.val)) (BitVec.ofNat 32 r.val)) s (⊥ : EReal)
      = if 128 + x.val ≤ r.val then s else ⊥ := fun x s => select_tri _ (by omega) r s
  simp only [e1, e2]; rfl

/-- The same operations, as the seventh head's are cut. -/
theorem h6_m (q : Vec Ideal S512x128 .bf16) (k : Vec Ideal S256x128 .bf16) (m : Vec Ideal S1x512x128 .f32) :
    k0_pay42 (k0_pay38 m) (k0_pay39 q k) = k0_pay6 q k m := by
  simp only [k0_pay42, k0_pay40, k0_pay38, k0_pay39, k0_pay37, k0_pay6, k0_pay4, k0_pay3, k0_pay2]

theorem h6_a (q : Vec Ideal S512x128 .bf16) (k v : Vec Ideal S256x128 .bf16) (m a : Vec Ideal S1x512x128 .f32) :
    k0_pay41 (k0_pay37 q k) (k0_pay38 m) (k0_pay39 q k) a v = k0_pay5 q k m a v := by
  simp only [k0_pay41, k0_pay40, k0_pay38, k0_pay39, k0_pay37, k0_pay5, k0_pay4, k0_pay3, k0_pay2]

theorem init_m (h : Fin 8) (r : Fin 512) (l : Fin 128) : k0_pay92 (F := Ideal) (ix3 h r l) = (⊥ : EReal) := by
  pointwise [k0_pay92]
  exact mask_eq

theorem init_a (h : Fin 8) (r : Fin 512) (l : Fin 128) : k0_pay93 (F := Ideal) (ix3 h r l) = (0 : EReal) := by
  pointwise [k0_pay93]

/-- A row's squared sum over the first 64 lanes, with the squared total weight times `64 ε` (lane 64) added. -/
def normArg (a : Fin 128 → ℝ) (ε : ℝ) : ℝ := (∑ x : Fin 64, a ⟨x, by omega⟩ * a ⟨x, by omega⟩ + a 64 * a 64 * ε) * (1 / 64)

/-- `64 · 10⁻⁶` as the kernel's word has it. -/
def EPS : ℝ := 8796093 / 2 ^ 37

theorem eps_eq : Ideal.ofBits FTy.f32 0x388637BD#32 = ((EPS : ℝ) : EReal) := by
  simp [Ideal.ofBits, Ideal.ieee, EPS]
  rw [← EReal.coe_mul]
  congr 1

theorem sixtyfourth_eq : Ideal.ofBits FTy.f32 0x3C800000#32 = ((1 / 64 : ℝ) : EReal) := by
  simp [Ideal.ofBits, Ideal.ieee]
  rw [← EReal.coe_mul]
  congr 1
  norm_num

theorem lane_mask (r : Fin 512) (c : Fin 256) : k0_pay243 (ix2 r c) = if c.val % 128 < 64 then 1#1 else 0#1 := by
  pointwise [k0_pay243]
  revert c
  decide +kernel

/-- The square of one lane as the kernel takes it before the sum. -/
def sqLane (mk : BitVec 1) (z : EReal) : EReal := Scalar.select mk (z * z) (z * z * Ideal.ofBits FTy.f32 0x388637BD#32)

/-- The sum of squares that the normalisation of column `c` uses, as the kernel forms it: a product with `w`, and one with what rounding left over. -/
def sqSum (mk : Fin 256 → BitVec 1) (a b : Fin 128 → EReal) (w : Vec Ideal S256x256 .bf16) (c : Fin 256) : EReal :=
  ((∑ x : Fin 128, sqLane (mk ⟨x, by omega⟩) (a x) * w (ix2 ⟨x, by omega⟩ c))
      + ∑ x : Fin 128, sqLane (mk ⟨128 + x, by omega⟩) (b x) * w (ix2 ⟨128 + x, by omega⟩ c))
    + ((∑ x : Fin 128, (sqLane (mk ⟨x, by omega⟩) (a x) - sqLane (mk ⟨x, by omega⟩) (a x)) * w (ix2 ⟨x, by omega⟩ c))
      + ∑ x : Fin 128, (sqLane (mk ⟨128 + x, by omega⟩) (b x) - sqLane (mk ⟨128 + x, by omega⟩) (b x)) * w (ix2 ⟨128 + x, by omega⟩ c))

theorem epi_raw (mk : IVec S512x256 1) (a b : Vec Ideal S1x512x128 .f32) (w : Vec Ideal S256x256 .bf16) (g : Vec Ideal S1x256 .f32)
    (sh : Vec Ideal S128x128 .bf16) (r : Fin 512) (l : Fin 128) :
    k0_pay245 (F := Ideal) mk (k0_pay244 a b) w w g sh (ix2 r l)
      = (a (ix3 0 r l) * Ideal.rsqrt (sqSum (fun c => mk (ix2 r c)) (fun x => a (ix3 0 r x)) (fun x => b (ix3 0 r x)) w ⟨l, by omega⟩
            * Ideal.ofBits FTy.f32 0x3C800000#32) * g (ix2 0 ⟨l, by omega⟩))
        + ∑ x : Fin 128, (b (ix3 0 r x) * Ideal.rsqrt (sqSum (fun c => mk (ix2 r c)) (fun x => a (ix3 0 r x)) (fun x => b (ix3 0 r x)) w ⟨128 + x, by omega⟩
            * Ideal.ofBits FTy.f32 0x3C800000#32) * g (ix2 0 ⟨128 + x, by omega⟩)) * sh (ix2 x l) := by
  pointwise [k0_pay245, k0_pay244]
  rfl

theorem sqLane_coe (p : Prop) [Decidable p] (z : ℝ) :
    sqLane (if p then 1#1 else 0#1) (z : EReal) = ((if p then z * z else z * z * EPS : ℝ) : EReal) := by
  unfold sqLane
  rw [eps_eq, ← EReal.coe_mul, ← EReal.coe_mul]
  by_cases h : p
  · simp only [if_pos h]; rfl
  · simp only [if_neg h]; rfl

/-- The weights pick the first 65 lanes: 64 squares and the last one times `ε`. -/
theorem lane_sum (a : Fin 128 → ℝ) (ε : ℝ) :
    (∑ x : Fin 128, (if x.val < 64 then a x * a x else a x * a x * ε) * (if x.val < 65 then 1 else 0 : ℝ))
      = ∑ x : Fin 64, a ⟨x, by omega⟩ * a ⟨x, by omega⟩ + a 64 * a 64 * ε := by
  have h := Fin.sum_univ_add (a := 64) (b := 64)
    (fun x : Fin 128 => (if x.val < 64 then a x * a x else a x * a x * ε) * (if x.val < 65 then 1 else 0 : ℝ))
  refine h.trans (congrArg₂ (· + ·) (Finset.sum_congr rfl fun x _ => ?_) ?_)
  · have h1 : (Fin.castAdd 64 x).val < 64 := x.isLt
    have h2 : (Fin.castAdd 64 x).val < 65 := by omega
    simp only [if_pos h1, if_pos h2, mul_one]; rfl
  · rw [Finset.sum_eq_single (0 : Fin 64)]
    · simp
    · intro x _ hx
      have h2 : ¬ (Fin.natAdd 64 x).val < 65 := by
        have : x.val ≠ 0 := fun e => hx (Fin.ext e)
        rw [Fin.val_natAdd]; omega
      simp only [if_neg h2, mul_zero]
    · simp

theorem sqSum_val (A B : Fin 128 → ℝ) (w : Vec Ideal S256x256 .bf16)
    (hw : ∀ i j : Fin 256, (w (ix2 i j) : EReal) = if i.val / 128 = j.val / 128 ∧ i.val % 128 < 65 then 1 else 0) (c : Fin 256) :
    sqSum (fun c => if c.val % 128 < 64 then 1#1 else 0#1) (fun x => (A x : EReal)) (fun x => (B x : EReal)) w c
      * Ideal.ofBits FTy.f32 0x3C800000#32
      = ((if c.val < 128 then normArg A EPS else normArg B EPS : ℝ) : EReal) := by
  have hw' : ∀ i j : Fin 256, (w (ix2 i j) : EReal) = ((if i.val / 128 = j.val / 128 ∧ i.val % 128 < 65 then 1 else 0 : ℝ) : EReal) := by
    intro i j; rw [hw i j]; split <;> rfl
  unfold sqSum
  simp only [sqLane_coe, hw', ← EReal.coe_sub, sub_self, EReal.coe_zero, zero_mul, Finset.sum_const_zero, add_zero, ← EReal.coe_mul, ← coe_sum,
    ← EReal.coe_add, sixtyfourth_eq]
  congr 1
  have ha : ∀ x : Fin 128, (x.val / 128 = 0 ∧ x.val % 128 = x.val) := fun x => by omega
  have hb : ∀ x : Fin 128, ((128 + x.val) / 128 = 1 ∧ (128 + x.val) % 128 = x.val) := fun x => by omega
  simp only [(ha _).1, (ha _).2, (hb _).1, (hb _).2]
  by_cases hc : c.val < 128
  · have h0 : c.val / 128 = 0 := by omega
    simp only [h0, if_pos hc, true_and, one_ne_zero, false_and, if_false, mul_zero, Finset.sum_const_zero, add_zero]
    rw [lane_sum]; rfl
  · have h0 : c.val / 128 = 1 := by omega
    simp only [h0, if_neg hc, true_and, zero_ne_one, false_and, if_false, mul_zero, Finset.sum_const_zero, zero_add]
    rw [lane_sum]; rfl

/-- The epilogue of a pair of heads: lanes 0 to 63 are the left head's, lanes 64 to 127 the right head's first 64. -/
theorem epi_val (a b : Vec Ideal S1x512x128 .f32) (w : Vec Ideal S256x256 .bf16) (g : Vec Ideal S1x256 .f32) (sh : Vec Ideal S128x128 .bf16)
    (r : Fin 512) (A B : Fin 128 → ℝ) (ha : ∀ x, (a (ix3 0 r x) : EReal) = (A x : EReal)) (hb : ∀ x, (b (ix3 0 r x) : EReal) = (B x : EReal))
    (hw : ∀ i j : Fin 256, (w (ix2 i j) : EReal) = if i.val / 128 = j.val / 128 ∧ i.val % 128 < 65 then 1 else 0)
    (hg : ∀ c : Fin 256, 64 ≤ c.val % 128 → (g (ix2 0 c) : EReal) = 0)
    (hsh : ∀ x l : Fin 128, (sh (ix2 x l) : EReal) = if x.val + 64 = l.val then 1 else 0) (l : Fin 128) :
    (k0_pay245 (F := Ideal) k0_pay243 (k0_pay244 a b) w w g sh (ix2 r l) : EReal)
      = if h : l.val < 64 then (A l : EReal) * Ideal.rsqrt ((normArg A EPS : ℝ) : EReal) * g (ix2 0 ⟨l, by omega⟩)
        else (B ⟨l - 64, by omega⟩ : EReal) * Ideal.rsqrt ((normArg B EPS : ℝ) : EReal) * g (ix2 0 ⟨128 + (l - 64), by omega⟩) := by
  rw [epi_raw]
  simp only [lane_mask, ha, hb, sqSum_val A B w hw, hsh]
  have h1 : l.val < 128 := l.isLt
  have h2 : ∀ x : Fin 128, ¬ (128 + x.val < 128) := fun x => by omega
  simp only [if_pos h1, if_neg (h2 _)]
  by_cases h : l.val < 64
  · rw [dif_pos h, Finset.sum_eq_zero, add_zero]
    intro x _
    rw [if_neg (by omega), mul_zero]
  · rw [dif_neg h, hg ⟨l, by omega⟩ (by show 64 ≤ l.val % 128; omega), mul_zero, zero_add, Finset.sum_eq_single ⟨l - 64, by omega⟩]
    · rw [if_pos (by show l.val - 64 + 64 = l.val; omega), mul_one]
    · intro x _ hx
      rw [if_neg fun e => hx (Fin.ext (by show x.val = l.val - 64; omega)), mul_zero]
    · simp

end Cert.FoxPay

end
-- ==== Proof.FoxState.lean ====
module

public import proofs.«01_k».proof.Proof.FoxPay
public import Idealize.ShloMosaic.Lib.WritesUnit

@[expose] public section

set_option maxRecDepth 16384

noncomputable section

namespace Cert.FoxState

open Cert.FoxIdeal Cert.FoxIdeal.Gen Cert.FoxMath Cert.FoxPay Idealize.ShloMosaic Idealize.ShloMosaic.TcCoe Idealize.SL.Sem

/-! # The two running buffers of a block of 512 queries and eight heads, and what one store does to them -/

variable {s : Fin 8 → Fin 512 → ℕ → ℝ} {V : Fin 8 → ℕ → Fin 128 → ℝ}

/-- In head `h` and row `r` the buffers `M` (maxima) and `A` (sums) hold the first `n h r` keys. -/
def St (s : Fin 8 → Fin 512 → ℕ → ℝ) (V : Fin 8 → ℕ → Fin 128 → ℝ) (n : Fin 8 → Fin 512 → ℕ) (M A : Vec Ideal S8x512x128 .f32) : Prop :=
  ∀ h r, Held (s h r) (V h) (n h r) (fun l => M (ix3 h r l)) (fun l => A (ix3 h r l))

/-- The counts after head `h` has stored the rows `o ≤ r < o + R`. -/
def upd (n : Fin 8 → Fin 512 → ℕ) (h o R : ℕ) (c : ℕ → ℕ) (h' : Fin 8) (r : Fin 512) : ℕ :=
  if h'.val = h ∧ o ≤ r.val ∧ r.val < o + R then c r.val else n h' r

section
variable (v : View sig .tc .vmem S8x512x128 .f32)

/-- A load of one head's rows, at an index. -/
theorem load3 (h o R : ℕ) (hh : h < 8) (hR : o + R ≤ 512) (inb) (f) (r : Fin R) (l : Fin 128) :
    v.readAt (Elt Ideal) (Rect.unit (s := S8x512x128) ![h, o, 0] ![1, R, 128] inb).toLoadRect f (ix3 0 r l)
      = v.read (Elt Ideal) f (ix3 ⟨h, hh⟩ ⟨o + r, by omega⟩ l) := by
  show v.read (Elt Ideal) f ((Rect.unit (s := S8x512x128) ![h, o, 0] ![1, R, 128] inb).idx (ix3 0 r l)) = _
  congr 1
  funext a
  refine Fin.ext ((Rect.idx_unit_val _ _ _ _ _).trans ?_)
  fin_cases a
  · show h + 0 = h; rfl
  · show o + r.val = o + r.val; rfl
  · show 0 + l.val = l.val; exact Nat.zero_add _

/-- A store of one head's rows, read at an index it covers. -/
theorem store_hit (h o R : ℕ) (hh : h < 8) (hR : o + R ≤ 512) (inb) (f) (L) (w : Vec Ideal ⟨3, ![1, R, 128]⟩ .f32) (r : Fin R) (l : Fin 128) :
    v.read (Elt Ideal) (v.writes (Elt Ideal) f ((⟨Rect.unit (s := S8x512x128) ![h, o, 0] ![1, R, 128] inb, w⟩ : View.Piece (Elt Ideal) S8x512x128 .f32) :: L))
        (ix3 ⟨h, hh⟩ ⟨o + r, by omega⟩ l) = w (ix3 0 r l) := by
  refine View.read_writes_cons_unit_of_mem v f inb w L _ (ix3 0 r l) rfl fun a => ?_
  fin_cases a
  · show h = h + 0; rfl
  · show o + r.val = o + r.val; rfl
  · show l.val = 0 + l.val; exact (Nat.zero_add _).symm

/-- The same at an index it does not cover. -/
theorem store_miss (h o R : ℕ) (inb) (f) (L) (w : Vec Ideal ⟨3, ![1, R, 128]⟩ .f32) (h' : Fin 8) (r : Fin 512) (l : Fin 128)
    (hm : ¬(h'.val = h ∧ o ≤ r.val ∧ r.val < o + R)) :
    v.read (Elt Ideal) (v.writes (Elt Ideal) f ((⟨Rect.unit (s := S8x512x128) ![h, o, 0] ![1, R, 128] inb, w⟩ : View.Piece (Elt Ideal) S8x512x128 .f32) :: L))
        (ix3 h' r l) = v.read (Elt Ideal) (v.writes (Elt Ideal) f L) (ix3 h' r l) := by
  by_cases e : h'.val = h
  · refine View.read_writes_cons_unit_of_not_mem v f inb w L _ rfl 1 ?_
    show r.val < o ∨ o + R ≤ r.val
    omega
  · refine View.read_writes_cons_unit_of_not_mem v f inb w L _ rfl 0 ?_
    show h'.val < h ∨ h + 1 ≤ h'.val
    omega
end

section
variable (v9 v10 : View sig .tc .vmem S8x512x128 .f32)

/-- One head's pair of stores. -/
theorem St.put (h o R : ℕ) (hh : h < 8) (hR : o + R ≤ 512) (c : ℕ → ℕ) {n : Fin 8 → Fin 512 → ℕ} {f9 f10 L9 L10}
    (H : St s V n (v9.read (Elt Ideal) (v9.writes (Elt Ideal) f9 L9)) (v10.read (Elt Ideal) (v10.writes (Elt Ideal) f10 L10)))
    (inb inb') (w9 w10 : Vec Ideal ⟨3, ![1, R, 128]⟩ .f32)
    (hw : ∀ r : Fin R, Held (s ⟨h, hh⟩ ⟨o + r, by omega⟩) (V ⟨h, hh⟩) (c (o + r)) (fun l => w9 (ix3 0 r l)) (fun l => w10 (ix3 0 r l))) :
    St s V (upd n h o R c)
      (v9.read (Elt Ideal) (v9.writes (Elt Ideal) f9
        ((⟨Rect.unit (s := S8x512x128) ![h, o, 0] ![1, R, 128] inb, w9⟩ : View.Piece (Elt Ideal) S8x512x128 .f32) :: L9)))
      (v10.read (Elt Ideal) (v10.writes (Elt Ideal) f10
        ((⟨Rect.unit (s := S8x512x128) ![h, o, 0] ![1, R, 128] inb', w10⟩ : View.Piece (Elt Ideal) S8x512x128 .f32) :: L10))) := by
  have hlt : ∀ r0 : Fin R, o + r0.val < 512 := fun r0 => by omega
  intro h' r
  by_cases hit : h'.val = h ∧ o ≤ r.val ∧ r.val < o + R
  · obtain ⟨r0, rfl⟩ : ∃ r0 : Fin R, r = ⟨o + r0, hlt r0⟩ := ⟨⟨r.val - o, by omega⟩, Fin.ext (by show r.val = o + (r.val - o); omega)⟩
    obtain rfl : h' = ⟨h, hh⟩ := Fin.ext hit.1
    unfold upd
    rw [if_pos hit]
    simp only [store_hit _ h o R hh hR]
    exact hw r0
  · unfold upd
    rw [if_neg hit]
    simp only [store_miss _ h o R _ _ _ _ h' r _ hit]
    exact H h' r
end

/-! ## The operands of a block -/

/-- A load of rows and one head's lanes of a matrix operand, at an index. -/
theorem load2 {N C : ℕ} {e : EltTy} (v : View sig .tc .vmem ⟨2, ![N, C]⟩ e) (off : Fin 2 → ℕ) (a b R : ℕ) (hoff : off = ![a, b]) (hR : a + R ≤ N) (hb : b + 128 ≤ C)
    (inb) (f) (r : Fin R) (y : Fin 128) :
    v.readAt (Elt Ideal) (Rect.unit (s := ⟨2, ![N, C]⟩) off ![R, 128] inb).toLoadRect f (ix2 r y)
      = v.read (Elt Ideal) f (ix2 ⟨a + r, by omega⟩ ⟨b + y, by omega⟩) := by
  subst hoff
  show v.read (Elt Ideal) f ((Rect.unit (s := ⟨2, ![N, C]⟩) ![a, b] ![R, 128] inb).idx (ix2 r y)) = _
  congr 1
  funext a
  refine Fin.ext ((Rect.idx_unit_val _ _ _ _ _).trans ?_)
  fin_cases a <;> rfl

/-- What the block's operands are in real numbers: the logits to base two, and the values. -/
structure Ops (s : Fin 8 → Fin 512 → ℕ → ℝ) (V : Fin 8 → ℕ → Fin 128 → ℝ) (x0 : Vec Ideal S512x1024 .bf16) (x1 x2 : Vec Ideal S4096x1024 .bf16) : Prop where
  logit : ∀ (h : Fin 8) (r : Fin 512) (j : Fin 4096),
    (∑ y : Fin 128, (x0 (ix2 r ⟨128 * h + y, by omega⟩) : EReal) * (x1 (ix2 j ⟨128 * h + y, by omega⟩) : EReal)) * L2E = ((s h r j : ℝ) : EReal)
  value : ∀ (h : Fin 8) (j : Fin 4096) (l : Fin 128), (x2 (ix2 j ⟨128 * h + l, by omega⟩) : EReal) = ((V h j l : ℝ) : EReal)

section
variable {v2 : View sig .tc .vmem S512x1024 .bf16} {v3 v4 : View sig .tc .vmem S4096x1024 .bf16} {v9 v10 : View sig .tc .vmem S8x512x128 .f32}
  {f2 : v2.ty.Contents (Elt Ideal)} {f3 : v3.ty.Contents (Elt Ideal)} {f4 : v4.ty.Contents (Elt Ideal)}
  {f9 : v9.ty.Contents (Elt Ideal)} {f10 : v10.ty.Contents (Elt Ideal)}

theorem logit_load (X : Ops s V (v2.read (Elt Ideal) f2) (v3.read (Elt Ideal) f3) (v4.read (Elt Ideal) f4)) (h o R n0 : ℕ) (hh : h < 8)
    (hR : o + R ≤ 512) (hn : n0 + 256 ≤ 4096) (offq offk : Fin 2 → ℕ) (hq : offq = ![o, 128 * h]) (hk : offk = ![n0, 128 * h]) (inq ink) (r : Fin R) (x : Fin 256) :
    logit (v2.readAt (Elt Ideal) (Rect.unit (s := S512x1024) offq ![R, 128] inq).toLoadRect f2)
        (v3.readAt (Elt Ideal) (Rect.unit (s := S4096x1024) offk ![256, 128] ink).toLoadRect f3) r x
      = ((s ⟨h, hh⟩ ⟨o + r, by omega⟩ (n0 + x) : ℝ) : EReal) := by
  unfold logit
  rw [← X.logit ⟨h, hh⟩ ⟨o + r, by omega⟩ ⟨n0 + x, by omega⟩]
  congr 1
  refine Finset.sum_congr rfl fun y _ => ?_
  rw [load2 v2 offq o (128 * h) R hq hR (by omega) inq f2 r y, load2 v3 offk n0 (128 * h) 256 hk hn (by omega) ink f3 x y]

theorem value_load (X : Ops s V (v2.read (Elt Ideal) f2) (v3.read (Elt Ideal) f3) (v4.read (Elt Ideal) f4)) (h n0 : ℕ) (hh : h < 8)
    (hn : n0 + 256 ≤ 4096) (offv : Fin 2 → ℕ) (hv : offv = ![n0, 128 * h]) (inv) (x : Fin 256) (l : Fin 128) :
    (v4.readAt (Elt Ideal) (Rect.unit (s := S4096x1024) offv ![256, 128] inv).toLoadRect f4 (ix2 x l) : EReal)
      = ((V ⟨h, hh⟩ (n0 + x) l : ℝ) : EReal) := by
  rw [load2 v4 offv n0 (128 * h) 256 hv hn (by omega) inv f4 x l]
  exact X.value ⟨h, hh⟩ ⟨n0 + x, by omega⟩ l

variable {n : Fin 8 → Fin 512 → ℕ}

/-- A block of 256 keys, none masked, against all 512 rows of a head. -/
theorem full_held (X : Ops s V (v2.read (Elt Ideal) f2) (v3.read (Elt Ideal) f3) (v4.read (Elt Ideal) f4))
    (H : St s V n (v9.read (Elt Ideal) f9) (v10.read (Elt Ideal) f10)) (h n0 : ℕ) (hh : h < 8) (hn0 : n0 + 256 ≤ 4096)
    (hn : ∀ r, n ⟨h, hh⟩ r = n0) (offq offk offv : Fin 2 → ℕ) (hq : offq = ![0, 128 * h]) (hk : offk = ![n0, 128 * h]) (hv : offv = ![n0, 128 * h])
    (inq ink inv in9 in10) (r : Fin 512) :
    Held (s ⟨h, hh⟩ ⟨0 + r, by omega⟩) (V ⟨h, hh⟩) (n0 + 256)
      (fun l => k0_pay6 (F := Ideal) (v2.readAt (Elt Ideal) (Rect.unit (s := S512x1024) offq ![512, 128] inq).toLoadRect f2)
        (v3.readAt (Elt Ideal) (Rect.unit (s := S4096x1024) offk ![256, 128] ink).toLoadRect f3)
        (v9.readAt (Elt Ideal) (Rect.unit (s := S8x512x128) ![h, 0, 0] ![1, 512, 128] in9).toLoadRect f9) (ix3 0 r l))
      (fun l => k0_pay5 (F := Ideal) (v2.readAt (Elt Ideal) (Rect.unit (s := S512x1024) offq ![512, 128] inq).toLoadRect f2)
        (v3.readAt (Elt Ideal) (Rect.unit (s := S4096x1024) offk ![256, 128] ink).toLoadRect f3)
        (v9.readAt (Elt Ideal) (Rect.unit (s := S8x512x128) ![h, 0, 0] ![1, 512, 128] in9).toLoadRect f9)
        (v10.readAt (Elt Ideal) (Rect.unit (s := S8x512x128) ![h, 0, 0] ![1, 512, 128] in10).toLoadRect f10)
        (v4.readAt (Elt Ideal) (Rect.unit (s := S4096x1024) offv ![256, 128] inv).toLoadRect f4) (ix3 0 r l)) := by
  have H0 := H ⟨h, hh⟩ ⟨0 + r, by omega⟩
  rw [hn] at H0
  simp only [full_m, full_a, load3 _ h 0 512 hh (by omega)]
  exact H0.step (by omega) le_rfl (fun j => by rw [logit_load X h 0 512 n0 hh (by omega) hn0 offq offk hq hk inq ink r j, if_pos j.isLt])
    (fun j _ l => value_load X h n0 hh hn0 offv hv inv j l)

/-- The same against 256 rows. -/
theorem sq_held (X : Ops s V (v2.read (Elt Ideal) f2) (v3.read (Elt Ideal) f3) (v4.read (Elt Ideal) f4))
    (H : St s V n (v9.read (Elt Ideal) f9) (v10.read (Elt Ideal) f10)) (h o n0 : ℕ) (hh : h < 8) (ho : o + 256 ≤ 512) (hn0 : n0 + 256 ≤ 4096)
    (hn : ∀ r : Fin 256, n ⟨h, hh⟩ ⟨o + r, by omega⟩ = n0) (offq offk offv : Fin 2 → ℕ) (hq : offq = ![o, 128 * h]) (hk : offk = ![n0, 128 * h])
    (hv : offv = ![n0, 128 * h]) (inq ink inv in9 in10) (r : Fin 256) :
    Held (s ⟨h, hh⟩ ⟨o + r, by omega⟩) (V ⟨h, hh⟩) (n0 + 256)
      (fun l => k0_pay143 (F := Ideal) (v2.readAt (Elt Ideal) (Rect.unit (s := S512x1024) offq ![256, 128] inq).toLoadRect f2)
        (v3.readAt (Elt Ideal) (Rect.unit (s := S4096x1024) offk ![256, 128] ink).toLoadRect f3)
        (v9.readAt (Elt Ideal) (Rect.unit (s := S8x512x128) ![h, o, 0] ![1, 256, 128] in9).toLoadRect f9) (ix3 0 r l))
      (fun l => k0_pay142 (F := Ideal) (v2.readAt (Elt Ideal) (Rect.unit (s := S512x1024) offq ![256, 128] inq).toLoadRect f2)
        (v3.readAt (Elt Ideal) (Rect.unit (s := S4096x1024) offk ![256, 128] ink).toLoadRect f3)
        (v9.readAt (Elt Ideal) (Rect.unit (s := S8x512x128) ![h, o, 0] ![1, 256, 128] in9).toLoadRect f9)
        (v10.readAt (Elt Ideal) (Rect.unit (s := S8x512x128) ![h, o, 0] ![1, 256, 128] in10).toLoadRect f10)
        (v4.readAt (Elt Ideal) (Rect.unit (s := S4096x1024) offv ![256, 128] inv).toLoadRect f4) (ix3 0 r l)) := by
  have H0 := H ⟨h, hh⟩ ⟨o + r, by omega⟩
  rw [hn] at H0
  simp only [sq_m, sq_a, load3 _ h o 256 hh ho]
  exact H0.step (by omega) le_rfl (fun j => by rw [logit_load X h o 256 n0 hh ho hn0 offq offk hq hk inq ink r j, if_pos j.isLt])
    (fun j _ l => value_load X h n0 hh hn0 offv hv inv j l)

/-- The block of 256 keys on the diagonal of 256 rows: a row takes the keys up to its own. -/
theorem tri_held (X : Ops s V (v2.read (Elt Ideal) f2) (v3.read (Elt Ideal) f3) (v4.read (Elt Ideal) f4))
    (H : St s V n (v9.read (Elt Ideal) f9) (v10.read (Elt Ideal) f10)) (h o n0 : ℕ) (hh : h < 8) (ho : o + 256 ≤ 512) (hn0 : n0 + 256 ≤ 4096)
    (hn : ∀ r : Fin 256, n ⟨h, hh⟩ ⟨o + r, by omega⟩ = n0) (offq offk offv : Fin 2 → ℕ) (hq : offq = ![o, 128 * h]) (hk : offk = ![n0, 128 * h])
    (hv : offv = ![n0, 128 * h]) (inq ink inv in9 in10) (r : Fin 256) :
    Held (s ⟨h, hh⟩ ⟨o + r, by omega⟩) (V ⟨h, hh⟩) (n0 + (r.val + 1))
      (fun l => k0_pay103 (F := Ideal) (k0_pay101 kernelRun0_A.sl.v31 kernelRun0_A.sl.v32
        (v2.readAt (Elt Ideal) (Rect.unit (s := S512x1024) offq ![256, 128] inq).toLoadRect f2)
        (v3.readAt (Elt Ideal) (Rect.unit (s := S4096x1024) offk ![256, 128] ink).toLoadRect f3)
        (v9.readAt (Elt Ideal) (Rect.unit (s := S8x512x128) ![h, o, 0] ![1, 256, 128] in9).toLoadRect f9)) (ix3 0 r l))
      (fun l => k0_pay102 (F := Ideal) kernelRun0_A.sl.v31 kernelRun0_A.sl.v32
        (v2.readAt (Elt Ideal) (Rect.unit (s := S512x1024) offq ![256, 128] inq).toLoadRect f2)
        (v3.readAt (Elt Ideal) (Rect.unit (s := S4096x1024) offk ![256, 128] ink).toLoadRect f3)
        (v9.readAt (Elt Ideal) (Rect.unit (s := S8x512x128) ![h, o, 0] ![1, 256, 128] in9).toLoadRect f9)
        (v10.readAt (Elt Ideal) (Rect.unit (s := S8x512x128) ![h, o, 0] ![1, 256, 128] in10).toLoadRect f10)
        (v4.readAt (Elt Ideal) (Rect.unit (s := S4096x1024) offv ![256, 128] inv).toLoadRect f4) (ix3 0 r l)) := by
  have H0 := H ⟨h, hh⟩ ⟨o + r, by omega⟩
  rw [hn] at H0
  simp only [tri_m, tri_a, load3 _ h o 256 hh ho]
  refine H0.step (by omega) (by omega) (fun j => ?_) (fun j _ l => value_load X h n0 hh hn0 offv hv inv j l)
  unfold triLogit
  rw [logit_load X h o 256 n0 hh ho hn0 offq offk hq hk inq ink r j]
  simp only [Nat.lt_succ_iff]

end

end Cert.FoxState

end
-- ==== Proof.FoxTrip.lean ====
module

public import proofs.«01_k».proof.Proof.FoxState

@[expose] public section

set_option maxRecDepth 16384

noncomputable section

namespace Cert.FoxTrip

open Cert.FoxIdeal Cert.FoxIdeal.Gen Cert.FoxMath Cert.FoxPay Cert.FoxState Idealize.ShloMosaic Idealize.ShloMosaic.TcCoe Idealize.SL.Sem

/-! # The loop over the blocks of keys left of the diagonal -/

theorem trips_eq : ∀ i : grid0.Coords, (k0_t1_loop i).trips = 2 * (i 1).val := by decide +kernel

theorem off_eq0 : ∀ (i : grid0.Coords) (k : Fin (k0_t1_loop i).trips), k0_off1 i k = ![256 * k.val, 128 * 0] := by decide +kernel

theorem off_eq1 : ∀ (i : grid0.Coords) (k : Fin (k0_t1_loop i).trips), k0_off2 i k = ![256 * k.val, 128 * 1] := by decide +kernel

theorem off_eq2 : ∀ (i : grid0.Coords) (k : Fin (k0_t1_loop i).trips), k0_off3 i k = ![256 * k.val, 128 * 2] := by decide +kernel

theorem off_eq3 : ∀ (i : grid0.Coords) (k : Fin (k0_t1_loop i).trips), k0_off4 i k = ![256 * k.val, 128 * 3] := by decide +kernel

theorem off_eq4 : ∀ (i : grid0.Coords) (k : Fin (k0_t1_loop i).trips), k0_off5 i k = ![256 * k.val, 128 * 4] := by decide +kernel

theorem off_eq5 : ∀ (i : grid0.Coords) (k : Fin (k0_t1_loop i).trips), k0_off6 i k = ![256 * k.val, 128 * 5] := by decide +kernel

theorem off_eq6 : ∀ (i : grid0.Coords) (k : Fin (k0_t1_loop i).trips), k0_off7 i k = ![256 * k.val, 128 * 6] := by decide +kernel

theorem off_eq7 : ∀ (i : grid0.Coords) (k : Fin (k0_t1_loop i).trips), k0_off8 i k = ![256 * k.val, 128 * 7] := by decide +kernel

variable (c : Dev nD) (i : grid0.Coords)
  (arg2 : Memref sig .tc .vmem S512x1024 .bf16) (harg2 : arg2.IsWhole)
  (arg3 : Memref sig .tc .vmem S4096x1024 .bf16) (harg3 : arg3.IsWhole)
  (arg4 : Memref sig .tc .vmem S4096x1024 .bf16) (harg4 : arg4.IsWhole)
  (arg5 : Memref sig .tc .vmem S1x1024 .f32) (harg5 : arg5.IsWhole)
  (arg6 : Memref sig .tc .vmem S256x256 .bf16) (harg6 : arg6.IsWhole)
  (arg7 : Memref sig .tc .vmem S128x128 .bf16) (harg7 : arg7.IsWhole)
  (arg8 : Memref sig .tc .vmem S512x512 .bf16) (harg8 : arg8.IsWhole)
  (arg9 : Memref sig .tc .vmem S8x512x128 .f32) (harg9 : arg9.IsWhole)
  (arg10 : Memref sig .tc .vmem S8x512x128 .f32) (harg10 : arg10.IsWhole)
  {s : Fin 8 → Fin 512 → ℕ → ℝ} {V : Fin 8 → ℕ → Fin 128 → ℝ}
  {X2 : arg2.view.ty.Contents (Elt Ideal)} {X3 : arg3.view.ty.Contents (Elt Ideal)} {X4 : arg4.view.ty.Contents (Elt Ideal)}

/-- One trip: all eight heads take 256 more keys. -/
theorem trip_St (X : Ops s V (arg2.view.read (Elt Ideal) X2) (arg3.view.read (Elt Ideal) X3) (arg4.view.read (Elt Ideal) X4))
    (k : Fin (k0_t1_loop i).trips) (f9 : arg9.view.ty.Contents (Elt Ideal)) (f10 : arg10.view.ty.Contents (Elt Ideal))
    (H : St s V (fun _ _ => 256 * k.val) (arg9.view.read (Elt Ideal) f9) (arg10.view.read (Elt Ideal) f10)) :
    St s V (fun _ _ => 256 * (k.val + 1))
      (arg9.view.read (Elt Ideal) (arg9.view.writes (Elt Ideal) f9 (tripL_k0_t1 (F := Ideal) Variants.none c none i arg2 harg2 arg3 harg3 arg4 harg4 arg5 harg5 arg6 harg6 arg7 harg7 arg8 harg8 arg9 harg9 arg10 harg10 X2 X3 X4 k f9 f10).1))
      (arg10.view.read (Elt Ideal) (arg10.view.writes (Elt Ideal) f10 (tripL_k0_t1 (F := Ideal) Variants.none c none i arg2 harg2 arg3 harg3 arg4 harg4 arg5 harg5 arg6 harg6 arg7 harg7 arg8 harg8 arg9 harg9 arg10 harg10 X2 X3 X4 k f9 f10).2)) := by
  have hk : 256 * k.val + 256 ≤ 4096 := by
    have h1 := k.isLt
    have h2 := trips_eq i
    have h3 : (i 1).val < 8 := (i 1).isLt
    omega
  have hn : (upd (upd (upd (upd (upd (upd (upd (upd (fun _ _ => 256 * k.val) 0 0 512 fun _ => 256 * k.val + 256) 1 0 512 fun _ => 256 * k.val + 256) 2 0 512 fun _ => 256 * k.val + 256) 3 0 512 fun _ => 256 * k.val + 256) 4 0 512 fun _ => 256 * k.val + 256) 5 0 512 fun _ => 256 * k.val + 256) 6 0 512 fun _ => 256 * k.val + 256) 7 0 512 fun _ => 256 * k.val + 256) = fun _ _ => 256 * (k.val + 1) := by
    funext h r
    have := r.isLt
    fin_cases h <;> simp [upd] <;> omega
  rw [← hn]
  unfold tripL_k0_t1 trip_k0_t1
  dsimp only
  refine St.put arg9.view arg10.view 7 0 512 (by omega) (by omega) (fun _ => 256 * k.val + 256) ?_ _ _ _ _ (fun r => ?_)
  rotate_left
  · have e := fun a b c d e' => full_held X H 7 (256 * k.val) (by omega) hk (fun _ => rfl) ![0, 896] (k0_off8 i k) (k0_off8 i k) rfl
      (off_eq7 i k) (off_eq7 i k) a b c d e' r
    exact e _ _ _ _ _
  refine St.put arg9.view arg10.view 6 0 512 (by omega) (by omega) (fun _ => 256 * k.val + 256) ?_ _ _ _ _ (fun r => ?_)
  rotate_left
  · have e := fun a b c d e' => full_held X H 6 (256 * k.val) (by omega) hk (fun _ => rfl) ![0, 768] (k0_off7 i k) (k0_off7 i k) rfl
      (off_eq6 i k) (off_eq6 i k) a b c d e' r
    simp only [← h6_m, ← h6_a] at e
    exact e _ _ _ _ _
  refine St.put arg9.view arg10.view 5 0 512 (by omega) (by omega) (fun _ => 256 * k.val + 256) ?_ _ _ _ _ (fun r => ?_)
  rotate_left
  · have e := fun a b c d e' => full_held X H 5 (256 * k.val) (by omega) hk (fun _ => rfl) ![0, 640] (k0_off6 i k) (k0_off6 i k) rfl
      (off_eq5 i k) (off_eq5 i k) a b c d e' r
    exact e _ _ _ _ _
  refine St.put arg9.view arg10.view 4 0 512 (by omega) (by omega) (fun _ => 256 * k.val + 256) ?_ _ _ _ _ (fun r => ?_)
  rotate_left
  · have e := fun a b c d e' => full_held X H 4 (256 * k.val) (by omega) hk (fun _ => rfl) ![0, 512] (k0_off5 i k) (k0_off5 i k) rfl
      (off_eq4 i k) (off_eq4 i k) a b c d e' r
    exact e _ _ _ _ _
  refine St.put arg9.view arg10.view 3 0 512 (by omega) (by omega) (fun _ => 256 * k.val + 256) ?_ _ _ _ _ (fun r => ?_)
  rotate_left
  · have e := fun a b c d e' => full_held X H 3 (256 * k.val) (by omega) hk (fun _ => rfl) ![0, 384] (k0_off4 i k) (k0_off4 i k) rfl
      (off_eq3 i k) (off_eq3 i k) a b c d e' r
    exact e _ _ _ _ _
  refine St.put arg9.view arg10.view 2 0 512 (by omega) (by omega) (fun _ => 256 * k.val + 256) ?_ _ _ _ _ (fun r => ?_)
  rotate_left
  · have e := fun a b c d e' => full_held X H 2 (256 * k.val) (by omega) hk (fun _ => rfl) ![0, 256] (k0_off3 i k) (k0_off3 i k) rfl
      (off_eq2 i k) (off_eq2 i k) a b c d e' r
    exact e _ _ _ _ _
  refine St.put arg9.view arg10.view 1 0 512 (by omega) (by omega) (fun _ => 256 * k.val + 256) ?_ _ _ _ _ (fun r => ?_)
  rotate_left
  · have e := fun a b c d e' => full_held X H 1 (256 * k.val) (by omega) hk (fun _ => rfl) ![0, 128] (k0_off2 i k) (k0_off2 i k) rfl
      (off_eq1 i k) (off_eq1 i k) a b c d e' r
    exact e _ _ _ _ _
  refine St.put arg9.view arg10.view 0 0 512 (by omega) (by omega) (fun _ => 256 * k.val + 256) ?_ _ _ _ _ (fun r => ?_)
  rotate_left
  · have e := fun a b c d e' => full_held X H 0 (256 * k.val) (by omega) hk (fun _ => rfl) ![0, 0] (k0_off1 i k) (k0_off1 i k) rfl
      (off_eq0 i k) (off_eq0 i k) a b c d e' r
    exact e _ _ _ _ _
  exact H

/-- The trips before the `n`-th: `256 · n` keys. -/
theorem loop_St (X : Ops s V (arg2.view.read (Elt Ideal) X2) (arg3.view.read (Elt Ideal) X3) (arg4.view.read (Elt Ideal) X4))
    (G9 : arg9.view.ty.Contents (Elt Ideal)) (G10 : arg10.view.ty.Contents (Elt Ideal))
    (H : St s V (fun _ _ => 0) (arg9.view.read (Elt Ideal) G9) (arg10.view.read (Elt Ideal) G10)) (n : ℕ) (hn : n ≤ (k0_t1_loop i).trips) :
    St s V (fun _ _ => 256 * n)
      (arg9.view.read (Elt Ideal) (arg9.view.writes (Elt Ideal) G9 (pb_k0_t1 (F := Ideal) Variants.none c none i arg2 harg2 arg3 harg3 arg4 harg4 arg5 harg5 arg6 harg6 arg7 harg7 arg8 harg8 arg9 harg9 arg10 harg10 X2 X3 X4 G9 G10 n).1))
      (arg10.view.read (Elt Ideal) (arg10.view.writes (Elt Ideal) G10 (pb_k0_t1 (F := Ideal) Variants.none c none i arg2 harg2 arg3 harg3 arg4 harg4 arg5 harg5 arg6 harg6 arg7 harg7 arg8 harg8 arg9 harg9 arg10 harg10 X2 X3 X4 G9 G10 n).2)) := by
  induction n with
  | zero => exact H
  | succ n ih =>
    have h := trip_St c i arg2 harg2 arg3 harg3 arg4 harg4 arg5 harg5 arg6 harg6 arg7 harg7 arg8 harg8 arg9 harg9 arg10 harg10 X ⟨n, hn⟩ _ _ (ih (by omega))
    rw [← View.writes_append, ← View.writes_append] at h
    rw [pb_k0_t1_succ (F := Ideal) Variants.none c none i arg2 harg2 arg3 harg3 arg4 harg4 arg5 harg5 arg6 harg6 arg7 harg7 arg8 harg8 arg9 harg9 arg10 harg10 X2 X3 X4 G9 G10 ⟨n, hn⟩]
    exact h

end Cert.FoxTrip

end
-- ==== Proof.FoxDiag.lean ====
module

public import proofs.«01_k».proof.Proof.FoxTrip

@[expose] public section

set_option maxRecDepth 16384

noncomputable section

namespace Cert.FoxDiag

open Cert.FoxIdeal Cert.FoxIdeal.Gen Cert.FoxMath Cert.FoxPay Cert.FoxState Cert.FoxTrip Idealize.ShloMosaic Idealize.ShloMosaic.TcCoe Idealize.SL.Sem

/-! # The two diagonal blocks of keys of a block of queries -/

theorem diag_off0 : ∀ i : grid0.Coords, k0_off17 i 0#32 = ![512 * (i 1).val, 128 * 0] ∧ k0_off17 i 1#32 = ![512 * (i 1).val + 256, 128 * 0] := by
  decide +kernel

theorem diag_off1 : ∀ i : grid0.Coords, k0_off18 i 0#32 = ![512 * (i 1).val, 128 * 1] ∧ k0_off18 i 1#32 = ![512 * (i 1).val + 256, 128 * 1] := by
  decide +kernel

theorem diag_off2 : ∀ i : grid0.Coords, k0_off19 i 0#32 = ![512 * (i 1).val, 128 * 2] ∧ k0_off19 i 1#32 = ![512 * (i 1).val + 256, 128 * 2] := by
  decide +kernel

theorem diag_off3 : ∀ i : grid0.Coords, k0_off20 i 0#32 = ![512 * (i 1).val, 128 * 3] ∧ k0_off20 i 1#32 = ![512 * (i 1).val + 256, 128 * 3] := by
  decide +kernel

theorem diag_off4 : ∀ i : grid0.Coords, k0_off21 i 0#32 = ![512 * (i 1).val, 128 * 4] ∧ k0_off21 i 1#32 = ![512 * (i 1).val + 256, 128 * 4] := by
  decide +kernel

theorem diag_off5 : ∀ i : grid0.Coords, k0_off22 i 0#32 = ![512 * (i 1).val, 128 * 5] ∧ k0_off22 i 1#32 = ![512 * (i 1).val + 256, 128 * 5] := by
  decide +kernel

theorem diag_off6 : ∀ i : grid0.Coords, k0_off23 i 0#32 = ![512 * (i 1).val, 128 * 6] ∧ k0_off23 i 1#32 = ![512 * (i 1).val + 256, 128 * 6] := by
  decide +kernel

theorem diag_off7 : ∀ i : grid0.Coords, k0_off24 i 0#32 = ![512 * (i 1).val, 128 * 7] ∧ k0_off24 i 1#32 = ![512 * (i 1).val + 256, 128 * 7] := by
  decide +kernel

/-- The buffers after the stores `L9`, `L10`. -/
def D (arg9 arg10 : Memref sig .tc .vmem S8x512x128 .f32) (s : Fin 8 → Fin 512 → ℕ → ℝ) (V : Fin 8 → ℕ → Fin 128 → ℝ) (n : Fin 8 → Fin 512 → ℕ)
    (L9 L10 : List (View.Piece (Elt Ideal) S8x512x128 .f32)) : Prop :=
  St s V n (arg9.view.read (Elt Ideal) (arg9.view.writes (Elt Ideal) arg9.view.junk L9))
    (arg10.view.read (Elt Ideal) (arg10.view.writes (Elt Ideal) arg10.view.junk L10))

variable (c : Dev nD) (i : grid0.Coords)
  (arg2 : Memref sig .tc .vmem S512x1024 .bf16) (harg2 : arg2.IsWhole)
  (arg3 : Memref sig .tc .vmem S4096x1024 .bf16) (harg3 : arg3.IsWhole)
  (arg4 : Memref sig .tc .vmem S4096x1024 .bf16) (harg4 : arg4.IsWhole)
  (arg5 : Memref sig .tc .vmem S1x1024 .f32) (harg5 : arg5.IsWhole)
  (arg6 : Memref sig .tc .vmem S256x256 .bf16) (harg6 : arg6.IsWhole)
  (arg7 : Memref sig .tc .vmem S128x128 .bf16) (harg7 : arg7.IsWhole)
  (arg8 : Memref sig .tc .vmem S512x512 .bf16) (harg8 : arg8.IsWhole)
  (arg9 : Memref sig .tc .vmem S8x512x128 .f32) (harg9 : arg9.IsWhole)
  (arg10 : Memref sig .tc .vmem S8x512x128 .f32) (harg10 : arg10.IsWhole)
  (x0 : Vec Ideal S512x1024 .bf16) (x1 x2 : Vec Ideal S4096x1024 .bf16)
  {s : Fin 8 → Fin 512 → ℕ → ℝ} {V : Fin 8 → ℕ → Fin 128 → ℝ}

/-- One head's diagonal block. -/
theorem tri_step (X : Ops s V x0 x1 x2) (h o n0 : ℕ) (T : ℕ) (hT : n0 = T + o) (hh : h < 8) (ho : o + 256 ≤ 512) (hn0 : n0 + 256 ≤ 4096) (offq offk : Fin 2 → ℕ)
    (hq : offq = ![o, 128 * h]) (hk : offk = ![n0, 128 * h])
    {n : Fin 8 → Fin 512 → ℕ} {L9 L10 : List (View.Piece (Elt Ideal) S8x512x128 .f32)} (H : D arg9 arg10 s V n L9 L10)
    (hn : ∀ r : Fin 256, n ⟨h, hh⟩ ⟨o + r, by omega⟩ = n0) (inq ink inv in9 in10 in9' in10') :
    D arg9 arg10 s V (upd n h o 256 fun r => T + r + 1)
      ((⟨Rect.unit (s := S8x512x128) ![h, o, 0] ![1, 256, 128] in9, k0_pay103 (F := Ideal) (k0_pay101 kernelRun0_A.sl.v31 kernelRun0_A.sl.v32 (arg2.view.readAt (Elt Ideal) (Rect.unit (s := S512x1024) offq ![256, 128] inq).toLoadRect (harg2.unread x0)) (arg3.view.readAt (Elt Ideal) (Rect.unit (s := S4096x1024) offk ![256, 128] ink).toLoadRect (harg3.unread x1)) (arg9.view.readCov L9 (Rect.unit (s := S8x512x128) ![h, o, 0] ![1, 256, 128] in9').toLoadRect))⟩ : View.Piece (Elt Ideal) S8x512x128 .f32) :: L9)
      ((⟨Rect.unit (s := S8x512x128) ![h, o, 0] ![1, 256, 128] in10, k0_pay102 (F := Ideal) kernelRun0_A.sl.v31 kernelRun0_A.sl.v32 (arg2.view.readAt (Elt Ideal) (Rect.unit (s := S512x1024) offq ![256, 128] inq).toLoadRect (harg2.unread x0)) (arg3.view.readAt (Elt Ideal) (Rect.unit (s := S4096x1024) offk ![256, 128] ink).toLoadRect (harg3.unread x1)) (arg9.view.readCov L9 (Rect.unit (s := S8x512x128) ![h, o, 0] ![1, 256, 128] in9').toLoadRect) (arg10.view.readCov L10 (Rect.unit (s := S8x512x128) ![h, o, 0] ![1, 256, 128] in10').toLoadRect) (arg4.view.readAt (Elt Ideal) (Rect.unit (s := S4096x1024) offk ![256, 128] inv).toLoadRect (harg4.unread x2))⟩ : View.Piece (Elt Ideal) S8x512x128 .f32) :: L10) := by
  have X' : Ops s V (arg2.view.read (Elt Ideal) (harg2.unread x0)) (arg3.view.read (Elt Ideal) (harg3.unread x1)) (arg4.view.read (Elt Ideal) (harg4.unread x2)) := by
    rw [harg2.read_unread, harg3.read_unread, harg4.read_unread]; exact X
  refine St.put arg9.view arg10.view h o 256 hh ho (fun r => T + r + 1) H _ _ _ _ fun r => ?_
  have e := tri_held (v9 := arg9.view) (v10 := arg10.view) (v4 := arg4.view) (f4 := harg4.unread x2) X' H h o n0 hh ho hn0 hn offq offk offk hq hk hk inq ink inv in9' in10' r
  have e2 : n0 + (r.val + 1) = T + (o + r.val) + 1 := by omega
  rw [e2] at e
  exact e

/-- One head's block below the diagonal. -/
theorem sq_step (X : Ops s V x0 x1 x2) (h o n0 : ℕ) (hh : h < 8) (ho : o + 256 ≤ 512) (hn0 : n0 + 256 ≤ 4096) (offq offk : Fin 2 → ℕ)
    (hq : offq = ![o, 128 * h]) (hk : offk = ![n0, 128 * h])
    {n : Fin 8 → Fin 512 → ℕ} {L9 L10 : List (View.Piece (Elt Ideal) S8x512x128 .f32)} (H : D arg9 arg10 s V n L9 L10)
    (hn : ∀ r : Fin 256, n ⟨h, hh⟩ ⟨o + r, by omega⟩ = n0) (inq ink inv in9 in10 in9' in10') :
    D arg9 arg10 s V (upd n h o 256 fun _ => n0 + 256)
      ((⟨Rect.unit (s := S8x512x128) ![h, o, 0] ![1, 256, 128] in9, k0_pay143 (F := Ideal) (arg2.view.readAt (Elt Ideal) (Rect.unit (s := S512x1024) offq ![256, 128] inq).toLoadRect (harg2.unread x0)) (arg3.view.readAt (Elt Ideal) (Rect.unit (s := S4096x1024) offk ![256, 128] ink).toLoadRect (harg3.unread x1)) (arg9.view.readCov L9 (Rect.unit (s := S8x512x128) ![h, o, 0] ![1, 256, 128] in9').toLoadRect)⟩ : View.Piece (Elt Ideal) S8x512x128 .f32) :: L9)
      ((⟨Rect.unit (s := S8x512x128) ![h, o, 0] ![1, 256, 128] in10, k0_pay142 (F := Ideal) (arg2.view.readAt (Elt Ideal) (Rect.unit (s := S512x1024) offq ![256, 128] inq).toLoadRect (harg2.unread x0)) (arg3.view.readAt (Elt Ideal) (Rect.unit (s := S4096x1024) offk ![256, 128] ink).toLoadRect (harg3.unread x1)) (arg9.view.readCov L9 (Rect.unit (s := S8x512x128) ![h, o, 0] ![1, 256, 128] in9').toLoadRect) (arg10.view.readCov L10 (Rect.unit (s := S8x512x128) ![h, o, 0] ![1, 256, 128] in10').toLoadRect) (arg4.view.readAt (Elt Ideal) (Rect.unit (s := S4096x1024) offk ![256, 128] inv).toLoadRect (harg4.unread x2))⟩ : View.Piece (Elt Ideal) S8x512x128 .f32) :: L10) := by
  have X' : Ops s V (arg2.view.read (Elt Ideal) (harg2.unread x0)) (arg3.view.read (Elt Ideal) (harg3.unread x1)) (arg4.view.read (Elt Ideal) (harg4.unread x2)) := by
    rw [harg2.read_unread, harg3.read_unread, harg4.read_unread]; exact X
  refine St.put arg9.view arg10.view h o 256 hh ho (fun _ => n0 + 256) H _ _ _ _ fun r => ?_
  exact sq_held (v9 := arg9.view) (v10 := arg10.view) (v4 := arg4.view) (f4 := harg4.unread x2) X' H h o n0 hh ho hn0 hn offq offk offk hq hk hk inq ink inv in9' in10' r

theorem t2_trips : ∀ i : grid0.Coords, Scf.trips (k0_t2_loop i).lb (k0_t2_loop i).ub (k0_t2_loop i).st = 0 := by
  decide +kernel

theorem t1_trips (i : grid0.Coords) : Scf.trips (k0_t1_loop i).lb (k0_t1_loop i).ub (k0_t1_loop i).st = 2 * (i 1).val := trips_eq i

/-- The buffers as first filled: no key is held. -/
theorem d00 : D arg9 arg10 s V (fun _ _ => 0) (kernelRun0_A.sl.HS0_1 (F := Ideal)) (kernelRun0_A.sl.HS1_1 (F := Ideal)) := by
  intro h r
  have e9 : ∀ y, arg9.view.read (Elt Ideal) (arg9.view.writes (Elt Ideal) arg9.view.junk (kernelRun0_A.sl.HS0_1 (F := Ideal))) y = k0_pay92 (F := Ideal) y := fun y => by
    unfold kernelRun0_A.sl.HS0_1
    frame_out
  have e10 : ∀ y, arg10.view.read (Elt Ideal) (arg10.view.writes (Elt Ideal) arg10.view.junk (kernelRun0_A.sl.HS1_1 (F := Ideal))) y = k0_pay93 (F := Ideal) y := fun y => by
    unfold kernelRun0_A.sl.HS1_1
    frame_out
  exact Or.inl ⟨rfl, fun l => ⟨(e9 _).trans (init_m h r l), (e10 _).trans (init_a h r l)⟩⟩

/-- The buffers after the loop over the earlier blocks of keys. -/
theorem d01 (X : Ops s V x0 x1 x2) (n : ℕ) (hn : n ≤ (k0_t1_loop i).trips) :
    D arg9 arg10 s V (fun _ _ => 256 * n)
      ((pb_k0_t1 (F := Ideal) Variants.none c none i arg2 harg2 arg3 harg3 arg4 harg4 arg5 harg5 arg6 harg6 arg7 harg7 arg8 harg8 arg9 harg9 arg10 harg10 (harg2.unread x0) (harg3.unread x1) (harg4.unread x2)
          (arg9.view.writes (Elt Ideal) arg9.view.junk (kernelRun0_A.sl.HS0_1 (F := Ideal))) (arg10.view.writes (Elt Ideal) arg10.view.junk (kernelRun0_A.sl.HS1_1 (F := Ideal))) n).1 ++ kernelRun0_A.sl.HS0_1 (F := Ideal))
      ((pb_k0_t1 (F := Ideal) Variants.none c none i arg2 harg2 arg3 harg3 arg4 harg4 arg5 harg5 arg6 harg6 arg7 harg7 arg8 harg8 arg9 harg9 arg10 harg10 (harg2.unread x0) (harg3.unread x1) (harg4.unread x2)
          (arg9.view.writes (Elt Ideal) arg9.view.junk (kernelRun0_A.sl.HS0_1 (F := Ideal))) (arg10.view.writes (Elt Ideal) arg10.view.junk (kernelRun0_A.sl.HS1_1 (F := Ideal))) n).2 ++ kernelRun0_A.sl.HS1_1 (F := Ideal)) := by
  have X' : Ops s V (arg2.view.read (Elt Ideal) (harg2.unread x0)) (arg3.view.read (Elt Ideal) (harg3.unread x1)) (arg4.view.read (Elt Ideal) (harg4.unread x2)) := by
    rw [harg2.read_unread, harg3.read_unread, harg4.read_unread]; exact X
  unfold D
  rw [View.writes_append, View.writes_append]
  exact loop_St c i arg2 harg2 arg3 harg3 arg4 harg4 arg5 harg5 arg6 harg6 arg7 harg7 arg8 harg8 arg9 harg9 arg10 harg10 X' _ _ (d00 arg9 arg10) n hn

theorem d1 (X : Ops s V x0 x1 x2) :
    D arg9 arg10 s V (upd (fun _ _ => 512 * (i 1).val) 0 0 256 fun r => 512 * (i 1).val + r + 1) (kernelRun0_A.sl.HS0_1_1 (F := Ideal) c i arg2 harg2 arg3 harg3 arg4 harg4 arg5 harg5 arg6 harg6 arg7 harg7 arg8 harg8 arg9 harg9 arg10 harg10 x0 x1 x2) (kernelRun0_A.sl.HS1_1_1 (F := Ideal) c i arg2 harg2 arg3 harg3 arg4 harg4 arg5 harg5 arg6 harg6 arg7 harg7 arg8 harg8 arg9 harg9 arg10 harg10 x0 x1 x2) := by
  have hi : (i 1).val < 8 := (i 1).isLt
  have H := d01 c i arg2 harg2 arg3 harg3 arg4 harg4 arg5 harg5 arg6 harg6 arg7 harg7 arg8 harg8 arg9 harg9 arg10 harg10 x0 x1 x2 X (2 * (i 1).val) (le_of_eq (trips_eq i).symm)
  rw [show 256 * (2 * (i 1).val) = 512 * (i 1).val by omega] at H
  have e := tri_step arg2 harg2 arg3 harg3 arg4 harg4 arg9 arg10 x0 x1 x2 X 0 0 (512 * (i 1).val) (512 * (i 1).val) (by omega) (by omega) (by omega) (by omega) ![0, 0] (k0_off17 i 0#32) rfl (diag_off0 i).1 H (fun _ => rfl)
  unfold kernelRun0_A.sl.HS0_1_1 kernelRun0_A.sl.HS1_1_1 kernelRun0_A.sl.r kernelRun0_A.sl.v47 kernelRun0_A.sl.v58
  rw [t2_trips, t1_trips]
  exact e _ _ _ _ _ _ _

theorem p14_m (q k : Vec Ideal S256x128 .bf16) (m : Vec Ideal S1x256x128 .f32) :
    k0_pay171 (F := Ideal) (k0_pay167 m) (k0_pay168 q k) = k0_pay143 q k m := by
  simp only [k0_pay171, k0_pay169, k0_pay167, k0_pay168, k0_pay166, k0_pay143, k0_pay141, k0_pay140, k0_pay139]

theorem p14_a (q k v : Vec Ideal S256x128 .bf16) (m a : Vec Ideal S1x256x128 .f32) :
    k0_pay170 (F := Ideal) (k0_pay166 q k) (k0_pay167 m) (k0_pay168 q k) a v = k0_pay142 q k m a v := by
  simp only [k0_pay170, k0_pay169, k0_pay167, k0_pay168, k0_pay166, k0_pay142, k0_pay141, k0_pay140, k0_pay139]

theorem d2 (X : Ops s V x0 x1 x2) {n : Fin 8 → Fin 512 → ℕ} (H : D arg9 arg10 s V n (kernelRun0_A.sl.HS0_1_1 (F := Ideal) c i arg2 harg2 arg3 harg3 arg4 harg4 arg5 harg5 arg6 harg6 arg7 harg7 arg8 harg8 arg9 harg9 arg10 harg10 x0 x1 x2) (kernelRun0_A.sl.HS1_1_1 (F := Ideal) c i arg2 harg2 arg3 harg3 arg4 harg4 arg5 harg5 arg6 harg6 arg7 harg7 arg8 harg8 arg9 harg9 arg10 harg10 x0 x1 x2))
    (hn : ∀ r : Fin 256, n ⟨1, by omega⟩ ⟨0 + r, by omega⟩ = 512 * (i 1).val) :
    D arg9 arg10 s V (upd n 1 0 256 fun r => 512 * (i 1).val + r + 1) (kernelRun0_A.sl.HS0_2 (F := Ideal) c i arg2 harg2 arg3 harg3 arg4 harg4 arg5 harg5 arg6 harg6 arg7 harg7 arg8 harg8 arg9 harg9 arg10 harg10 x0 x1 x2) (kernelRun0_A.sl.HS1_2 (F := Ideal) c i arg2 harg2 arg3 harg3 arg4 harg4 arg5 harg5 arg6 harg6 arg7 harg7 arg8 harg8 arg9 harg9 arg10 harg10 x0 x1 x2) := by
  have hi : (i 1).val < 8 := (i 1).isLt
  have e := tri_step arg2 harg2 arg3 harg3 arg4 harg4 arg9 arg10 x0 x1 x2 X 1 0 (512 * (i 1).val) (512 * (i 1).val) (by omega) (by omega) (by omega) (by omega) ![0, 128] (k0_off18 i 0#32) rfl (diag_off1 i).1 H hn
  unfold kernelRun0_A.sl.HS0_2 kernelRun0_A.sl.HS1_2
  exact e _ _ _ _ _ _ _

theorem d3 (X : Ops s V x0 x1 x2) {n : Fin 8 → Fin 512 → ℕ} (H : D arg9 arg10 s V n (kernelRun0_A.sl.HS0_2 (F := Ideal) c i arg2 harg2 arg3 harg3 arg4 harg4 arg5 harg5 arg6 harg6 arg7 harg7 arg8 harg8 arg9 harg9 arg10 harg10 x0 x1 x2) (kernelRun0_A.sl.HS1_2 (F := Ideal) c i arg2 harg2 arg3 harg3 arg4 harg4 arg5 harg5 arg6 harg6 arg7 harg7 arg8 harg8 arg9 harg9 arg10 harg10 x0 x1 x2))
    (hn : ∀ r : Fin 256, n ⟨2, by omega⟩ ⟨0 + r, by omega⟩ = 512 * (i 1).val) :
    D arg9 arg10 s V (upd n 2 0 256 fun r => 512 * (i 1).val + r + 1) (kernelRun0_A.sl.HS0_3 (F := Ideal) c i arg2 harg2 arg3 harg3 arg4 harg4 arg5 harg5 arg6 harg6 arg7 harg7 arg8 harg8 arg9 harg9 arg10 harg10 x0 x1 x2) (kernelRun0_A.sl.HS1_3 (F := Ideal) c i arg2 harg2 arg3 harg3 arg4 harg4 arg5 harg5 arg6 harg6 arg7 harg7 arg8 harg8 arg9 harg9 arg10 harg10 x0 x1 x2) := by
  have hi : (i 1).val < 8 := (i 1).isLt
  have e := tri_step arg2 harg2 arg3 harg3 arg4 harg4 arg9 arg10 x0 x1 x2 X 2 0 (512 * (i 1).val) (512 * (i 1).val) (by omega) (by omega) (by omega) (by omega) ![0, 256] (k0_off19 i 0#32) rfl (diag_off2 i).1 H hn
  unfold kernelRun0_A.sl.HS0_3 kernelRun0_A.sl.HS1_3
  exact e _ _ _ _ _ _ _

theorem d4 (X : Ops s V x0 x1 x2) {n : Fin 8 → Fin 512 → ℕ} (H : D arg9 arg10 s V n (kernelRun0_A.sl.HS0_3 (F := Ideal) c i arg2 harg2 arg3 harg3 arg4 harg4 arg5 harg5 arg6 harg6 arg7 harg7 arg8 harg8 arg9 harg9 arg10 harg10 x0 x1 x2) (kernelRun0_A.sl.HS1_3 (F := Ideal) c i arg2 harg2 arg3 harg3 arg4 harg4 arg5 harg5 arg6 harg6 arg7 harg7 arg8 harg8 arg9 harg9 arg10 harg10 x0 x1 x2))
    (hn : ∀ r : Fin 256, n ⟨3, by omega⟩ ⟨0 + r, by omega⟩ = 512 * (i 1).val) :
    D arg9 arg10 s V (upd n 3 0 256 fun r => 512 * (i 1).val + r + 1) (kernelRun0_A.sl.HS0_4 (F := Ideal) c i arg2 harg2 arg3 harg3 arg4 harg4 arg5 harg5 arg6 harg6 arg7 harg7 arg8 harg8 arg9 harg9 arg10 harg10 x0 x1 x2) (kernelRun0_A.sl.HS1_4 (F := Ideal) c i arg2 harg2 arg3 harg3 arg4 harg4 arg5 harg5 arg6 harg6 arg7 harg7 arg8 harg8 arg9 harg9 arg10 harg10 x0 x1 x2) := by
  have hi : (i 1).val < 8 := (i 1).isLt
  have e := tri_step arg2 harg2 arg3 harg3 arg4 harg4 arg9 arg10 x0 x1 x2 X 3 0 (512 * (i 1).val) (512 * (i 1).val) (by omega) (by omega) (by omega) (by omega) ![0, 384] (k0_off20 i 0#32) rfl (diag_off3 i).1 H hn
  unfold kernelRun0_A.sl.HS0_4 kernelRun0_A.sl.HS1_4
  exact e _ _ _ _ _ _ _

theorem d5 (X : Ops s V x0 x1 x2) {n : Fin 8 → Fin 512 → ℕ} (H : D arg9 arg10 s V n (kernelRun0_A.sl.HS0_4 (F := Ideal) c i arg2 harg2 arg3 harg3 arg4 harg4 arg5 harg5 arg6 harg6 arg7 harg7 arg8 harg8 arg9 harg9 arg10 harg10 x0 x1 x2) (kernelRun0_A.sl.HS1_4 (F := Ideal) c i arg2 harg2 arg3 harg3 arg4 harg4 arg5 harg5 arg6 harg6 arg7 harg7 arg8 harg8 arg9 harg9 arg10 harg10 x0 x1 x2))
    (hn : ∀ r : Fin 256, n ⟨4, by omega⟩ ⟨0 + r, by omega⟩ = 512 * (i 1).val) :
    D arg9 arg10 s V (upd n 4 0 256 fun r => 512 * (i 1).val + r + 1) (kernelRun0_A.sl.HS0_5 (F := Ideal) c i arg2 harg2 arg3 harg3 arg4 harg4 arg5 harg5 arg6 harg6 arg7 harg7 arg8 harg8 arg9 harg9 arg10 harg10 x0 x1 x2) (kernelRun0_A.sl.HS1_5 (F := Ideal) c i arg2 harg2 arg3 harg3 arg4 harg4 arg5 harg5 arg6 harg6 arg7 harg7 arg8 harg8 arg9 harg9 arg10 harg10 x0 x1 x2) := by
  have hi : (i 1).val < 8 := (i 1).isLt
  have e := tri_step arg2 harg2 arg3 harg3 arg4 harg4 arg9 arg10 x0 x1 x2 X 4 0 (512 * (i 1).val) (512 * (i 1).val) (by omega) (by omega) (by omega) (by omega) ![0, 512] (k0_off21 i 0#32) rfl (diag_off4 i).1 H hn
  unfold kernelRun0_A.sl.HS0_5 kernelRun0_A.sl.HS1_5
  exact e _ _ _ _ _ _ _

theorem d6 (X : Ops s V x0 x1 x2) {n : Fin 8 → Fin 512 → ℕ} (H : D arg9 arg10 s V n (kernelRun0_A.sl.HS0_5 (F := Ideal) c i arg2 harg2 arg3 harg3 arg4 harg4 arg5 harg5 arg6 harg6 arg7 harg7 arg8 harg8 arg9 harg9 arg10 harg10 x0 x1 x2) (kernelRun0_A.sl.HS1_5 (F := Ideal) c i arg2 harg2 arg3 harg3 arg4 harg4 arg5 harg5 arg6 harg6 arg7 harg7 arg8 harg8 arg9 harg9 arg10 harg10 x0 x1 x2))
    (hn : ∀ r : Fin 256, n ⟨5, by omega⟩ ⟨0 + r, by omega⟩ = 512 * (i 1).val) :
    D arg9 arg10 s V (upd n 5 0 256 fun r => 512 * (i 1).val + r + 1) (kernelRun0_A.sl.HS0_6 (F := Ideal) c i arg2 harg2 arg3 harg3 arg4 harg4 arg5 harg5 arg6 harg6 arg7 harg7 arg8 harg8 arg9 harg9 arg10 harg10 x0 x1 x2) (kernelRun0_A.sl.HS1_6 (F := Ideal) c i arg2 harg2 arg3 harg3 arg4 harg4 arg5 harg5 arg6 harg6 arg7 harg7 arg8 harg8 arg9 harg9 arg10 harg10 x0 x1 x2) := by
  have hi : (i 1).val < 8 := (i 1).isLt
  have e := tri_step arg2 harg2 arg3 harg3 arg4 harg4 arg9 arg10 x0 x1 x2 X 5 0 (512 * (i 1).val) (512 * (i 1).val) (by omega) (by omega) (by omega) (by omega) ![0, 640] (k0_off22 i 0#32) rfl (diag_off5 i).1 H hn
  unfold kernelRun0_A.sl.HS0_6 kernelRun0_A.sl.HS1_6
  exact e _ _ _ _ _ _ _

theorem d7 (X : Ops s V x0 x1 x2) {n : Fin 8 → Fin 512 → ℕ} (H : D arg9 arg10 s V n (kernelRun0_A.sl.HS0_6 (F := Ideal) c i arg2 harg2 arg3 harg3 arg4 harg4 arg5 harg5 arg6 harg6 arg7 harg7 arg8 harg8 arg9 harg9 arg10 harg10 x0 x1 x2) (kernelRun0_A.sl.HS1_6 (F := Ideal) c i arg2 harg2 arg3 harg3 arg4 harg4 arg5 harg5 arg6 harg6 arg7 harg7 arg8 harg8 arg9 harg9 arg10 harg10 x0 x1 x2))
    (hn : ∀ r : Fin 256, n ⟨6, by omega⟩ ⟨0 + r, by omega⟩ = 512 * (i 1).val) :
    D arg9 arg10 s V (upd n 6 0 256 fun r => 512 * (i 1).val + r + 1) (kernelRun0_A.sl.HS0_7 (F := Ideal) c i arg2 harg2 arg3 harg3 arg4 harg4 arg5 harg5 arg6 harg6 arg7 harg7 arg8 harg8 arg9 harg9 arg10 harg10 x0 x1 x2) (kernelRun0_A.sl.HS1_7 (F := Ideal) c i arg2 harg2 arg3 harg3 arg4 harg4 arg5 harg5 arg6 harg6 arg7 harg7 arg8 harg8 arg9 harg9 arg10 harg10 x0 x1 x2) := by
  have hi : (i 1).val < 8 := (i 1).isLt
  have e := tri_step arg2 harg2 arg3 harg3 arg4 harg4 arg9 arg10 x0 x1 x2 X 6 0 (512 * (i 1).val) (512 * (i 1).val) (by omega) (by omega) (by omega) (by omega) ![0, 768] (k0_off23 i 0#32) rfl (diag_off6 i).1 H hn
  unfold kernelRun0_A.sl.HS0_7 kernelRun0_A.sl.HS1_7
  exact e _ _ _ _ _ _ _

theorem d8 (X : Ops s V x0 x1 x2) {n : Fin 8 → Fin 512 → ℕ} (H : D arg9 arg10 s V n (kernelRun0_A.sl.HS0_7 (F := Ideal) c i arg2 harg2 arg3 harg3 arg4 harg4 arg5 harg5 arg6 harg6 arg7 harg7 arg8 harg8 arg9 harg9 arg10 harg10 x0 x1 x2) (kernelRun0_A.sl.HS1_7 (F := Ideal) c i arg2 harg2 arg3 harg3 arg4 harg4 arg5 harg5 arg6 harg6 arg7 harg7 arg8 harg8 arg9 harg9 arg10 harg10 x0 x1 x2))
    (hn : ∀ r : Fin 256, n ⟨7, by omega⟩ ⟨0 + r, by omega⟩ = 512 * (i 1).val) :
    D arg9 arg10 s V (upd n 7 0 256 fun r => 512 * (i 1).val + r + 1) (kernelRun0_A.sl.HS0_8 (F := Ideal) c i arg2 harg2 arg3 harg3 arg4 harg4 arg5 harg5 arg6 harg6 arg7 harg7 arg8 harg8 arg9 harg9 arg10 harg10 x0 x1 x2) (kernelRun0_A.sl.HS1_8 (F := Ideal) c i arg2 harg2 arg3 harg3 arg4 harg4 arg5 harg5 arg6 harg6 arg7 harg7 arg8 harg8 arg9 harg9 arg10 harg10 x0 x1 x2) := by
  have hi : (i 1).val < 8 := (i 1).isLt
  have e := tri_step arg2 harg2 arg3 harg3 arg4 harg4 arg9 arg10 x0 x1 x2 X 7 0 (512 * (i 1).val) (512 * (i 1).val) (by omega) (by omega) (by omega) (by omega) ![0, 896] (k0_off24 i 0#32) rfl (diag_off7 i).1 H hn
  unfold kernelRun0_A.sl.HS0_8 kernelRun0_A.sl.HS1_8
  exact e _ _ _ _ _ _ _

theorem d9 (X : Ops s V x0 x1 x2) {n : Fin 8 → Fin 512 → ℕ} (H : D arg9 arg10 s V n (kernelRun0_A.sl.HS0_8 (F := Ideal) c i arg2 harg2 arg3 harg3 arg4 harg4 arg5 harg5 arg6 harg6 arg7 harg7 arg8 harg8 arg9 harg9 arg10 harg10 x0 x1 x2) (kernelRun0_A.sl.HS1_8 (F := Ideal) c i arg2 harg2 arg3 harg3 arg4 harg4 arg5 harg5 arg6 harg6 arg7 harg7 arg8 harg8 arg9 harg9 arg10 harg10 x0 x1 x2))
    (hn : ∀ r : Fin 256, n ⟨0, by omega⟩ ⟨256 + r, by omega⟩ = 512 * (i 1).val) :
    D arg9 arg10 s V (upd n 0 256 256 fun _ => 512 * (i 1).val + 256) (kernelRun0_A.sl.HS0_9 (F := Ideal) c i arg2 harg2 arg3 harg3 arg4 harg4 arg5 harg5 arg6 harg6 arg7 harg7 arg8 harg8 arg9 harg9 arg10 harg10 x0 x1 x2) (kernelRun0_A.sl.HS1_9 (F := Ideal) c i arg2 harg2 arg3 harg3 arg4 harg4 arg5 harg5 arg6 harg6 arg7 harg7 arg8 harg8 arg9 harg9 arg10 harg10 x0 x1 x2) := by
  have hi : (i 1).val < 8 := (i 1).isLt
  have e := sq_step arg2 harg2 arg3 harg3 arg4 harg4 arg9 arg10 x0 x1 x2 X 0 256 (512 * (i 1).val) (by omega) (by omega) (by omega) ![256, 0] (k0_off17 i 0#32) rfl (diag_off0 i).1 H hn
  unfold kernelRun0_A.sl.HS0_9 kernelRun0_A.sl.HS1_9
  exact e _ _ _ _ _ _ _

theorem d10 (X : Ops s V x0 x1 x2) {n : Fin 8 → Fin 512 → ℕ} (H : D arg9 arg10 s V n (kernelRun0_A.sl.HS0_9 (F := Ideal) c i arg2 harg2 arg3 harg3 arg4 harg4 arg5 harg5 arg6 harg6 arg7 harg7 arg8 harg8 arg9 harg9 arg10 harg10 x0 x1 x2) (kernelRun0_A.sl.HS1_9 (F := Ideal) c i arg2 harg2 arg3 harg3 arg4 harg4 arg5 harg5 arg6 harg6 arg7 harg7 arg8 harg8 arg9 harg9 arg10 harg10 x0 x1 x2))
    (hn : ∀ r : Fin 256, n ⟨1, by omega⟩ ⟨256 + r, by omega⟩ = 512 * (i 1).val) :
    D arg9 arg10 s V (upd n 1 256 256 fun _ => 512 * (i 1).val + 256) (kernelRun0_A.sl.HS0_10 (F := Ideal) c i arg2 harg2 arg3 harg3 arg4 harg4 arg5 harg5 arg6 harg6 arg7 harg7 arg8 harg8 arg9 harg9 arg10 harg10 x0 x1 x2) (kernelRun0_A.sl.HS1_10 (F := Ideal) c i arg2 harg2 arg3 harg3 arg4 harg4 arg5 harg5 arg6 harg6 arg7 harg7 arg8 harg8 arg9 harg9 arg10 harg10 x0 x1 x2) := by
  have hi : (i 1).val < 8 := (i 1).isLt
  have e := sq_step arg2 harg2 arg3 harg3 arg4 harg4 arg9 arg10 x0 x1 x2 X 1 256 (512 * (i 1).val) (by omega) (by omega) (by omega) ![256, 128] (k0_off18 i 0#32) rfl (diag_off1 i).1 H hn
  unfold kernelRun0_A.sl.HS0_10 kernelRun0_A.sl.HS1_10
  exact e _ _ _ _ _ _ _

theorem d11 (X : Ops s V x0 x1 x2) {n : Fin 8 → Fin 512 → ℕ} (H : D arg9 arg10 s V n (kernelRun0_A.sl.HS0_10 (F := Ideal) c i arg2 harg2 arg3 harg3 arg4 harg4 arg5 harg5 arg6 harg6 arg7 harg7 arg8 harg8 arg9 harg9 arg10 harg10 x0 x1 x2) (kernelRun0_A.sl.HS1_10 (F := Ideal) c i arg2 harg2 arg3 harg3 arg4 harg4 arg5 harg5 arg6 harg6 arg7 harg7 arg8 harg8 arg9 harg9 arg10 harg10 x0 x1 x2))
    (hn : ∀ r : Fin 256, n ⟨2, by omega⟩ ⟨256 + r, by omega⟩ = 512 * (i 1).val) :
    D arg9 arg10 s V (upd n 2 256 256 fun _ => 512 * (i 1).val + 256) (kernelRun0_A.sl.HS0_11 (F := Ideal) c i arg2 harg2 arg3 harg3 arg4 harg4 arg5 harg5 arg6 harg6 arg7 harg7 arg8 harg8 arg9 harg9 arg10 harg10 x0 x1 x2) (kernelRun0_A.sl.HS1_11 (F := Ideal) c i arg2 harg2 arg3 harg3 arg4 harg4 arg5 harg5 arg6 harg6 arg7 harg7 arg8 harg8 arg9 harg9 arg10 harg10 x0 x1 x2) := by
  have hi : (i 1).val < 8 := (i 1).isLt
  have e := sq_step arg2 harg2 arg3 harg3 arg4 harg4 arg9 arg10 x0 x1 x2 X 2 256 (512 * (i 1).val) (by omega) (by omega) (by omega) ![256, 256] (k0_off19 i 0#32) rfl (diag_off2 i).1 H hn
  unfold kernelRun0_A.sl.HS0_11 kernelRun0_A.sl.HS1_11
  exact e _ _ _ _ _ _ _

theorem d12 (X : Ops s V x0 x1 x2) {n : Fin 8 → Fin 512 → ℕ} (H : D arg9 arg10 s V n (kernelRun0_A.sl.HS0_11 (F := Ideal) c i arg2 harg2 arg3 harg3 arg4 harg4 arg5 harg5 arg6 harg6 arg7 harg7 arg8 harg8 arg9 harg9 arg10 harg10 x0 x1 x2) (kernelRun0_A.sl.HS1_11 (F := Ideal) c i arg2 harg2 arg3 harg3 arg4 harg4 arg5 harg5 arg6 harg6 arg7 harg7 arg8 harg8 arg9 harg9 arg10 harg10 x0 x1 x2))
    (hn : ∀ r : Fin 256, n ⟨3, by omega⟩ ⟨256 + r, by omega⟩ = 512 * (i 1).val) :
    D arg9 arg10 s V (upd n 3 256 256 fun _ => 512 * (i 1).val + 256) (kernelRun0_A.sl.HS0_12 (F := Ideal) c i arg2 harg2 arg3 harg3 arg4 harg4 arg5 harg5 arg6 harg6 arg7 harg7 arg8 harg8 arg9 harg9 arg10 harg10 x0 x1 x2) (kernelRun0_A.sl.HS1_12 (F := Ideal) c i arg2 harg2 arg3 harg3 arg4 harg4 arg5 harg5 arg6 harg6 arg7 harg7 arg8 harg8 arg9 harg9 arg10 harg10 x0 x1 x2) := by
  have hi : (i 1).val < 8 := (i 1).isLt
  have e := sq_step arg2 harg2 arg3 harg3 arg4 harg4 arg9 arg10 x0 x1 x2 X 3 256 (512 * (i 1).val) (by omega) (by omega) (by omega) ![256, 384] (k0_off20 i 0#32) rfl (diag_off3 i).1 H hn
  unfold kernelRun0_A.sl.HS0_12 kernelRun0_A.sl.HS1_12
  exact e _ _ _ _ _ _ _

theorem d13 (X : Ops s V x0 x1 x2) {n : Fin 8 → Fin 512 → ℕ} (H : D arg9 arg10 s V n (kernelRun0_A.sl.HS0_12 (F := Ideal) c i arg2 harg2 arg3 harg3 arg4 harg4 arg5 harg5 arg6 harg6 arg7 harg7 arg8 harg8 arg9 harg9 arg10 harg10 x0 x1 x2) (kernelRun0_A.sl.HS1_12 (F := Ideal) c i arg2 harg2 arg3 harg3 arg4 harg4 arg5 harg5 arg6 harg6 arg7 harg7 arg8 harg8 arg9 harg9 arg10 harg10 x0 x1 x2))
    (hn : ∀ r : Fin 256, n ⟨4, by omega⟩ ⟨256 + r, by omega⟩ = 512 * (i 1).val) :
    D arg9 arg10 s V (upd n 4 256 256 fun _ => 512 * (i 1).val + 256) (kernelRun0_A.sl.HS0_13 (F := Ideal) c i arg2 harg2 arg3 harg3 arg4 harg4 arg5 harg5 arg6 harg6 arg7 harg7 arg8 harg8 arg9 harg9 arg10 harg10 x0 x1 x2) (kernelRun0_A.sl.HS1_13 (F := Ideal) c i arg2 harg2 arg3 harg3 arg4 harg4 arg5 harg5 arg6 harg6 arg7 harg7 arg8 harg8 arg9 harg9 arg10 harg10 x0 x1 x2) := by
  have hi : (i 1).val < 8 := (i 1).isLt
  have e := sq_step arg2 harg2 arg3 harg3 arg4 harg4 arg9 arg10 x0 x1 x2 X 4 256 (512 * (i 1).val) (by omega) (by omega) (by omega) ![256, 512] (k0_off21 i 0#32) rfl (diag_off4 i).1 H hn
  unfold kernelRun0_A.sl.HS0_13 kernelRun0_A.sl.HS1_13
  exact e _ _ _ _ _ _ _

theorem d14 (X : Ops s V x0 x1 x2) {n : Fin 8 → Fin 512 → ℕ} (H : D arg9 arg10 s V n (kernelRun0_A.sl.HS0_13 (F := Ideal) c i arg2 harg2 arg3 harg3 arg4 harg4 arg5 harg5 arg6 harg6 arg7 harg7 arg8 harg8 arg9 harg9 arg10 harg10 x0 x1 x2) (kernelRun0_A.sl.HS1_13 (F := Ideal) c i arg2 harg2 arg3 harg3 arg4 harg4 arg5 harg5 arg6 harg6 arg7 harg7 arg8 harg8 arg9 harg9 arg10 harg10 x0 x1 x2))
    (hn : ∀ r : Fin 256, n ⟨5, by omega⟩ ⟨256 + r, by omega⟩ = 512 * (i 1).val) :
    D arg9 arg10 s V (upd n 5 256 256 fun _ => 512 * (i 1).val + 256) (kernelRun0_A.sl.HS0_14 (F := Ideal) c i arg2 harg2 arg3 harg3 arg4 harg4 arg5 harg5 arg6 harg6 arg7 harg7 arg8 harg8 arg9 harg9 arg10 harg10 x0 x1 x2) (kernelRun0_A.sl.HS1_14 (F := Ideal) c i arg2 harg2 arg3 harg3 arg4 harg4 arg5 harg5 arg6 harg6 arg7 harg7 arg8 harg8 arg9 harg9 arg10 harg10 x0 x1 x2) := by
  have hi : (i 1).val < 8 := (i 1).isLt
  have e := sq_step arg2 harg2 arg3 harg3 arg4 harg4 arg9 arg10 x0 x1 x2 X 5 256 (512 * (i 1).val) (by omega) (by omega) (by omega) ![256, 640] (k0_off22 i 0#32) rfl (diag_off5 i).1 H hn
  unfold kernelRun0_A.sl.HS0_14 kernelRun0_A.sl.HS1_14 kernelRun0_A.sl.r_10 kernelRun0_A.sl.r_11 kernelRun0_A.sl.r_12
  rw [p14_m, p14_a]
  exact e _ _ _ _ _ _ _

theorem d15 (X : Ops s V x0 x1 x2) {n : Fin 8 → Fin 512 → ℕ} (H : D arg9 arg10 s V n (kernelRun0_A.sl.HS0_14 (F := Ideal) c i arg2 harg2 arg3 harg3 arg4 harg4 arg5 harg5 arg6 harg6 arg7 harg7 arg8 harg8 arg9 harg9 arg10 harg10 x0 x1 x2) (kernelRun0_A.sl.HS1_14 (F := Ideal) c i arg2 harg2 arg3 harg3 arg4 harg4 arg5 harg5 arg6 harg6 arg7 harg7 arg8 harg8 arg9 harg9 arg10 harg10 x0 x1 x2))
    (hn : ∀ r : Fin 256, n ⟨6, by omega⟩ ⟨256 + r, by omega⟩ = 512 * (i 1).val) :
    D arg9 arg10 s V (upd n 6 256 256 fun _ => 512 * (i 1).val + 256) (kernelRun0_A.sl.HS0_15 (F := Ideal) c i arg2 harg2 arg3 harg3 arg4 harg4 arg5 harg5 arg6 harg6 arg7 harg7 arg8 harg8 arg9 harg9 arg10 harg10 x0 x1 x2) (kernelRun0_A.sl.HS1_15 (F := Ideal) c i arg2 harg2 arg3 harg3 arg4 harg4 arg5 harg5 arg6 harg6 arg7 harg7 arg8 harg8 arg9 harg9 arg10 harg10 x0 x1 x2) := by
  have hi : (i 1).val < 8 := (i 1).isLt
  have e := sq_step arg2 harg2 arg3 harg3 arg4 harg4 arg9 arg10 x0 x1 x2 X 6 256 (512 * (i 1).val) (by omega) (by omega) (by omega) ![256, 768] (k0_off23 i 0#32) rfl (diag_off6 i).1 H hn
  unfold kernelRun0_A.sl.HS0_15 kernelRun0_A.sl.HS1_15
  exact e _ _ _ _ _ _ _

theorem d16 (X : Ops s V x0 x1 x2) {n : Fin 8 → Fin 512 → ℕ} (H : D arg9 arg10 s V n (kernelRun0_A.sl.HS0_15 (F := Ideal) c i arg2 harg2 arg3 harg3 arg4 harg4 arg5 harg5 arg6 harg6 arg7 harg7 arg8 harg8 arg9 harg9 arg10 harg10 x0 x1 x2) (kernelRun0_A.sl.HS1_15 (F := Ideal) c i arg2 harg2 arg3 harg3 arg4 harg4 arg5 harg5 arg6 harg6 arg7 harg7 arg8 harg8 arg9 harg9 arg10 harg10 x0 x1 x2))
    (hn : ∀ r : Fin 256, n ⟨7, by omega⟩ ⟨256 + r, by omega⟩ = 512 * (i 1).val) :
    D arg9 arg10 s V (upd n 7 256 256 fun _ => 512 * (i 1).val + 256) (kernelRun0_A.sl.HS0_16 (F := Ideal) c i arg2 harg2 arg3 harg3 arg4 harg4 arg5 harg5 arg6 harg6 arg7 harg7 arg8 harg8 arg9 harg9 arg10 harg10 x0 x1 x2) (kernelRun0_A.sl.HS1_16 (F := Ideal) c i arg2 harg2 arg3 harg3 arg4 harg4 arg5 harg5 arg6 harg6 arg7 harg7 arg8 harg8 arg9 harg9 arg10 harg10 x0 x1 x2) := by
  have hi : (i 1).val < 8 := (i 1).isLt
  have e := sq_step arg2 harg2 arg3 harg3 arg4 harg4 arg9 arg10 x0 x1 x2 X 7 256 (512 * (i 1).val) (by omega) (by omega) (by omega) ![256, 896] (k0_off24 i 0#32) rfl (diag_off7 i).1 H hn
  unfold kernelRun0_A.sl.HS0_16 kernelRun0_A.sl.HS1_16
  exact e _ _ _ _ _ _ _

theorem d17 (X : Ops s V x0 x1 x2) {n : Fin 8 → Fin 512 → ℕ} (H : D arg9 arg10 s V n (kernelRun0_A.sl.HS0_16 (F := Ideal) c i arg2 harg2 arg3 harg3 arg4 harg4 arg5 harg5 arg6 harg6 arg7 harg7 arg8 harg8 arg9 harg9 arg10 harg10 x0 x1 x2) (kernelRun0_A.sl.HS1_16 (F := Ideal) c i arg2 harg2 arg3 harg3 arg4 harg4 arg5 harg5 arg6 harg6 arg7 harg7 arg8 harg8 arg9 harg9 arg10 harg10 x0 x1 x2))
    (hn : ∀ r : Fin 256, n ⟨0, by omega⟩ ⟨256 + r, by omega⟩ = 512 * (i 1).val + 256) :
    D arg9 arg10 s V (upd n 0 256 256 fun r => 512 * (i 1).val + r + 1) (kernelRun0_A.sl.HS0_17 (F := Ideal) c i arg2 harg2 arg3 harg3 arg4 harg4 arg5 harg5 arg6 harg6 arg7 harg7 arg8 harg8 arg9 harg9 arg10 harg10 x0 x1 x2) (kernelRun0_A.sl.HS1_17 (F := Ideal) c i arg2 harg2 arg3 harg3 arg4 harg4 arg5 harg5 arg6 harg6 arg7 harg7 arg8 harg8 arg9 harg9 arg10 harg10 x0 x1 x2) := by
  have hi : (i 1).val < 8 := (i 1).isLt
  have e := tri_step arg2 harg2 arg3 harg3 arg4 harg4 arg9 arg10 x0 x1 x2 X 0 256 (512 * (i 1).val + 256) (512 * (i 1).val) (by omega) (by omega) (by omega) (by omega) ![256, 0] (k0_off17 i 1#32) rfl (diag_off0 i).2 H hn
  unfold kernelRun0_A.sl.HS0_17 kernelRun0_A.sl.HS1_17
  exact e _ _ _ _ _ _ _

theorem d18 (X : Ops s V x0 x1 x2) {n : Fin 8 → Fin 512 → ℕ} (H : D arg9 arg10 s V n (kernelRun0_A.sl.HS0_17 (F := Ideal) c i arg2 harg2 arg3 harg3 arg4 harg4 arg5 harg5 arg6 harg6 arg7 harg7 arg8 harg8 arg9 harg9 arg10 harg10 x0 x1 x2) (kernelRun0_A.sl.HS1_17 (F := Ideal) c i arg2 harg2 arg3 harg3 arg4 harg4 arg5 harg5 arg6 harg6 arg7 harg7 arg8 harg8 arg9 harg9 arg10 harg10 x0 x1 x2))
    (hn : ∀ r : Fin 256, n ⟨1, by omega⟩ ⟨256 + r, by omega⟩ = 512 * (i 1).val + 256) :
    D arg9 arg10 s V (upd n 1 256 256 fun r => 512 * (i 1).val + r + 1) (kernelRun0_A.sl.HS0_18 (F := Ideal) c i arg2 harg2 arg3 harg3 arg4 harg4 arg5 harg5 arg6 harg6 arg7 harg7 arg8 harg8 arg9 harg9 arg10 harg10 x0 x1 x2) (kernelRun0_A.sl.HS1_18 (F := Ideal) c i arg2 harg2 arg3 harg3 arg4 harg4 arg5 harg5 arg6 harg6 arg7 harg7 arg8 harg8 arg9 harg9 arg10 harg10 x0 x1 x2) := by
  have hi : (i 1).val < 8 := (i 1).isLt
  have e := tri_step arg2 harg2 arg3 harg3 arg4 harg4 arg9 arg10 x0 x1 x2 X 1 256 (512 * (i 1).val + 256) (512 * (i 1).val) (by omega) (by omega) (by omega) (by omega) ![256, 128] (k0_off18 i 1#32) rfl (diag_off1 i).2 H hn
  unfold kernelRun0_A.sl.HS0_18 kernelRun0_A.sl.HS1_18
  exact e _ _ _ _ _ _ _

theorem d19 (X : Ops s V x0 x1 x2) {n : Fin 8 → Fin 512 → ℕ} (H : D arg9 arg10 s V n (kernelRun0_A.sl.HS0_18 (F := Ideal) c i arg2 harg2 arg3 harg3 arg4 harg4 arg5 harg5 arg6 harg6 arg7 harg7 arg8 harg8 arg9 harg9 arg10 harg10 x0 x1 x2) (kernelRun0_A.sl.HS1_18 (F := Ideal) c i arg2 harg2 arg3 harg3 arg4 harg4 arg5 harg5 arg6 harg6 arg7 harg7 arg8 harg8 arg9 harg9 arg10 harg10 x0 x1 x2))
    (hn : ∀ r : Fin 256, n ⟨2, by omega⟩ ⟨256 + r, by omega⟩ = 512 * (i 1).val + 256) :
    D arg9 arg10 s V (upd n 2 256 256 fun r => 512 * (i 1).val + r + 1) (kernelRun0_A.sl.HS0_19 (F := Ideal) c i arg2 harg2 arg3 harg3 arg4 harg4 arg5 harg5 arg6 harg6 arg7 harg7 arg8 harg8 arg9 harg9 arg10 harg10 x0 x1 x2) (kernelRun0_A.sl.HS1_19 (F := Ideal) c i arg2 harg2 arg3 harg3 arg4 harg4 arg5 harg5 arg6 harg6 arg7 harg7 arg8 harg8 arg9 harg9 arg10 harg10 x0 x1 x2) := by
  have hi : (i 1).val < 8 := (i 1).isLt
  have e := tri_step arg2 harg2 arg3 harg3 arg4 harg4 arg9 arg10 x0 x1 x2 X 2 256 (512 * (i 1).val + 256) (512 * (i 1).val) (by omega) (by omega) (by omega) (by omega) ![256, 256] (k0_off19 i 1#32) rfl (diag_off2 i).2 H hn
  unfold kernelRun0_A.sl.HS0_19 kernelRun0_A.sl.HS1_19
  exact e _ _ _ _ _ _ _

theorem d20 (X : Ops s V x0 x1 x2) {n : Fin 8 → Fin 512 → ℕ} (H : D arg9 arg10 s V n (kernelRun0_A.sl.HS0_19 (F := Ideal) c i arg2 harg2 arg3 harg3 arg4 harg4 arg5 harg5 arg6 harg6 arg7 harg7 arg8 harg8 arg9 harg9 arg10 harg10 x0 x1 x2) (kernelRun0_A.sl.HS1_19 (F := Ideal) c i arg2 harg2 arg3 harg3 arg4 harg4 arg5 harg5 arg6 harg6 arg7 harg7 arg8 harg8 arg9 harg9 arg10 harg10 x0 x1 x2))
    (hn : ∀ r : Fin 256, n ⟨3, by omega⟩ ⟨256 + r, by omega⟩ = 512 * (i 1).val + 256) :
    D arg9 arg10 s V (upd n 3 256 256 fun r => 512 * (i 1).val + r + 1) (kernelRun0_A.sl.HS0_20 (F := Ideal) c i arg2 harg2 arg3 harg3 arg4 harg4 arg5 harg5 arg6 harg6 arg7 harg7 arg8 harg8 arg9 harg9 arg10 harg10 x0 x1 x2) (kernelRun0_A.sl.HS1_20 (F := Ideal) c i arg2 harg2 arg3 harg3 arg4 harg4 arg5 harg5 arg6 harg6 arg7 harg7 arg8 harg8 arg9 harg9 arg10 harg10 x0 x1 x2) := by
  have hi : (i 1).val < 8 := (i 1).isLt
  have e := tri_step arg2 harg2 arg3 harg3 arg4 harg4 arg9 arg10 x0 x1 x2 X 3 256 (512 * (i 1).val + 256) (512 * (i 1).val) (by omega) (by omega) (by omega) (by omega) ![256, 384] (k0_off20 i 1#32) rfl (diag_off3 i).2 H hn
  unfold kernelRun0_A.sl.HS0_20 kernelRun0_A.sl.HS1_20
  exact e _ _ _ _ _ _ _

theorem d21 (X : Ops s V x0 x1 x2) {n : Fin 8 → Fin 512 → ℕ} (H : D arg9 arg10 s V n (kernelRun0_A.sl.HS0_20 (F := Ideal) c i arg2 harg2 arg3 harg3 arg4 harg4 arg5 harg5 arg6 harg6 arg7 harg7 arg8 harg8 arg9 harg9 arg10 harg10 x0 x1 x2) (kernelRun0_A.sl.HS1_20 (F := Ideal) c i arg2 harg2 arg3 harg3 arg4 harg4 arg5 harg5 arg6 harg6 arg7 harg7 arg8 harg8 arg9 harg9 arg10 harg10 x0 x1 x2))
    (hn : ∀ r : Fin 256, n ⟨4, by omega⟩ ⟨256 + r, by omega⟩ = 512 * (i 1).val + 256) :
    D arg9 arg10 s V (upd n 4 256 256 fun r => 512 * (i 1).val + r + 1) (kernelRun0_A.sl.HS0_21 (F := Ideal) c i arg2 harg2 arg3 harg3 arg4 harg4 arg5 harg5 arg6 harg6 arg7 harg7 arg8 harg8 arg9 harg9 arg10 harg10 x0 x1 x2) (kernelRun0_A.sl.HS1_21 (F := Ideal) c i arg2 harg2 arg3 harg3 arg4 harg4 arg5 harg5 arg6 harg6 arg7 harg7 arg8 harg8 arg9 harg9 arg10 harg10 x0 x1 x2) := by
  have hi : (i 1).val < 8 := (i 1).isLt
  have e := tri_step arg2 harg2 arg3 harg3 arg4 harg4 arg9 arg10 x0 x1 x2 X 4 256 (512 * (i 1).val + 256) (512 * (i 1).val) (by omega) (by omega) (by omega) (by omega) ![256, 512] (k0_off21 i 1#32) rfl (diag_off4 i).2 H hn
  unfold kernelRun0_A.sl.HS0_21 kernelRun0_A.sl.HS1_21
  exact e _ _ _ _ _ _ _

theorem d22 (X : Ops s V x0 x1 x2) {n : Fin 8 → Fin 512 → ℕ} (H : D arg9 arg10 s V n (kernelRun0_A.sl.HS0_21 (F := Ideal) c i arg2 harg2 arg3 harg3 arg4 harg4 arg5 harg5 arg6 harg6 arg7 harg7 arg8 harg8 arg9 harg9 arg10 harg10 x0 x1 x2) (kernelRun0_A.sl.HS1_21 (F := Ideal) c i arg2 harg2 arg3 harg3 arg4 harg4 arg5 harg5 arg6 harg6 arg7 harg7 arg8 harg8 arg9 harg9 arg10 harg10 x0 x1 x2))
    (hn : ∀ r : Fin 256, n ⟨5, by omega⟩ ⟨256 + r, by omega⟩ = 512 * (i 1).val + 256) :
    D arg9 arg10 s V (upd n 5 256 256 fun r => 512 * (i 1).val + r + 1) (kernelRun0_A.sl.HS0_22 (F := Ideal) c i arg2 harg2 arg3 harg3 arg4 harg4 arg5 harg5 arg6 harg6 arg7 harg7 arg8 harg8 arg9 harg9 arg10 harg10 x0 x1 x2) (kernelRun0_A.sl.HS1_22 (F := Ideal) c i arg2 harg2 arg3 harg3 arg4 harg4 arg5 harg5 arg6 harg6 arg7 harg7 arg8 harg8 arg9 harg9 arg10 harg10 x0 x1 x2) := by
  have hi : (i 1).val < 8 := (i 1).isLt
  have e := tri_step arg2 harg2 arg3 harg3 arg4 harg4 arg9 arg10 x0 x1 x2 X 5 256 (512 * (i 1).val + 256) (512 * (i 1).val) (by omega) (by omega) (by omega) (by omega) ![256, 640] (k0_off22 i 1#32) rfl (diag_off5 i).2 H hn
  unfold kernelRun0_A.sl.HS0_22 kernelRun0_A.sl.HS1_22
  exact e _ _ _ _ _ _ _

theorem d23 (X : Ops s V x0 x1 x2) {n : Fin 8 → Fin 512 → ℕ} (H : D arg9 arg10 s V n (kernelRun0_A.sl.HS0_22 (F := Ideal) c i arg2 harg2 arg3 harg3 arg4 harg4 arg5 harg5 arg6 harg6 arg7 harg7 arg8 harg8 arg9 harg9 arg10 harg10 x0 x1 x2) (kernelRun0_A.sl.HS1_22 (F := Ideal) c i arg2 harg2 arg3 harg3 arg4 harg4 arg5 harg5 arg6 harg6 arg7 harg7 arg8 harg8 arg9 harg9 arg10 harg10 x0 x1 x2))
    (hn : ∀ r : Fin 256, n ⟨6, by omega⟩ ⟨256 + r, by omega⟩ = 512 * (i 1).val + 256) :
    D arg9 arg10 s V (upd n 6 256 256 fun r => 512 * (i 1).val + r + 1) (kernelRun0_A.sl.HS0_23 (F := Ideal) c i arg2 harg2 arg3 harg3 arg4 harg4 arg5 harg5 arg6 harg6 arg7 harg7 arg8 harg8 arg9 harg9 arg10 harg10 x0 x1 x2) (kernelRun0_A.sl.HS1_23 (F := Ideal) c i arg2 harg2 arg3 harg3 arg4 harg4 arg5 harg5 arg6 harg6 arg7 harg7 arg8 harg8 arg9 harg9 arg10 harg10 x0 x1 x2) := by
  have hi : (i 1).val < 8 := (i 1).isLt
  have e := tri_step arg2 harg2 arg3 harg3 arg4 harg4 arg9 arg10 x0 x1 x2 X 6 256 (512 * (i 1).val + 256) (512 * (i 1).val) (by omega) (by omega) (by omega) (by omega) ![256, 768] (k0_off23 i 1#32) rfl (diag_off6 i).2 H hn
  unfold kernelRun0_A.sl.HS0_23 kernelRun0_A.sl.HS1_23
  exact e _ _ _ _ _ _ _

theorem d24 (X : Ops s V x0 x1 x2) {n : Fin 8 → Fin 512 → ℕ} (H : D arg9 arg10 s V n (kernelRun0_A.sl.HS0_23 (F := Ideal) c i arg2 harg2 arg3 harg3 arg4 harg4 arg5 harg5 arg6 harg6 arg7 harg7 arg8 harg8 arg9 harg9 arg10 harg10 x0 x1 x2) (kernelRun0_A.sl.HS1_23 (F := Ideal) c i arg2 harg2 arg3 harg3 arg4 harg4 arg5 harg5 arg6 harg6 arg7 harg7 arg8 harg8 arg9 harg9 arg10 harg10 x0 x1 x2))
    (hn : ∀ r : Fin 256, n ⟨7, by omega⟩ ⟨256 + r, by omega⟩ = 512 * (i 1).val + 256) :
    ∃ L, D arg9 arg10 s V (upd n 7 256 256 fun r => 512 * (i 1).val + r + 1) L (kernelRun0_A.sl.HS1_24 (F := Ideal) c i arg2 harg2 arg3 harg3 arg4 harg4 arg5 harg5 arg6 harg6 arg7 harg7 arg8 harg8 arg9 harg9 arg10 harg10 x0 x1 x2) := by
  have hi : (i 1).val < 8 := (i 1).isLt
  have hinb : ∀ a : Fin 2, k0_off24 i 1#32 a + ![256, 128] a ≤ S4096x1024.size a := by
    rw [(diag_off7 i).2]; intro a; fin_cases a <;> simp [S4096x1024] <;> omega
  have e := tri_step arg2 harg2 arg3 harg3 arg4 harg4 arg9 arg10 x0 x1 x2 X 7 256 (512 * (i 1).val + 256) (512 * (i 1).val) (by omega) (by omega) (by omega) (by omega) ![256, 896] (k0_off24 i 1#32) rfl (diag_off7 i).2 H hn (by decide) hinb hinb (by decide) (by decide) (by decide) (by decide)
  unfold kernelRun0_A.sl.HS1_24
  exact ⟨_, e⟩

/-- The count of keys held once every block is done. -/
theorem diag_St (X : Ops s V x0 x1 x2) : ∃ M, St s V (fun _ r => 512 * (i 1).val + r.val + 1) M
    (arg10.view.read (Elt Ideal) (arg10.view.writes (Elt Ideal) arg10.view.junk (kernelRun0_A.sl.HS1_24 (F := Ideal) c i arg2 harg2 arg3 harg3 arg4 harg4 arg5 harg5 arg6 harg6 arg7 harg7 arg8 harg8 arg9 harg9 arg10 harg10 x0 x1 x2))) := by
  have h1 := d1 c i arg2 harg2 arg3 harg3 arg4 harg4 arg5 harg5 arg6 harg6 arg7 harg7 arg8 harg8 arg9 harg9 arg10 harg10 x0 x1 x2 X
  have h2 := d2 c i arg2 harg2 arg3 harg3 arg4 harg4 arg5 harg5 arg6 harg6 arg7 harg7 arg8 harg8 arg9 harg9 arg10 harg10 x0 x1 x2 X h1 (fun r => by simp [upd] <;> omega)
  have h3 := d3 c i arg2 harg2 arg3 harg3 arg4 harg4 arg5 harg5 arg6 harg6 arg7 harg7 arg8 harg8 arg9 harg9 arg10 harg10 x0 x1 x2 X h2 (fun r => by simp [upd] <;> omega)
  have h4 := d4 c i arg2 harg2 arg3 harg3 arg4 harg4 arg5 harg5 arg6 harg6 arg7 harg7 arg8 harg8 arg9 harg9 arg10 harg10 x0 x1 x2 X h3 (fun r => by simp [upd] <;> omega)
  have h5 := d5 c i arg2 harg2 arg3 harg3 arg4 harg4 arg5 harg5 arg6 harg6 arg7 harg7 arg8 harg8 arg9 harg9 arg10 harg10 x0 x1 x2 X h4 (fun r => by simp [upd] <;> omega)
  have h6 := d6 c i arg2 harg2 arg3 harg3 arg4 harg4 arg5 harg5 arg6 harg6 arg7 harg7 arg8 harg8 arg9 harg9 arg10 harg10 x0 x1 x2 X h5 (fun r => by simp [upd] <;> omega)
  have h7 := d7 c i arg2 harg2 arg3 harg3 arg4 harg4 arg5 harg5 arg6 harg6 arg7 harg7 arg8 harg8 arg9 harg9 arg10 harg10 x0 x1 x2 X h6 (fun r => by simp [upd] <;> omega)
  have h8 := d8 c i arg2 harg2 arg3 harg3 arg4 harg4 arg5 harg5 arg6 harg6 arg7 harg7 arg8 harg8 arg9 harg9 arg10 harg10 x0 x1 x2 X h7 (fun r => by simp [upd] <;> omega)
  have h9 := d9 c i arg2 harg2 arg3 harg3 arg4 harg4 arg5 harg5 arg6 harg6 arg7 harg7 arg8 harg8 arg9 harg9 arg10 harg10 x0 x1 x2 X h8 (fun r => by simp [upd] <;> omega)
  have h10 := d10 c i arg2 harg2 arg3 harg3 arg4 harg4 arg5 harg5 arg6 harg6 arg7 harg7 arg8 harg8 arg9 harg9 arg10 harg10 x0 x1 x2 X h9 (fun r => by simp [upd] <;> omega)
  have h11 := d11 c i arg2 harg2 arg3 harg3 arg4 harg4 arg5 harg5 arg6 harg6 arg7 harg7 arg8 harg8 arg9 harg9 arg10 harg10 x0 x1 x2 X h10 (fun r => by simp [upd] <;> omega)
  have h12 := d12 c i arg2 harg2 arg3 harg3 arg4 harg4 arg5 harg5 arg6 harg6 arg7 harg7 arg8 harg8 arg9 harg9 arg10 harg10 x0 x1 x2 X h11 (fun r => by simp [upd] <;> omega)
  have h13 := d13 c i arg2 harg2 arg3 harg3 arg4 harg4 arg5 harg5 arg6 harg6 arg7 harg7 arg8 harg8 arg9 harg9 arg10 harg10 x0 x1 x2 X h12 (fun r => by simp [upd] <;> omega)
  have h14 := d14 c i arg2 harg2 arg3 harg3 arg4 harg4 arg5 harg5 arg6 harg6 arg7 harg7 arg8 harg8 arg9 harg9 arg10 harg10 x0 x1 x2 X h13 (fun r => by simp [upd] <;> omega)
  have h15 := d15 c i arg2 harg2 arg3 harg3 arg4 harg4 arg5 harg5 arg6 harg6 arg7 harg7 arg8 harg8 arg9 harg9 arg10 harg10 x0 x1 x2 X h14 (fun r => by simp [upd] <;> omega)
  have h16 := d16 c i arg2 harg2 arg3 harg3 arg4 harg4 arg5 harg5 arg6 harg6 arg7 harg7 arg8 harg8 arg9 harg9 arg10 harg10 x0 x1 x2 X h15 (fun r => by simp [upd] <;> omega)
  have h17 := d17 c i arg2 harg2 arg3 harg3 arg4 harg4 arg5 harg5 arg6 harg6 arg7 harg7 arg8 harg8 arg9 harg9 arg10 harg10 x0 x1 x2 X h16 (fun r => by simp [upd] <;> omega)
  have h18 := d18 c i arg2 harg2 arg3 harg3 arg4 harg4 arg5 harg5 arg6 harg6 arg7 harg7 arg8 harg8 arg9 harg9 arg10 harg10 x0 x1 x2 X h17 (fun r => by simp [upd] <;> omega)
  have h19 := d19 c i arg2 harg2 arg3 harg3 arg4 harg4 arg5 harg5 arg6 harg6 arg7 harg7 arg8 harg8 arg9 harg9 arg10 harg10 x0 x1 x2 X h18 (fun r => by simp [upd] <;> omega)
  have h20 := d20 c i arg2 harg2 arg3 harg3 arg4 harg4 arg5 harg5 arg6 harg6 arg7 harg7 arg8 harg8 arg9 harg9 arg10 harg10 x0 x1 x2 X h19 (fun r => by simp [upd] <;> omega)
  have h21 := d21 c i arg2 harg2 arg3 harg3 arg4 harg4 arg5 harg5 arg6 harg6 arg7 harg7 arg8 harg8 arg9 harg9 arg10 harg10 x0 x1 x2 X h20 (fun r => by simp [upd] <;> omega)
  have h22 := d22 c i arg2 harg2 arg3 harg3 arg4 harg4 arg5 harg5 arg6 harg6 arg7 harg7 arg8 harg8 arg9 harg9 arg10 harg10 x0 x1 x2 X h21 (fun r => by simp [upd] <;> omega)
  have h23 := d23 c i arg2 harg2 arg3 harg3 arg4 harg4 arg5 harg5 arg6 harg6 arg7 harg7 arg8 harg8 arg9 harg9 arg10 harg10 x0 x1 x2 X h22 (fun r => by simp [upd] <;> omega)
  have h24 := d24 c i arg2 harg2 arg3 harg3 arg4 harg4 arg5 harg5 arg6 harg6 arg7 harg7 arg8 harg8 arg9 harg9 arg10 harg10 x0 x1 x2 X h23 (fun r => by simp [upd] <;> omega)
  obtain ⟨L, h⟩ := h24
  have key : ∀ n : Fin 8 → Fin 512 → ℕ, n = (fun _ r => 512 * (i 1).val + r.val + 1) → D arg9 arg10 s V n L (kernelRun0_A.sl.HS1_24 (F := Ideal) c i arg2 harg2 arg3 harg3 arg4 harg4 arg5 harg5 arg6 harg6 arg7 harg7 arg8 harg8 arg9 harg9 arg10 harg10 x0 x1 x2) →
      ∃ M, St s V (fun _ r => 512 * (i 1).val + r.val + 1) M
        (arg10.view.read (Elt Ideal) (arg10.view.writes (Elt Ideal) arg10.view.junk (kernelRun0_A.sl.HS1_24 (F := Ideal) c i arg2 harg2 arg3 harg3 arg4 harg4 arg5 harg5 arg6 harg6 arg7 harg7 arg8 harg8 arg9 harg9 arg10 harg10 x0 x1 x2))) := fun n e H => ⟨_, e ▸ H⟩
  refine key _ ?_ h
  funext h' r
  have hr := r.isLt
  by_cases hc : r.val < 256 <;> fin_cases h' <;> simp [upd, hc] <;> omega

end Cert.FoxDiag

end
-- ==== Proof.FoxBlock.lean ====
module

public import proofs.«01_k».proof.Proof.FoxDiag

@[expose] public section

set_option maxRecDepth 16384

noncomputable section

namespace Cert.FoxBlock

open Cert.FoxIdeal Cert.FoxIdeal.Gen Cert.FoxMath Cert.FoxPay Cert.FoxState Cert.FoxTrip Cert.FoxDiag Idealize.ShloMosaic Idealize.ShloMosaic.TcCoe Idealize.SL.Sem

/-! # What a block of queries leaves in the result's block -/

/-- The weighted sum of the first `N` keys' values. -/
def acc (s : Fin 8 → Fin 512 → ℕ → ℝ) (V : Fin 8 → ℕ → Fin 128 → ℝ) (μ : Fin 8 → Fin 512 → ℝ) (N : ℕ) (h : Fin 8) (r : Fin 512) (l : Fin 128) : ℝ :=
  ∑ j ∈ Finset.range N, Real.rpow 2 (s h r j - μ h r) * V h j l

theorem load2g {N C : ℕ} {e : EltTy} (v : View sig .tc .vmem ⟨2, ![N, C]⟩ e) (a b R K : ℕ) (hR : a + R ≤ N) (hb : b + K ≤ C)
    (inb) (f) (r : Fin R) (y : Fin K) :
    v.readAt (Elt Ideal) (Rect.unit (s := ⟨2, ![N, C]⟩) ![a, b] ![R, K] inb).toLoadRect f (ix2 r y)
      = v.read (Elt Ideal) f (ix2 ⟨a + r, by omega⟩ ⟨b + y, by omega⟩) := by
  show v.read (Elt Ideal) f ((Rect.unit (s := ⟨2, ![N, C]⟩) ![a, b] ![R, K] inb).idx (ix2 r y)) = _
  congr 1
  funext a
  refine Fin.ext ((Rect.idx_unit_val _ _ _ _ _).trans ?_)
  fin_cases a <;> rfl

/-- A store of a strip of 128 columns, read in the strip. -/
theorem strip_hit (v : View sig .tc .vmem S512x512 .bf16) (p : ℕ) (hp : p + 128 ≤ 512) (inb) (f) (L) (w : Vec Ideal ⟨2, ![512, 128]⟩ .bf16) (r : Fin 512) (l : Fin 128) :
    v.read (Elt Ideal) (v.writes (Elt Ideal) f ((⟨Rect.unit (s := S512x512) ![0, p] ![512, 128] inb, w⟩ : View.Piece (Elt Ideal) S512x512 .bf16) :: L))
        (ix2 r ⟨p + l, by omega⟩) = w (ix2 r l) := by
  refine View.read_writes_cons_unit_of_mem v f inb w L _ (ix2 r l) rfl fun a => ?_
  fin_cases a
  · show r.val = 0 + r.val; exact (Nat.zero_add _).symm
  · show p + l.val = p + l.val; rfl

/-- The same, read left of the strip. -/
theorem strip_miss (v : View sig .tc .vmem S512x512 .bf16) (p : ℕ) (inb) (f) (L) (w : Vec Ideal ⟨2, ![512, 128]⟩ .bf16) (r c : Fin 512) (hm : c.val < p) :
    v.read (Elt Ideal) (v.writes (Elt Ideal) f ((⟨Rect.unit (s := S512x512) ![0, p] ![512, 128] inb, w⟩ : View.Piece (Elt Ideal) S512x512 .bf16) :: L))
        (ix2 r c) = v.read (Elt Ideal) (v.writes (Elt Ideal) f L) (ix2 r c) :=
  View.read_writes_cons_unit_of_not_mem v f inb w L _ rfl 1 (Or.inl hm)

variable (c : Dev nD) (i : grid0.Coords)
  (arg2 : Memref sig .tc .vmem S512x1024 .bf16) (harg2 : arg2.IsWhole)
  (arg3 : Memref sig .tc .vmem S4096x1024 .bf16) (harg3 : arg3.IsWhole)
  (arg4 : Memref sig .tc .vmem S4096x1024 .bf16) (harg4 : arg4.IsWhole)
  (arg5 : Memref sig .tc .vmem S1x1024 .f32) (harg5 : arg5.IsWhole)
  (arg6 : Memref sig .tc .vmem S256x256 .bf16) (harg6 : arg6.IsWhole)
  (arg7 : Memref sig .tc .vmem S128x128 .bf16) (harg7 : arg7.IsWhole)
  (arg8 : Memref sig .tc .vmem S512x512 .bf16) (harg8 : arg8.IsWhole)
  (arg9 : Memref sig .tc .vmem S8x512x128 .f32) (harg9 : arg9.IsWhole)
  (arg10 : Memref sig .tc .vmem S8x512x128 .f32) (harg10 : arg10.IsWhole)
  (x0 : Vec Ideal S512x1024 .bf16) (x1 x2 : Vec Ideal S4096x1024 .bf16)
  (x3 : Vec Ideal S1x1024 .f32) (x4 : Vec Ideal S256x256 .bf16) (x5 : Vec Ideal S128x128 .bf16)
  {s : Fin 8 → Fin 512 → ℕ → ℝ} {V : Fin 8 → ℕ → Fin 128 → ℝ}

theorem piece0 : kernelRun0_A.sl.v943 (F := Ideal) c i arg2 harg2 arg3 harg3 arg4 harg4 arg5 harg5 arg6 harg6 arg7 harg7 arg8 harg8 arg9 harg9 arg10 harg10 x0 x1 x2 x3 x4 x5
    = k0_pay245 (F := Ideal) k0_pay243 (k0_pay244 (arg10.view.readCov (kernelRun0_A.sl.HS1_24 (F := Ideal) c i arg2 harg2 arg3 harg3 arg4 harg4 arg5 harg5 arg6 harg6 arg7 harg7 arg8 harg8 arg9 harg9 arg10 harg10 x0 x1 x2) (Rect.unit (s := S8x512x128) ![0, 0, 0] ![1, 512, 128] (by decide)).toLoadRect) (arg10.view.readCov (kernelRun0_A.sl.HS1_24 (F := Ideal) c i arg2 harg2 arg3 harg3 arg4 harg4 arg5 harg5 arg6 harg6 arg7 harg7 arg8 harg8 arg9 harg9 arg10 harg10 x0 x1 x2) (Rect.unit (s := S8x512x128) ![1, 0, 0] ![1, 512, 128] (by decide)).toLoadRect)) (arg6.view.readAt (Elt Ideal) (Rect.unit (s := S256x256) ![0, 0] ![256, 256] (by decide)).toLoadRect (harg6.unread x4)) (arg6.view.readAt (Elt Ideal) (Rect.unit (s := S256x256) ![0, 0] ![256, 256] (by decide)).toLoadRect (harg6.unread x4)) (arg5.view.readAt (Elt Ideal) (Rect.unit (s := S1x1024) ![0, 0] ![1, 256] (by decide)).toLoadRect (harg5.unread x3)) (arg7.view.readAt (Elt Ideal) (Rect.unit (s := S128x128) ![0, 0] ![128, 128] (by decide)).toLoadRect (harg7.unread x5)) := by
  rfl

theorem piece1 : kernelRun0_A.sl.v981 (F := Ideal) c i arg2 harg2 arg3 harg3 arg4 harg4 arg5 harg5 arg6 harg6 arg7 harg7 arg8 harg8 arg9 harg9 arg10 harg10 x0 x1 x2 x3 x4 x5
    = k0_pay245 (F := Ideal) k0_pay243 (k0_pay244 (arg10.view.readCov (kernelRun0_A.sl.HS1_24 (F := Ideal) c i arg2 harg2 arg3 harg3 arg4 harg4 arg5 harg5 arg6 harg6 arg7 harg7 arg8 harg8 arg9 harg9 arg10 harg10 x0 x1 x2) (Rect.unit (s := S8x512x128) ![2, 0, 0] ![1, 512, 128] (by decide)).toLoadRect) (arg10.view.readCov (kernelRun0_A.sl.HS1_24 (F := Ideal) c i arg2 harg2 arg3 harg3 arg4 harg4 arg5 harg5 arg6 harg6 arg7 harg7 arg8 harg8 arg9 harg9 arg10 harg10 x0 x1 x2) (Rect.unit (s := S8x512x128) ![3, 0, 0] ![1, 512, 128] (by decide)).toLoadRect)) (arg6.view.readAt (Elt Ideal) (Rect.unit (s := S256x256) ![0, 0] ![256, 256] (by decide)).toLoadRect (harg6.unread x4)) (arg6.view.readAt (Elt Ideal) (Rect.unit (s := S256x256) ![0, 0] ![256, 256] (by decide)).toLoadRect (harg6.unread x4)) (arg5.view.readAt (Elt Ideal) (Rect.unit (s := S1x1024) ![0, 256] ![1, 256] (by decide)).toLoadRect (harg5.unread x3)) (arg7.view.readAt (Elt Ideal) (Rect.unit (s := S128x128) ![0, 0] ![128, 128] (by decide)).toLoadRect (harg7.unread x5)) := by
  rfl

theorem piece2 : kernelRun0_A.sl.v1019 (F := Ideal) c i arg2 harg2 arg3 harg3 arg4 harg4 arg5 harg5 arg6 harg6 arg7 harg7 arg8 harg8 arg9 harg9 arg10 harg10 x0 x1 x2 x3 x4 x5
    = k0_pay245 (F := Ideal) k0_pay243 (k0_pay244 (arg10.view.readCov (kernelRun0_A.sl.HS1_24 (F := Ideal) c i arg2 harg2 arg3 harg3 arg4 harg4 arg5 harg5 arg6 harg6 arg7 harg7 arg8 harg8 arg9 harg9 arg10 harg10 x0 x1 x2) (Rect.unit (s := S8x512x128) ![4, 0, 0] ![1, 512, 128] (by decide)).toLoadRect) (arg10.view.readCov (kernelRun0_A.sl.HS1_24 (F := Ideal) c i arg2 harg2 arg3 harg3 arg4 harg4 arg5 harg5 arg6 harg6 arg7 harg7 arg8 harg8 arg9 harg9 arg10 harg10 x0 x1 x2) (Rect.unit (s := S8x512x128) ![5, 0, 0] ![1, 512, 128] (by decide)).toLoadRect)) (arg6.view.readAt (Elt Ideal) (Rect.unit (s := S256x256) ![0, 0] ![256, 256] (by decide)).toLoadRect (harg6.unread x4)) (arg6.view.readAt (Elt Ideal) (Rect.unit (s := S256x256) ![0, 0] ![256, 256] (by decide)).toLoadRect (harg6.unread x4)) (arg5.view.readAt (Elt Ideal) (Rect.unit (s := S1x1024) ![0, 512] ![1, 256] (by decide)).toLoadRect (harg5.unread x3)) (arg7.view.readAt (Elt Ideal) (Rect.unit (s := S128x128) ![0, 0] ![128, 128] (by decide)).toLoadRect (harg7.unread x5)) := by
  rfl

theorem piece3 : k0_pay1 (F := Ideal) (kernelRun0_A.sl.r_46 (F := Ideal) c i arg2 harg2 arg3 harg3 arg4 harg4 arg5 harg5 arg6 harg6 arg7 harg7 arg8 harg8 arg9 harg9 arg10 harg10 x0 x1 x2 x4) (kernelRun0_A.sl.r_47 (F := Ideal) c arg5 harg5 x3) (arg7.view.readAt (Elt Ideal) (Rect.unit (s := S128x128) ![0, 0] ![128, 128] (by decide)).toLoadRect (harg7.unread x5))
    = k0_pay245 (F := Ideal) k0_pay243 (k0_pay244 (arg10.view.readCov (kernelRun0_A.sl.HS1_24 (F := Ideal) c i arg2 harg2 arg3 harg3 arg4 harg4 arg5 harg5 arg6 harg6 arg7 harg7 arg8 harg8 arg9 harg9 arg10 harg10 x0 x1 x2) (Rect.unit (s := S8x512x128) ![6, 0, 0] ![1, 512, 128] (by decide)).toLoadRect) (arg10.view.readCov (kernelRun0_A.sl.HS1_24 (F := Ideal) c i arg2 harg2 arg3 harg3 arg4 harg4 arg5 harg5 arg6 harg6 arg7 harg7 arg8 harg8 arg9 harg9 arg10 harg10 x0 x1 x2) (Rect.unit (s := S8x512x128) ![7, 0, 0] ![1, 512, 128] (by decide)).toLoadRect)) (arg6.view.readAt (Elt Ideal) (Rect.unit (s := S256x256) ![0, 0] ![256, 256] (by decide)).toLoadRect (harg6.unread x4)) (arg6.view.readAt (Elt Ideal) (Rect.unit (s := S256x256) ![0, 0] ![256, 256] (by decide)).toLoadRect (harg6.unread x4)) (arg5.view.readAt (Elt Ideal) (Rect.unit (s := S1x1024) ![0, 768] ![1, 256] (by decide)).toLoadRect (harg5.unread x3)) (arg7.view.readAt (Elt Ideal) (Rect.unit (s := S128x128) ![0, 0] ![128, 128] (by decide)).toLoadRect (harg7.unread x5)) := by
  rfl

/-- A pair of heads' strip, from the two heads' sums. -/
theorem strip_val (p : ℕ) (hp : p < 4) (a b : Vec Ideal S1x512x128 .f32) (g : Vec Ideal S1x256 .f32) (N : Fin 512 → ℕ) (μ : Fin 8 → Fin 512 → ℝ) (r : Fin 512)
    (ha : ∀ x, (a (ix3 0 r x) : EReal) = (acc s V μ (N r) ⟨2 * p, by omega⟩ r x : EReal))
    (hb : ∀ x, (b (ix3 0 r x) : EReal) = (acc s V μ (N r) ⟨2 * p + 1, by omega⟩ r x : EReal))
    (hg : ∀ y : Fin 256, (g (ix2 0 y) : EReal) = x3 (ix2 0 ⟨256 * p + y, by omega⟩))
    (hw : ∀ i j : Fin 256, (x4 (ix2 i j) : EReal) = if i.val / 128 = j.val / 128 ∧ i.val % 128 < 65 then 1 else 0)
    (hg0 : ∀ y : Fin 1024, 64 ≤ y.val % 128 → (x3 (ix2 0 y) : EReal) = 0)
    (hsh : ∀ x l : Fin 128, (x5 (ix2 x l) : EReal) = if x.val + 64 = l.val then 1 else 0)
    (h : Fin 8) (l : Fin 64) (e : h.val / 2 = p) :
    (k0_pay245 (F := Ideal) k0_pay243 (k0_pay244 a b) (arg6.view.readAt (Elt Ideal) (Rect.unit (s := S256x256) ![0, 0] ![256, 256] (by decide)).toLoadRect (harg6.unread x4)) (arg6.view.readAt (Elt Ideal) (Rect.unit (s := S256x256) ![0, 0] ![256, 256] (by decide)).toLoadRect (harg6.unread x4)) g (arg7.view.readAt (Elt Ideal) (Rect.unit (s := S128x128) ![0, 0] ![128, 128] (by decide)).toLoadRect (harg7.unread x5)) (ix2 r ⟨64 * (h.val % 2) + l, by omega⟩) : EReal)
      = (acc s V μ (N r) h r ⟨l, by omega⟩ : EReal) * Ideal.rsqrt ((normArg (acc s V μ (N r) h r) EPS : ℝ) : EReal) * x3 (ix2 0 ⟨128 * h + l, by omega⟩) := by
  refine (epi_val a b (arg6.view.readAt (Elt Ideal) (Rect.unit (s := S256x256) ![0, 0] ![256, 256] (by decide)).toLoadRect (harg6.unread x4)) g (arg7.view.readAt (Elt Ideal) (Rect.unit (s := S128x128) ![0, 0] ![128, 128] (by decide)).toLoadRect (harg7.unread x5)) r _ _ ha hb (fun i j => ?_) (fun y hy => ?_) (fun x l => ?_) _).trans ?_
  · rw [load2g arg6.view 0 0 256 256 (by omega) (by omega), harg6.read_unread]
    simpa using hw i j
  · rw [hg]; exact hg0 _ (by show 64 ≤ (256 * p + y.val) % 128; omega)
  · rw [load2g arg7.view 0 0 128 128 (by omega) (by omega), harg7.read_unread]
    simpa using hsh x l
  · have hl := l.isLt
    have key : ∀ (h1 : Fin 8) (l1 : Fin 128) (y : Fin 1024), h1 = h → l1 = ⟨l, by omega⟩ → y = ⟨128 * h + l, by omega⟩ →
        (acc s V μ (N r) h1 r l1 : EReal) * Ideal.rsqrt ((normArg (acc s V μ (N r) h1 r) EPS : ℝ) : EReal) * x3 (ix2 0 y)
          = (acc s V μ (N r) h r ⟨l, by omega⟩ : EReal) * Ideal.rsqrt ((normArg (acc s V μ (N r) h r) EPS : ℝ) : EReal) * x3 (ix2 0 ⟨128 * h + l, by omega⟩) := by
      rintro _ _ _ rfl rfl rfl; rfl
    by_cases q : h.val % 2 = 0
    · rw [dif_pos (show 64 * (h.val % 2) + l.val < 64 by omega), hg]
      exact key _ _ _ (Fin.ext (by show 2 * p = h.val; omega)) (Fin.ext (by show 64 * (h.val % 2) + l.val = l.val; omega))
        (Fin.ext (by show 256 * p + (64 * (h.val % 2) + l.val) = 128 * h.val + l.val; omega))
    · rw [dif_neg (show ¬ (64 * (h.val % 2) + l.val < 64) by omega), hg]
      exact key _ _ _ (Fin.ext (by show 2 * p + 1 = h.val; omega)) (Fin.ext (by show 64 * (h.val % 2) + l.val - 64 = l.val; omega))
        (Fin.ext (by show 256 * p + (128 + (64 * (h.val % 2) + l.val - 64)) = 128 * h.val + l.val; omega))

theorem head_row (μ : Fin 8 → Fin 512 → ℝ) (N : Fin 512 → ℕ) (L : List (View.Piece (Elt Ideal) S8x512x128 .f32))
    (H : ∀ h r l, (arg10.view.read (Elt Ideal) (arg10.view.writes (Elt Ideal) arg10.view.junk L) (ix3 h r l) : EReal) = (acc s V μ (N r) h r l : EReal))
    (h : ℕ) (hh : h < 8) (inb) (r : Fin 512) (l : Fin 128) :
    (arg10.view.readCov L (Rect.unit (s := S8x512x128) ![h, 0, 0] ![1, 512, 128] inb).toLoadRect (ix3 0 r l) : EReal) = (acc s V μ (N r) ⟨h, hh⟩ r l : EReal) := by
  refine (load3 arg10.view h 0 512 hh (by omega) inb _ r l).trans ?_
  refine (H ⟨h, hh⟩ _ l).trans ?_
  simp

/-- The block's value: a head's sums, divided by the root of their mean square, times the gain. -/
theorem out_block (X : Ops s V x0 x1 x2)
    (hw : ∀ i j : Fin 256, (x4 (ix2 i j) : EReal) = if i.val / 128 = j.val / 128 ∧ i.val % 128 < 65 then 1 else 0)
    (hg0 : ∀ y : Fin 1024, 64 ≤ y.val % 128 → (x3 (ix2 0 y) : EReal) = 0)
    (hsh : ∀ x l : Fin 128, (x5 (ix2 x l) : EReal) = if x.val + 64 = l.val then 1 else 0) :
    ∃ μ : Fin 8 → Fin 512 → ℝ, ∀ (r : Fin 512) (h : Fin 8) (l : Fin 64),
      (out0_A_6 (F := Ideal) c i arg2 harg2 arg3 harg3 arg4 harg4 arg5 harg5 arg6 harg6 arg7 harg7 arg8 harg8 arg9 harg9 arg10 harg10 x0 x1 x2 x3 x4 x5 (ix2 r ⟨64 * h + l, by omega⟩) : EReal)
        = (acc s V μ (512 * (i 1).val + r.val + 1) h r ⟨l, by omega⟩ : EReal)
          * Ideal.rsqrt ((normArg (acc s V μ (512 * (i 1).val + r.val + 1) h r) EPS : ℝ) : EReal) * x3 (ix2 0 ⟨128 * h + l, by omega⟩) := by
  obtain ⟨M, hM⟩ := diag_St c i arg2 harg2 arg3 harg3 arg4 harg4 arg5 harg5 arg6 harg6 arg7 harg7 arg8 harg8 arg9 harg9 arg10 harg10 x0 x1 x2 X
  have hex : ∀ h r, ∃ ν : ℝ, ∀ l, (arg10.view.read (Elt Ideal) (arg10.view.writes (Elt Ideal) arg10.view.junk (kernelRun0_A.sl.HS1_24 (F := Ideal) c i arg2 harg2 arg3 harg3 arg4 harg4 arg5 harg5 arg6 harg6 arg7 harg7 arg8 harg8 arg9 harg9 arg10 harg10 x0 x1 x2)) (ix3 h r l) : EReal)
      = ((∑ j ∈ Finset.range (512 * (i 1).val + r.val + 1), Real.rpow 2 (s h r j - ν) * V h j l : ℝ) : EReal) := fun h r => by
    rcases hM h r with ⟨h0, -⟩ | ⟨ν, -, hν⟩
    · exact absurd h0 (Nat.succ_ne_zero _)
    · exact ⟨ν, hν⟩
  choose μ hμ using hex
  refine ⟨μ, fun r h l => ?_⟩
  have row := head_row arg10 (s := s) (V := V) μ (fun r => 512 * (i 1).val + r.val + 1) _ hμ
  have gain : ∀ (p : ℕ) (hp : p < 4) (inb) (y : Fin 256), (arg5.view.readAt (Elt Ideal) (Rect.unit (s := S1x1024) ![0, 256 * p] ![1, 256] inb).toLoadRect (harg5.unread x3) (ix2 0 y) : EReal)
      = x3 (ix2 0 ⟨256 * p + y, by omega⟩) := fun p hp inb y => by
    rw [load2g arg5.view 0 (256 * p) 1 256 (by omega) (by omega), harg5.read_unread]
    congr 1
  unfold out0_A_6 kernelRun0_A
  dsimp only
  have h2 := h.isLt
  have hl := l.isLt
  by_cases e3 : h.val / 2 = 3
  · have ix : (⟨64 * h.val + l.val, by omega⟩ : Fin 512) = ⟨384 + (⟨64 * (h.val % 2) + l.val, by omega⟩ : Fin 128).val, by show 384 + (64 * (h.val % 2) + l.val) < 512; omega⟩ := Fin.ext (by show 64 * h.val + l.val = 384 + (64 * (h.val % 2) + l.val); omega)
    rw [ix]
    refine (strip_hit _ 384 (by omega) _ _ _ _ r ⟨64 * (h.val % 2) + l.val, by omega⟩).trans ?_
    refine (congrFun (piece3 c i arg2 harg2 arg3 harg3 arg4 harg4 arg5 harg5 arg6 harg6 arg7 harg7 arg8 harg8 arg9 harg9 arg10 harg10 x0 x1 x2 x3 x4 x5) _).trans ?_
    exact strip_val arg6 harg6 arg7 harg7 x3 x4 x5 3 (by omega) _ _ _ (fun r => 512 * (i 1).val + r.val + 1) μ r
      (row 6 (by omega) _ r) (row 7 (by omega) _ r) (gain 3 (by omega) _) hw hg0 hsh h l e3
  by_cases e2 : h.val / 2 = 2
  · have ix : (⟨64 * h.val + l.val, by omega⟩ : Fin 512) = ⟨256 + (⟨64 * (h.val % 2) + l.val, by omega⟩ : Fin 128).val, by show 256 + (64 * (h.val % 2) + l.val) < 512; omega⟩ := Fin.ext (by show 64 * h.val + l.val = 256 + (64 * (h.val % 2) + l.val); omega)
    rw [strip_miss _ _ _ _ _ _ _ _ (show 64 * h.val + l.val < 384 by omega)]
    rw [ix]
    refine (strip_hit _ 256 (by omega) _ _ _ _ r ⟨64 * (h.val % 2) + l.val, by omega⟩).trans ?_
    refine (congrFun (piece2 c i arg2 harg2 arg3 harg3 arg4 harg4 arg5 harg5 arg6 harg6 arg7 harg7 arg8 harg8 arg9 harg9 arg10 harg10 x0 x1 x2 x3 x4 x5) _).trans ?_
    exact strip_val arg6 harg6 arg7 harg7 x3 x4 x5 2 (by omega) _ _ _ (fun r => 512 * (i 1).val + r.val + 1) μ r
      (row 4 (by omega) _ r) (row 5 (by omega) _ r) (gain 2 (by omega) _) hw hg0 hsh h l e2
  by_cases e1 : h.val / 2 = 1
  · have ix : (⟨64 * h.val + l.val, by omega⟩ : Fin 512) = ⟨128 + (⟨64 * (h.val % 2) + l.val, by omega⟩ : Fin 128).val, by show 128 + (64 * (h.val % 2) + l.val) < 512; omega⟩ := Fin.ext (by show 64 * h.val + l.val = 128 + (64 * (h.val % 2) + l.val); omega)
    rw [strip_miss _ _ _ _ _ _ _ _ (show 64 * h.val + l.val < 384 by omega)]
    rw [strip_miss _ _ _ _ _ _ _ _ (show 64 * h.val + l.val < 256 by omega)]
    rw [ix]
    refine (strip_hit _ 128 (by omega) _ _ _ _ r ⟨64 * (h.val % 2) + l.val, by omega⟩).trans ?_
    refine (congrFun (piece1 c i arg2 harg2 arg3 harg3 arg4 harg4 arg5 harg5 arg6 harg6 arg7 harg7 arg8 harg8 arg9 harg9 arg10 harg10 x0 x1 x2 x3 x4 x5) _).trans ?_
    exact strip_val arg6 harg6 arg7 harg7 x3 x4 x5 1 (by omega) _ _ _ (fun r => 512 * (i 1).val + r.val + 1) μ r
      (row 2 (by omega) _ r) (row 3 (by omega) _ r) (gain 1 (by omega) _) hw hg0 hsh h l e1
  by_cases e0 : h.val / 2 = 0
  · have ix : (⟨64 * h.val + l.val, by omega⟩ : Fin 512) = ⟨0 + (⟨64 * (h.val % 2) + l.val, by omega⟩ : Fin 128).val, by show 0 + (64 * (h.val % 2) + l.val) < 512; omega⟩ := Fin.ext (by show 64 * h.val + l.val = 0 + (64 * (h.val % 2) + l.val); omega)
    rw [strip_miss _ _ _ _ _ _ _ _ (show 64 * h.val + l.val < 384 by omega)]
    rw [strip_miss _ _ _ _ _ _ _ _ (show 64 * h.val + l.val < 256 by omega)]
    rw [strip_miss _ _ _ _ _ _ _ _ (show 64 * h.val + l.val < 128 by omega)]
    rw [ix]
    refine (strip_hit _ 0 (by omega) _ _ _ _ r ⟨64 * (h.val % 2) + l.val, by omega⟩).trans ?_
    refine (congrFun (piece0 c i arg2 harg2 arg3 harg3 arg4 harg4 arg5 harg5 arg6 harg6 arg7 harg7 arg8 harg8 arg9 harg9 arg10 harg10 x0 x1 x2 x3 x4 x5) _).trans ?_
    exact strip_val arg6 harg6 arg7 harg7 x3 x4 x5 0 (by omega) _ _ _ (fun r => 512 * (i 1).val + r.val + 1) μ r
      (row 0 (by omega) _ r) (row 1 (by omega) _ r) (gain 0 (by omega) _) hw hg0 hsh h l e0
  omega

end Cert.FoxBlock

end
-- ==== Proof.FoxHost.lean ====
module

public import proofs.«01_k».proof.Proof.Gen.FoxIdeal.Value
public import proofs.«01_k».proof.Proof.FoxBlock
public import Idealize.ShloMosaic.Lib.Pipeline.ValueKit
public import Idealize.ShloMosaic.Lib.StableHlo.ReadAt

@[expose] public section

set_option maxRecDepth 16384

noncomputable section

namespace Cert.FoxHost

open Cert.FoxIdeal Cert.FoxIdeal.Gen Idealize.ShloMosaic Idealize.ShloMosaic.TcCoe Idealize.SL.Sem
open Idealize.ShloMosaic.Pipeline (Dat)

variable (m : (ℓ : Loc nD τ sig) → Buf (Elt Ideal) ℓ)

/-- The arguments, at their literal types. -/
abbrev X0 (c : Dev nD) : FVec Ideal S32768x512 .f32 := m ((c : Thread nD τ).loc main_arg0)
abbrev X1 (c : Dev nD) : FVec Ideal S32768x512 .f32 := m ((c : Thread nD τ).loc main_arg1)
abbrev X2 (c : Dev nD) : FVec Ideal S32768x512 .f32 := m ((c : Thread nD τ).loc main_arg2)
abbrev X3 (c : Dev nD) : FVec Ideal S32768x8 .f32 := m ((c : Thread nD τ).loc main_arg3)
abbrev X4 (c : Dev nD) : FVec Ideal S512 .f32 := m ((c : Thread nD τ).loc main_arg4)

/-- The attention's operands, as the host hands them to the call. -/
abbrev Q (c : Dev nD) : FVec Ideal S32768x1024 .bf16 := V m c main_v15
abbrev K (c : Dev nD) : FVec Ideal S32768x1024 .bf16 := V m c main_v23
abbrev VV (c : Dev nD) : FVec Ideal S32768x1024 .bf16 := V m c main_v28
abbrev GG (c : Dev nD) : FVec Ideal S1x1024 .f32 := V m c main_v31
abbrev WM (c : Dev nD) : FVec Ideal S256x256 .bf16 := V m c main_v42
abbrev SH (c : Dev nD) : FVec Ideal S128x128 .bf16 := V m c main_v49

theorem at_eq {α : Type} {n N : ℕ} (f : (⟨2, ![n, N]⟩ : Shape).Idx → α) (r : Fin n) (a b : Fin N) (e : a.val = b.val) : f (ix2 r a) = f (ix2 r b) := by
  rw [Fin.ext e]

theorem q_lo (c : Dev nD) (r : Fin 32768) (h : Fin 8) (y : Fin 128) (hy : y.val < 64) :
    (Q m c (ix2 r ⟨128 * h + y, by omega⟩) : EReal) = X0 m c (ix2 r ⟨64 * h + y, by omega⟩) * Ideal.ofBits .f32 0x3E000000#32 := by
  unfold Q V
  after_reads_at
  split_ifs <;> first | omega | skip
  all_goals try after_reads_at
  all_goals exact congrArg (· * _) (at_eq (X0 m c) r _ _ (by first | (show (128 * h.val + y.val) / 128 * 64 + (128 * h.val + y.val) % 128 = 64 * h.val + y.val; omega) | (show h.val * 64 + y.val = 64 * h.val + y.val; omega)))

theorem q_mid (c : Dev nD) (r : Fin 32768) (h : Fin 8) (y : Fin 128) (hy : 64 ≤ y.val) (hy' : y.val < 67) :
    (Q m c (ix2 r ⟨128 * h + y, by omega⟩) : EReal) = 1 := by
  unfold Q V
  after_reads_at
  split_ifs <;> first | omega | skip
  all_goals try after_reads_at

theorem q_hi (c : Dev nD) (r : Fin 32768) (h : Fin 8) (y : Fin 128) (hy : 67 ≤ y.val) :
    (Q m c (ix2 r ⟨128 * h + y, by omega⟩) : EReal) = 0 := by
  unfold Q V
  after_reads_at
  split_ifs <;> first | omega | skip
  all_goals try after_reads_at

theorem k_lo (c : Dev nD) (r : Fin 32768) (h : Fin 8) (y : Fin 128) (hy : y.val < 64) :
    (K m c (ix2 r ⟨128 * h + y, by omega⟩) : EReal) = X1 m c (ix2 r ⟨64 * h + y, by omega⟩) := by
  unfold K V
  after_reads_at
  split_ifs <;> first | omega | skip
  all_goals try after_reads_at
  all_goals exact at_eq (X1 m c) r _ _ (by first | (show (128 * h.val + y.val) / 128 * 64 + (128 * h.val + y.val) % 128 = 64 * h.val + y.val; omega) | (show h.val * 64 + y.val = 64 * h.val + y.val; omega))

theorem k_64 (c : Dev nD) (r : Fin 32768) (h : Fin 8) (y : Fin 128) (hy : y.val = 64) :
    (K m c (ix2 r ⟨128 * h + y, by omega⟩) : EReal) = -(X3 m c (ix2 r h) : EReal) := by
  unfold K V
  after_reads_at
  split_ifs <;> first | omega | skip
  all_goals try after_reads_at

theorem k_65 (c : Dev nD) (r : Fin 32768) (h : Fin 8) (y : Fin 128) (hy : y.val = 65) :
    (K m c (ix2 r ⟨128 * h + y, by omega⟩) : EReal) = -(X3 m c (ix2 r h) : EReal) - -(X3 m c (ix2 r h) : EReal) := by
  unfold K V
  after_reads_at
  split_ifs <;> first | omega | skip
  all_goals try after_reads_at
  all_goals rfl

theorem k_66 (c : Dev nD) (r : Fin 32768) (h : Fin 8) (y : Fin 128) (hy : y.val = 66) :
    (K m c (ix2 r ⟨128 * h + y, by omega⟩) : EReal) = -(X3 m c (ix2 r h) : EReal) - -(X3 m c (ix2 r h) : EReal) - (-(X3 m c (ix2 r h) : EReal) - -(X3 m c (ix2 r h) : EReal)) := by
  unfold K V
  after_reads_at
  split_ifs <;> first | omega | skip
  all_goals try after_reads_at
  all_goals rfl

theorem k_hi (c : Dev nD) (r : Fin 32768) (h : Fin 8) (y : Fin 128) (hy : 67 ≤ y.val) :
    (K m c (ix2 r ⟨128 * h + y, by omega⟩) : EReal) = 0 := by
  unfold K V
  after_reads_at
  split_ifs <;> first | omega | skip
  all_goals try after_reads_at

theorem v_lo (c : Dev nD) (r : Fin 32768) (h : Fin 8) (y : Fin 128) (hy : y.val < 64) :
    (VV m c (ix2 r ⟨128 * h + y, by omega⟩) : EReal) = X2 m c (ix2 r ⟨64 * h + y, by omega⟩) := by
  unfold VV V
  after_reads_at
  split_ifs <;> first | omega | skip
  all_goals try after_reads_at
  all_goals exact at_eq (X2 m c) r _ _ (by first | (show (128 * h.val + y.val) / 128 * 64 + (128 * h.val + y.val) % 128 = 64 * h.val + y.val; omega) | (show h.val * 64 + y.val = 64 * h.val + y.val; omega))

theorem v_hi (c : Dev nD) (r : Fin 32768) (h : Fin 8) (y : Fin 128) (hy : 64 ≤ y.val) :
    (VV m c (ix2 r ⟨128 * h + y, by omega⟩) : EReal) = 1 := by
  unfold VV V
  after_reads_at
  split_ifs <;> first | omega | skip
  all_goals try after_reads_at

theorem s_host (c : Dev nD) (i j : Fin 128) : (SH m c (ix2 i j) : EReal) = if i.val + 64 = j.val then 1 else 0 := by
  unfold SH V
  after_reads_at
  have hi := i.isLt
  have hj := j.isLt
  by_cases e : i.val + 64 = j.val
  · rw [if_pos e]
    rw [show IntOp.addi (BitVec.ofNat 32 i.val) 64#32 = BitVec.ofNat 32 j.val by rw [← e, BitVec.ofNat_add]; rfl]
    rw [show IntOp.cmpi CmpIPredicate.eq (BitVec.ofNat 32 j.val) (BitVec.ofNat 32 j.val) = 1#1 by simp [IntOp.cmpi]]
    simp [Scalar.select]
  · rw [if_neg e]
    have hne : IntOp.addi (BitVec.ofNat 32 i.val) 64#32 ≠ BitVec.ofNat 32 j.val := fun h => by
      have h2 := congrArg BitVec.toNat h
      simp [IntOp.addi] at h2
      omega
    have e0 : IntOp.cmpi CmpIPredicate.eq (IntOp.addi (BitVec.ofNat 32 i.val) 64#32) (BitVec.ofNat 32 j.val) = 0#1 := by
      show BitVec.ofBool (_ == _) = 0#1
      rw [beq_eq_false_iff_ne.mpr hne]; rfl
    rw [e0]
    simp [Scalar.select]

theorem g_hi (c : Dev nD) (y : Fin 1024) (hy : 64 ≤ y.val % 128) : (GG m c (ix2 0 y) : EReal) = 0 := by
  unfold GG V
  after_reads_at
  rw [dif_neg (by omega)]
  show ((((0#32 : BitVec 32).toInt : ℝ)) : EReal) = 0
  simp

theorem g_lo (c : Dev nD) (h : Fin 8) (l : Fin 64) : (GG m c (ix2 0 ⟨128 * h + l, by omega⟩) : EReal) = X4 m c (ix1 ⟨64 * h + l, by omega⟩) := by
  unfold GG V
  after_reads_at
  rw [dif_pos (show (128 * h.val + l.val) % 128 < 64 from by omega)]
  exact congrArg (fun a => X4 m c (ix1 a)) (Fin.ext (by show h.val * 64 + (128 * h.val + l.val) % 128 = 64 * h.val + l.val; omega))

/-- Dividing a lane by 128 on the host, rounding down. -/
theorem lane_div : ∀ i : Fin 256, Scalar.select
      (IntOp.andi
        (IntOp.cmpi CmpIPredicate.ne
          (if BitVec.ofNat 32 i.val = 0 then (0 : BitVec 32) else if (BitVec.ofNat 32 i.val).msb = true then -1 else 1)
          (if id (constantI S_ 32 128#32) ix0 = 0 then (0 : BitVec 32)
          else if BitVec.msb (id (constantI S_ 32 128#32) ix0) = true then -1 else 1))
        (IntOp.cmpi CmpIPredicate.ne
          (IntOp.remsi ArithUnit.host (BitVec.ofNat 32 i.val) (id (constantI S_ 32 128#32) ix0)) 0#32))
      (IntOp.subi (IntOp.divsi ArithUnit.host (BitVec.ofNat 32 i.val) (id (constantI S_ 32 128#32) ix0)) 1#32)
      (IntOp.divsi ArithUnit.host (BitVec.ofNat 32 i.val) (id (constantI S_ 32 128#32) ix0)) = BitVec.ofNat 32 (i.val / 128) := by
  decide +kernel

/-- The lanes whose remainder by 128 is below 65. -/
theorem lane_rem : ∀ i : Fin 256, IntOp.cmpi CmpIPredicate.slt
      (Scalar.select
        (IntOp.andi
          (IntOp.cmpi CmpIPredicate.ne
            (IntOp.cmpi CmpIPredicate.slt (IntOp.remsi ArithUnit.host (BitVec.ofNat 32 i.val) (Scalar.select (IntOp.cmpi CmpIPredicate.eq (id (constantI S_ 32 128#32) ix0) 0#32) (1#32) (id (constantI S_ 32 128#32) ix0))) 0#32)
            (IntOp.cmpi CmpIPredicate.slt (Scalar.select (IntOp.cmpi CmpIPredicate.eq (id (constantI S_ 32 128#32) ix0) 0#32) (1#32) (id (constantI S_ 32 128#32) ix0)) 0#32))
          (IntOp.cmpi CmpIPredicate.ne (IntOp.remsi ArithUnit.host (BitVec.ofNat 32 i.val) (Scalar.select (IntOp.cmpi CmpIPredicate.eq (id (constantI S_ 32 128#32) ix0) 0#32) (1#32) (id (constantI S_ 32 128#32) ix0))) 0#32))
        (IntOp.addi (IntOp.remsi ArithUnit.host (BitVec.ofNat 32 i.val) (Scalar.select (IntOp.cmpi CmpIPredicate.eq (id (constantI S_ 32 128#32) ix0) 0#32) (1#32) (id (constantI S_ 32 128#32) ix0))) (Scalar.select (IntOp.cmpi CmpIPredicate.eq (id (constantI S_ 32 128#32) ix0) 0#32) (1#32) (id (constantI S_ 32 128#32) ix0)))
        (IntOp.remsi ArithUnit.host (BitVec.ofNat 32 i.val) (Scalar.select (IntOp.cmpi CmpIPredicate.eq (id (constantI S_ 32 128#32) ix0) 0#32) (1#32) (id (constantI S_ 32 128#32) ix0))))
      65#32 = if i.val % 128 < 65 then 1#1 else 0#1 := by
  decide +kernel

theorem w_cell (i j : Fin 256) : Scalar.select (IntOp.andi (IntOp.cmpi CmpIPredicate.eq (Scalar.select
      (IntOp.andi
        (IntOp.cmpi CmpIPredicate.ne
          (if BitVec.ofNat 32 i.val = 0 then (0 : BitVec 32) else if (BitVec.ofNat 32 i.val).msb = true then -1 else 1)
          (if id (constantI S_ 32 128#32) ix0 = 0 then (0 : BitVec 32)
          else if BitVec.msb (id (constantI S_ 32 128#32) ix0) = true then -1 else 1))
        (IntOp.cmpi CmpIPredicate.ne
          (IntOp.remsi ArithUnit.host (BitVec.ofNat 32 i.val) (id (constantI S_ 32 128#32) ix0)) 0#32))
      (IntOp.subi (IntOp.divsi ArithUnit.host (BitVec.ofNat 32 i.val) (id (constantI S_ 32 128#32) ix0)) 1#32)
      (IntOp.divsi ArithUnit.host (BitVec.ofNat 32 i.val) (id (constantI S_ 32 128#32) ix0))) (Scalar.select
      (IntOp.andi
        (IntOp.cmpi CmpIPredicate.ne
          (if BitVec.ofNat 32 j.val = 0 then (0 : BitVec 32) else if (BitVec.ofNat 32 j.val).msb = true then -1 else 1)
          (if id (constantI S_ 32 128#32) ix0 = 0 then (0 : BitVec 32)
          else if BitVec.msb (id (constantI S_ 32 128#32) ix0) = true then -1 else 1))
        (IntOp.cmpi CmpIPredicate.ne
          (IntOp.remsi ArithUnit.host (BitVec.ofNat 32 j.val) (id (constantI S_ 32 128#32) ix0)) 0#32))
      (IntOp.subi (IntOp.divsi ArithUnit.host (BitVec.ofNat 32 j.val) (id (constantI S_ 32 128#32) ix0)) 1#32)
      (IntOp.divsi ArithUnit.host (BitVec.ofNat 32 j.val) (id (constantI S_ 32 128#32) ix0)))) (IntOp.cmpi CmpIPredicate.slt
      (Scalar.select
        (IntOp.andi
          (IntOp.cmpi CmpIPredicate.ne
            (IntOp.cmpi CmpIPredicate.slt (IntOp.remsi ArithUnit.host (BitVec.ofNat 32 i.val) (Scalar.select (IntOp.cmpi CmpIPredicate.eq (id (constantI S_ 32 128#32) ix0) 0#32) (1#32) (id (constantI S_ 32 128#32) ix0))) 0#32)
            (IntOp.cmpi CmpIPredicate.slt (Scalar.select (IntOp.cmpi CmpIPredicate.eq (id (constantI S_ 32 128#32) ix0) 0#32) (1#32) (id (constantI S_ 32 128#32) ix0)) 0#32))
          (IntOp.cmpi CmpIPredicate.ne (IntOp.remsi ArithUnit.host (BitVec.ofNat 32 i.val) (Scalar.select (IntOp.cmpi CmpIPredicate.eq (id (constantI S_ 32 128#32) ix0) 0#32) (1#32) (id (constantI S_ 32 128#32) ix0))) 0#32))
        (IntOp.addi (IntOp.remsi ArithUnit.host (BitVec.ofNat 32 i.val) (Scalar.select (IntOp.cmpi CmpIPredicate.eq (id (constantI S_ 32 128#32) ix0) 0#32) (1#32) (id (constantI S_ 32 128#32) ix0))) (Scalar.select (IntOp.cmpi CmpIPredicate.eq (id (constantI S_ 32 128#32) ix0) 0#32) (1#32) (id (constantI S_ 32 128#32) ix0)))
        (IntOp.remsi ArithUnit.host (BitVec.ofNat 32 i.val) (Scalar.select (IntOp.cmpi CmpIPredicate.eq (id (constantI S_ 32 128#32) ix0) 0#32) (1#32) (id (constantI S_ 32 128#32) ix0))))
      65#32)) (1 : EReal) 0
    = if i.val / 128 = j.val / 128 ∧ i.val % 128 < 65 then 1 else 0 := by
  rw [lane_div i, lane_div j, lane_rem i]
  have hi := i.isLt
  have hj := j.isLt
  by_cases e : i.val / 128 = j.val / 128
  · rw [e, show IntOp.cmpi CmpIPredicate.eq (BitVec.ofNat 32 (j.val / 128)) (BitVec.ofNat 32 (j.val / 128)) = 1#1 by simp [IntOp.cmpi]]
    by_cases e2 : i.val % 128 < 65
    · simp [e2, Scalar.select, IntOp.andi]
    · simp [e2, Scalar.select, IntOp.andi]
  · have hne : BitVec.ofNat 32 (i.val / 128) ≠ BitVec.ofNat 32 (j.val / 128) := fun h => by
      have h2 := congrArg BitVec.toNat h
      simp at h2
      omega
    have e0 : IntOp.cmpi CmpIPredicate.eq (BitVec.ofNat 32 (i.val / 128)) (BitVec.ofNat 32 (j.val / 128)) = 0#1 := by
      show BitVec.ofBool (_ == _) = 0#1
      rw [beq_eq_false_iff_ne.mpr hne]; rfl
    rw [e0]
    simp [e, Scalar.select, IntOp.andi]

theorem w_host (c : Dev nD) (i j : Fin 256) : (WM m c (ix2 i j) : EReal) = if i.val / 128 = j.val / 128 ∧ i.val % 128 < 65 then 1 else 0 := by
  unfold WM V
  after_reads_at
  exact w_cell i j

end Cert.FoxHost

end
-- ==== Proof.FoxSoft.lean ====
/- The causal softmax with a decay, over the reals: the weights do not depend on the number subtracted in the exponent, nor does the
   normalized row depend on the sum it was not divided by. -/
module

public import proofs.«01_k».proof.Proof.FoxBlock

@[expose] public section

set_option maxRecDepth 16384

noncomputable section

namespace Cert.FoxSoft

open Cert.FoxBlock Cert.FoxPay Idealize.ShloMosaic

/-- A key's logit against a query, up to what is the query's alone. -/
def lg (q k : Fin 32768 → Fin 512 → ℝ) (c : Fin 32768 → Fin 8 → ℝ) (h : Fin 8) (i j : Fin 32768) : ℝ :=
  (∑ d : Fin 64, q i ⟨64 * h + d, by omega⟩ * k j ⟨64 * h + d, by omega⟩) * (1 / 8) - c j h

/-- The row of key `j` of sequence `b`. -/
def at_ (b : Fin 8) (j : Fin 4096) : Fin 32768 := ⟨4096 * b + j, by omega⟩

/-- The weight of key `j` for query `i`: nothing beyond the query. -/
def wt (q k : Fin 32768 → Fin 512 → ℝ) (c : Fin 32768 → Fin 8 → ℝ) (b h : Fin 8) (i j : Fin 4096) : ℝ :=
  if j.val ≤ i.val then Real.exp (lg q k c h (at_ b i) (at_ b j)) else 0

/-- The weights' sum. -/
def den (q k : Fin 32768 → Fin 512 → ℝ) (c : Fin 32768 → Fin 8 → ℝ) (b h : Fin 8) (i : Fin 4096) : ℝ := ∑ j, wt q k c b h i j

/-- The weighted mean of the values. -/
def attn (q k v : Fin 32768 → Fin 512 → ℝ) (c : Fin 32768 → Fin 8 → ℝ) (b h : Fin 8) (i : Fin 4096) (l : Fin 64) : ℝ :=
  (∑ j, wt q k c b h i j * v (at_ b j) ⟨64 * h + l, by omega⟩) / den q k c b h i

/-- A head's row, divided by the root of its mean square. -/
def normed (o : Fin 64 → ℝ) (l : Fin 64) : EReal :=
  (o l : EReal) * Ideal.rsqrt (((∑ x, o x * o x) * (1 / 64) + EPS / 64 : ℝ) : EReal)

section
variable (q k v : Fin 32768 → Fin 512 → ℝ) (c : Fin 32768 → Fin 8 → ℝ) (b h : Fin 8) (i : Fin 4096)

theorem wt_nonneg (j : Fin 4096) : 0 ≤ wt q k c b h i j := by
  unfold wt; split_ifs
  · exact (Real.exp_pos _).le
  · exact le_rfl

theorem den_pos : 0 < den q k c b h i :=
  Finset.sum_pos' (fun j _ => wt_nonneg q k c b h i j) ⟨i, Finset.mem_univ _, by unfold wt; rw [if_pos le_rfl]; exact Real.exp_pos _⟩

/-- The weights scaled by one number, divided by their sum. -/
theorem attn_scaled (E : ℝ) (hE : 0 < E) (l : Fin 64) :
    ∑ j, v (at_ b j) ⟨64 * h + l, by omega⟩ * ((wt q k c b h i j * E) * (∑ j, wt q k c b h i j * E)⁻¹) = attn q k v c b h i l := by
  have hd := den_pos q k c b h i
  have e : (∑ j, wt q k c b h i j * E) = den q k c b h i * E := (Finset.sum_mul Finset.univ (fun j => wt q k c b h i j) E).symm
  unfold attn
  rw [e, div_eq_mul_inv, Finset.sum_mul]
  refine Finset.sum_congr rfl fun j _ => ?_
  field_simp
end

/-- Powers of two of a logit scaled for them. -/
theorem rpow_log (x μ : ℝ) : Real.rpow 2 (x * (Real.log 2)⁻¹ - μ) = Real.exp x * Real.rpow 2 (-μ) := by
  have h2 : (0 : ℝ) < 2 := by norm_num
  show (2 : ℝ) ^ (x * (Real.log 2)⁻¹ - μ) = Real.exp x * (2 : ℝ) ^ (-μ)
  rw [sub_eq_add_neg, Real.rpow_add h2]
  congr 1
  rw [Real.rpow_def_of_pos h2]
  congr 1
  have : Real.log 2 ≠ 0 := (Real.log_pos (by norm_num)).ne'
  field_simp

/-- A sum over the keys up to the query, as a sum over all keys with the others' weight nothing. -/
theorem acc_eq (q k : Fin 32768 → Fin 512 → ℝ) (c : Fin 32768 → Fin 8 → ℝ) (b h : Fin 8) (i : Fin 4096) (μ : ℝ) (s : ℕ → ℝ) (V : ℕ → ℝ) (v : Fin 4096 → ℝ)
    (hs : ∀ j : Fin 4096, s j = lg q k c h (at_ b i) (at_ b j) * (Real.log 2)⁻¹) (hV : ∀ j : Fin 4096, V j = v j) :
    ∑ j ∈ Finset.range (i.val + 1), Real.rpow 2 (s j - μ) * V j = Real.rpow 2 (-μ) * ∑ j, wt q k c b h i j * v j := by
  have e1 : ∑ j ∈ Finset.range (i.val + 1), Real.rpow 2 (s j - μ) * V j
      = ∑ j ∈ Finset.range 4096, if j ≤ i.val then Real.rpow 2 (s j - μ) * V j else 0 := by
    rw [← Finset.sum_filter]
    refine Finset.sum_congr (Finset.ext fun j => ?_) fun _ _ => rfl
    have := i.isLt
    simp only [Finset.mem_range, Finset.mem_filter]
    omega
  rw [e1, Finset.sum_range, Finset.mul_sum]
  refine Finset.sum_congr rfl fun j _ => ?_
  unfold wt
  split_ifs with hj
  · rw [hs j, hV j, rpow_log]; ring
  · ring

/-- The normalized row from sums that were not divided by the weights' sum. -/
theorem norm_eq (A : Fin 128 → ℝ) (o : Fin 64 → ℝ) (D : ℝ) (hD : 0 < D) (h64 : A 64 = D) (hA : ∀ l : Fin 64, A ⟨l, by omega⟩ = D * o l) (l : Fin 64) :
    (A ⟨l, by omega⟩ : EReal) * Ideal.rsqrt ((normArg A EPS : ℝ) : EReal) = normed o l := by
  have hE : (0 : ℝ) < EPS := by unfold EPS; norm_num
  set a : ℝ := (∑ x, o x * o x) * (1 / 64) + EPS / 64 with ha
  have hpos : 0 < a := by
    have : 0 ≤ ∑ x, o x * o x := Finset.sum_nonneg fun x _ => mul_self_nonneg _
    have := mul_nonneg this (by norm_num : (0 : ℝ) ≤ 1 / 64)
    rw [ha]; linarith [div_pos hE (by norm_num : (0 : ℝ) < 64)]
  have e : normArg A EPS = D ^ 2 * a := by
    unfold normArg
    rw [h64, Finset.sum_congr rfl fun x _ => by rw [hA x], ha]
    rw [show (∑ x : Fin 64, D * o x * (D * o x)) = D ^ 2 * ∑ x, o x * o x by
      rw [Finset.mul_sum]; exact Finset.sum_congr rfl fun x _ => by ring]
    ring
  unfold normed
  rw [e, hA l, ← ha, Ideal.rsqrt_coe, Ideal.rsqrt_coe, if_neg (by nlinarith [mul_pos (pow_pos hD 2) hpos]), if_neg (mul_pos (pow_pos hD 2) hpos).ne',
    if_neg (not_lt.mpr hpos.le), if_neg hpos.ne', ← EReal.coe_mul, ← EReal.coe_mul]
  congr 1
  rw [Real.sqrt_mul (pow_nonneg hD.le 2), Real.sqrt_sq hD.le, mul_inv]
  field_simp

end Cert.FoxSoft

end
-- ==== Proof.FoxArray.lean ====
/- What the attention kernel leaves in its result array, from real arguments: the weighted mean of the values under the causal softmax, divided
   by the root of its mean square over a head, times the gain. -/
module

public import proofs.«01_k».proof.Proof.FoxHost
public import proofs.«01_k».proof.Proof.FoxSoft
public import Idealize.ShloMosaic.Lib.Pointwise

@[expose] public section

set_option maxRecDepth 16384

noncomputable section

namespace Cert.FoxArray

open Cert.FoxIdeal Cert.FoxIdeal.Gen Cert.FoxIdeal.Value Cert.FoxMath Cert.FoxPay Cert.FoxState Cert.FoxBlock Cert.FoxSoft Cert.FoxHost
open Idealize.ShloMosaic Idealize.ShloMosaic.TcCoe Idealize.SL.Sem
open Idealize.ShloMosaic.Pipeline (Dat)

variable (m : (ℓ : Loc nD τ sig) → Buf (Elt Ideal) ℓ)

/-- The windows' block indices at every point of the grid. -/
theorem idx_val : ∀ t : Fin cfg0.N, win0_0.index t = ![t.val, 0]
    ∧ win0_1.index t = ![t.val / 8, 0]
    ∧ win0_2.index t = ![t.val / 8, 0]
    ∧ win0_3.index t = ![0, 0]
    ∧ win0_4.index t = ![0, 0]
    ∧ win0_5.index t = ![0, 0]
    ∧ win0_6.index t = ![t.val, 0]
    ∧ (grid0.coords t 1).val = t.val % 8 :=
  (by decide +kernel : ∀ t : Fin grid0.N, _)

theorem N_lt (t : Fin cfg0.N) : t.val < 64 := lt_of_lt_of_eq t.isLt N_0

/-- The row that row `r` of point `t`'s block is, and the row of its sequence's key `j`. -/
abbrev qrow (t : Fin cfg0.N) (r : Fin 512) : Fin 32768 := ⟨t.val * 512 + r.val, by have := N_lt t; omega⟩
abbrev krow (t : Fin cfg0.N) (j : Fin 4096) : Fin 32768 := ⟨t.val / 8 * 4096 + j.val, by have := N_lt t; omega⟩

theorem q_read (c : Dev nD) (t : Fin cfg0.N) (r : Fin 512) (l : Fin 1024) :
    (show FVec Ideal S512x1024 .bf16 from iblk m c 0 t) (ix2 r l) = Q m c (ix2 (qrow t r) l) := by
  blk_point [iblk, idx_val t]

theorem k_read (c : Dev nD) (t : Fin cfg0.N) (j : Fin 4096) (l : Fin 1024) :
    (show FVec Ideal S4096x1024 .bf16 from iblk m c 1 t) (ix2 j l) = K m c (ix2 (krow t j) l) := by
  blk_point [iblk, idx_val t]

theorem v_read (c : Dev nD) (t : Fin cfg0.N) (j : Fin 4096) (l : Fin 1024) :
    (show FVec Ideal S4096x1024 .bf16 from iblk m c 2 t) (ix2 j l) = VV m c (ix2 (krow t j) l) := by
  blk_point [iblk, idx_val t]

theorem g_read (c : Dev nD) (t : Fin cfg0.N) (l : Fin 1024) :
    (show FVec Ideal S1x1024 .f32 from iblk m c 3 t) (ix2 0 l) = GG m c (ix2 0 l) := by
  blk_point [iblk, idx_val t]

theorem w_read (c : Dev nD) (t : Fin cfg0.N) (i j : Fin 256) :
    (show FVec Ideal S256x256 .bf16 from iblk m c 4 t) (ix2 i j) = WM m c (ix2 i j) := by
  blk_point [iblk, idx_val t]

theorem s_read (c : Dev nD) (t : Fin cfg0.N) (i j : Fin 128) :
    (show FVec Ideal S128x128 .bf16 from iblk m c 5 t) (ix2 i j) = SH m c (ix2 i j) := by
  blk_point [iblk, idx_val t]

/-- The arguments are real numbers. -/
structure Reals (c : Dev nD) (q k v : Fin 32768 → Fin 512 → ℝ) (d : Fin 32768 → Fin 8 → ℝ) : Prop where
  q : ∀ i j, (X0 m c (ix2 i j) : EReal) = (q i j : EReal)
  k : ∀ i j, (X1 m c (ix2 i j) : EReal) = (k i j : EReal)
  v : ∀ i j, (X2 m c (ix2 i j) : EReal) = (v i j : EReal)
  d : ∀ i j, (X3 m c (ix2 i j) : EReal) = (d i j : EReal)

variable {m} {c : Dev nD} {q k v : Fin 32768 → Fin 512 → ℝ} {d : Fin 32768 → Fin 8 → ℝ} (R : Reals m c q k v d)

theorem eighth_eq : Ideal.ofBits FTy.f32 0x3E000000#32 = ((1 / 8 : ℝ) : EReal) := by
  simp [Ideal.ofBits, Ideal.ieee]
  rw [← EReal.coe_mul]
  congr 1
  norm_num

/-- A sum over a head's 128 lanes of a query against a key: the head's 64 coordinates, then one lane that holds the key's decay. -/
def qk (q k : Fin 32768 → Fin 512 → ℝ) (d : Fin 32768 → Fin 8 → ℝ) (i j : Fin 32768) (h : Fin 8) (y : Fin 128) : ℝ :=
  if hy : y.val < 64 then q i ⟨64 * h + y, by omega⟩ * (1 / 8) * k j ⟨64 * h + y, by omega⟩ else if y.val = 64 then -d j h else 0

theorem sum_qk (i j : Fin 32768) (h : Fin 8) : ∑ y : Fin 128, qk q k d i j h y = lg q k d h i j := by
  have e : ∑ y : Fin 128, qk q k d i j h y = (∑ y : Fin 64, qk q k d i j h (Fin.castAdd 64 y)) + ∑ y : Fin 64, qk q k d i j h (Fin.natAdd 64 y) :=
    Fin.sum_univ_add (a := 64) (b := 64) _
  have e1 : ∑ y : Fin 64, qk q k d i j h (Fin.castAdd 64 y) = (∑ y : Fin 64, q i ⟨64 * h + y, by omega⟩ * k j ⟨64 * h + y, by omega⟩) * (1 / 8) := by
    rw [Finset.sum_mul]
    refine Finset.sum_congr rfl fun y _ => ?_
    unfold qk
    rw [dif_pos (show (Fin.castAdd 64 y).val < 64 from y.isLt)]
    show q i ⟨64 * h.val + y.val, _⟩ * (1 / 8) * k j ⟨64 * h.val + y.val, _⟩ = _
    ring
  have e2 : ∑ y : Fin 64, qk q k d i j h (Fin.natAdd 64 y) = -d j h := by
    rw [Finset.sum_eq_single (0 : Fin 64)]
    · unfold qk
      rw [dif_neg (by decide), if_pos (by decide)]
    · intro y _ hy
      unfold qk
      have : y.val ≠ 0 := fun e => hy (Fin.ext e)
      rw [dif_neg (by show ¬ 64 + y.val < 64; omega), if_neg (by show ¬ 64 + y.val = 64; omega)]
    · intro h; exact absurd (Finset.mem_univ _) h
  rw [e, e1, e2]
  unfold lg
  ring

include R

theorem term (i j : Fin 32768) (h : Fin 8) (y : Fin 128) :
    (Q m c (ix2 i ⟨128 * h + y, by omega⟩) : EReal) * K m c (ix2 j ⟨128 * h + y, by omega⟩) = (qk q k d i j h y : EReal) := by
  unfold qk
  by_cases h1 : y.val < 64
  · rw [dif_pos h1, q_lo m c i h y h1, k_lo m c j h y h1, R.q, R.k, eighth_eq, ← EReal.coe_mul, ← EReal.coe_mul]
  · rw [dif_neg h1]
    by_cases h2 : 67 ≤ y.val
    · rw [q_hi m c i h y h2, if_neg (by omega), zero_mul, EReal.coe_zero]
    · rw [q_mid m c i h y (by omega) (by omega), one_mul]
      rcases (by omega : y.val = 64 ∨ y.val = 65 ∨ y.val = 66) with e | e | e
      · rw [k_64 m c j h y e, if_pos e, R.d, EReal.coe_neg]
      · rw [k_65 m c j h y e, if_neg (by omega), R.d, ← EReal.coe_neg, ← EReal.coe_sub, sub_self]
      · rw [k_66 m c j h y e, if_neg (by omega), R.d, ← EReal.coe_neg, ← EReal.coe_sub, ← EReal.coe_sub, sub_self]

/-- The logits, to base two, and the values of point `t`, over all natural numbers. -/
def sOf (q k : Fin 32768 → Fin 512 → ℝ) (d : Fin 32768 → Fin 8 → ℝ) (t : Fin cfg0.N) (h : Fin 8) (r : Fin 512) (j : ℕ) : ℝ :=
  lg q k d h (qrow t r) (krow t ⟨j % 4096, Nat.mod_lt _ (by decide)⟩) * (Real.log 2)⁻¹
def vOf (v : Fin 32768 → Fin 512 → ℝ) (t : Fin cfg0.N) (h : Fin 8) (j : ℕ) (l : Fin 128) : ℝ :=
  if hl : l.val < 64 then v (krow t ⟨j % 4096, Nat.mod_lt _ (by decide)⟩) ⟨64 * h + l, by omega⟩ else 1

theorem ops (t : Fin cfg0.N) : Ops (sOf q k d t) (vOf v t) (iblk m c 0 t) (iblk m c 1 t) (iblk m c 2 t) where
  logit h r j := by
    have e : (⟨j.val % 4096, Nat.mod_lt _ (by decide)⟩ : Fin 4096) = j := Fin.ext (Nat.mod_eq_of_lt j.isLt)
    unfold sOf
    rw [e, ← sum_qk, EReal.coe_mul, coe_sum]
    refine congrArg (· * _) (Finset.sum_congr rfl fun y _ => ?_)
    exact (congrArg₂ (· * ·) (q_read m c t r _) (k_read m c t j _)).trans (term R _ _ h y)
  value h j l := by
    have e : (⟨j.val % 4096, Nat.mod_lt _ (by decide)⟩ : Fin 4096) = j := Fin.ext (Nat.mod_eq_of_lt j.isLt)
    refine (v_read m c t j _).trans ?_
    unfold vOf
    rw [e]
    by_cases hl : l.val < 64
    · rw [dif_pos hl, v_lo m c _ h l hl, R.v]
    · rw [dif_neg hl, v_hi m c _ h l (by omega), EReal.coe_one]

omit R

/-- A head's running sum, once the row's last key is done. -/
theorem acc_val (t : Fin cfg0.N) (μ : Fin 8 → Fin 512 → ℝ) (r : Fin 512) (h : Fin 8) (l : Fin 128) (b : Fin 8) (i : Fin 4096) (hb : b.val = t.val / 8)
    (hi : i.val = 512 * (t.val % 8) + r.val) (w : Fin 4096 → ℝ) (hw : ∀ j : Fin 4096, vOf v t h j l = w j) :
    acc (sOf q k d t) (vOf v t) μ (512 * (grid0.coords t 1).val + r.val + 1) h r l = Real.rpow 2 (-μ h r) * ∑ j, wt q k d b h i j * w j := by
  obtain ⟨-, -, -, -, -, -, -, e⟩ := idx_val t
  rw [show 512 * (grid0.coords t 1).val + r.val + 1 = i.val + 1 by rw [e, hi]]
  unfold acc
  refine acc_eq q k d b h i (μ h r) (sOf q k d t h r) (fun j => vOf v t h j l) w (fun j => ?_) hw
  have e1 : qrow t r = at_ b i := Fin.ext (by show t.val * 512 + r.val = 4096 * b.val + i.val; omega)
  have e2 : krow t ⟨j.val % 4096, Nat.mod_lt _ (by decide)⟩ = at_ b j := Fin.ext (by show t.val / 8 * 4096 + j.val % 4096 = 4096 * b.val + j.val; omega)
  unfold sOf
  rw [e1, e2]

include R

/-- A block's element. -/
theorem block (t : Fin cfg0.N) (r : Fin 512) (h : Fin 8) (l : Fin 64) (b : Fin 8) (i : Fin 4096) (hb : b.val = t.val / 8)
    (hi : i.val = 512 * (t.val % 8) + r.val) :
    (show FVec Ideal S512x512 .bf16 from outsAt0 m c t) (ix2 r ⟨64 * h + l, by omega⟩)
      = normed (attn q k v d b h i) l * X4 m c (ix1 ⟨64 * h + l, by omega⟩) := by
  obtain ⟨μ, hμ⟩ := out_block c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) scM0_0 (Memref.isWhole_whole _) scM0_1 (Memref.isWhole_whole _) (iblk m c 0 t) (iblk m c 1 t) (iblk m c 2 t) (iblk m c 3 t) (iblk m c 4 t) (iblk m c 5 t)
    (ops R t) (fun i j => (w_read m c t i j).trans (w_host m c i j)) (fun y hy => (g_read m c t y).trans (g_hi m c y hy))
    (fun x l => (s_read m c t x l).trans (s_host m c x l))
  have hD : 0 < Real.rpow 2 (-μ h r) * den q k d b h i := mul_pos (Real.rpow_pos_of_pos (by norm_num) _) (den_pos q k d b h i)
  refine (hμ r h l).trans ?_
  refine congrArg₂ (· * ·) (norm_eq (acc (sOf q k d t) (vOf v t) μ (512 * (grid0.coords t 1).val + r.val + 1) h r) (attn q k v d b h i)
    (Real.rpow 2 (-μ h r) * den q k d b h i) hD ?_ (fun l => ?_) l) ((g_read m c t _).trans (g_lo m c h l))
  · rw [acc_val t μ r h 64 b i hb hi (fun _ => 1) (fun j => by unfold vOf; rw [dif_neg (by decide)])]
    simp only [mul_one]
    rfl
  · rw [acc_val t μ r h ⟨l, by omega⟩ b i hb hi (fun j => v (at_ b j) ⟨64 * h + l, by omega⟩) (fun j => by
      have e2 : krow t ⟨j.val % 4096, Nat.mod_lt _ (by decide)⟩ = at_ b j := Fin.ext (by show t.val / 8 * 4096 + j.val % 4096 = 4096 * b.val + j.val; omega)
      unfold vOf; rw [dif_pos (show l.val < 64 from l.isLt), e2])]
    unfold attn
    have := (den_pos q k d b h i).ne'
    field_simp

omit R

/-- The result array's element at a row and a column. -/
def result (q k v : Fin 32768 → Fin 512 → ℝ) (d : Fin 32768 → Fin 8 → ℝ) (g : EReal) (r : Fin 32768) (y : Fin 512) : EReal :=
  normed (attn q k v d ⟨r / 4096, by omega⟩ ⟨y / 64, by omega⟩ ⟨r % 4096, by omega⟩) ⟨y % 64, by omega⟩ * g

/-- The result array. -/
def OUT (m : (ℓ : Loc nD τ sig) → Buf (Elt Ideal) ℓ) (c : Dev nD) (q k v : Fin 32768 → Fin 512 → ℝ) (d : Fin 32768 → Fin 8 → ℝ) : FVec Ideal S32768x512 .bf16 :=
  fun i => result q k v d (X4 m c (ix1 (i 1))) (i 0) (i 1)

include R

/-- The result array's element where a point's block puts its element `y`. -/
theorem out_emb (t : Fin cfg0.N) (y : S512x512.Idx) :
    (show FVec Ideal S512x512 .bf16 from outsAt0 m c t) y = OUT m c q k v d (ix2 (qrow t (y 0)) (y 1)) := by
  have key : ∀ (r z : Fin 512), (show FVec Ideal S512x512 .bf16 from outsAt0 m c t) (ix2 r z) = result q k v d (X4 m c (ix1 z)) (qrow t r) z := fun r z => by
    have hr := r.isLt
    have ht := N_lt t
    have e : (⟨64 * (z.val / 64) + z.val % 64, by omega⟩ : Fin 512) = z := Fin.ext (Nat.div_add_mod _ _)
    have hb := block R t r ⟨z.val / 64, by omega⟩ ⟨z.val % 64, by omega⟩ ⟨(t.val * 512 + r.val) / 4096, by omega⟩ ⟨(t.val * 512 + r.val) % 4096, by omega⟩
      (by show (t.val * 512 + r.val) / 4096 = t.val / 8; omega) (by show (t.val * 512 + r.val) % 4096 = 512 * (t.val % 8) + r.val; omega)
    rw [e] at hb
    exact hb
  have h := key (y 0) (y 1)
  rw [← eq_ix2 y] at h
  exact h

/-- The result array after the run. -/
theorem final : (dats m 0 c).arrAt 6 cfg0.N = OUT m c q k v d := by
  refine (dats m 0 c).arrAt_eq_of_covers 6 _ (by decide +kernel) fun t hf y => ?_
  blk_simp
  rw [after0_6]
  refine (out_emb R t y).trans (congrArg (OUT m c q k v d) ?_)
  blk_ext [idx_val t]

end Cert.FoxArray

end
-- ==== Proof.FoxRefOps.lean ====
/- The plain attention, operation by operation, and what each leaves at an index: scores, their maximum, exponentials, their sum, the weighted
   mean of the values, and that mean divided by the root of its mean square, times the gain. -/
module

public import proofs.«01_k».proof.Proof.Gen.FoxRefIdeal.Run
public import proofs.«01_k».proof.Proof.FoxSoft
public import Idealize.ShloMosaic.Lib.Pointwise
public import Idealize.ShloMosaic.Lib.Pipeline.ValueKit

@[expose] public section

set_option maxRecDepth 16384

noncomputable section

namespace Cert.FoxRefOps

open Cert.FoxRefIdeal Cert.FoxRefIdeal.Gen Cert.FoxMath Cert.FoxSoft Idealize.ShloMosaic Idealize.ShloMosaic.TcCoe Idealize.SL.Sem

variable (x0 x1 x2 : FVec Ideal S32768x512 .f32) (x3 : FVec Ideal S32768x8 .f32) (x4 : FVec Ideal S512 .f32)

/-! The reference's operations, in order, as functions of the arguments. -/
def r_v0 : FVec Ideal S8x4096x8x64 .f32 := shapeCast _ x0 shapeCasts_S32768x512_S8x4096x8x64
def r_v1 : FVec Ideal S8x4096x8x64 .f32 := shapeCast _ x1 shapeCasts_S32768x512_S8x4096x8x64
def r_v2 : FVec Ideal S8x4096x8x64 .f32 := shapeCast _ x2 shapeCasts_S32768x512_S8x4096x8x64
def r_v3 : FVec Ideal S8x4096x8 .f32 := shapeCast _ x3 shapeCasts_S32768x8_S8x4096x8
def r_v4 : FVec Ideal S8x8x4096x4096 .f32 := Host.dotGeneral dot_S8x4096x8x64_S8x4096x8x64_S8x8x4096x4096_3_3_1_1_02_02 none (r_v0 x0) (r_v1 x1)
def r_cst : FVec Ideal S_ .f32 := constant (F := Ideal) S_ .f32 0x3E000000#32
def r_v5 : FVec Ideal S8x8x4096x4096 .f32 := broadcastInDim S8x8x4096x4096 ![] bcast_S_S8x8x4096x4096 r_cst
def r_v6 : FVec Ideal S8x8x4096x4096 .f32 := mulf (r_v4 x0 x1) r_v5
def r_v7 : FVec Ideal S8x8x4096 .f32 := transpose S8x8x4096 [0, 2, 1] (r_v3 x3) transposes_S8x4096x8_S8x8x4096_0_2_1
def r_v8 : FVec Ideal S8x8x4096x1 .f32 := broadcastInDim S8x8x4096x1 ![0, 1, 2] bcast_S8x8x4096_S8x8x4096x1_0_1_2 (r_v7 x3)
def r_v9 : FVec Ideal S8x8x4096x4096 .f32 := broadcastInDim S8x8x4096x4096 ![0, 1, 2, 3] bcast_S8x8x4096x1_S8x8x4096x4096_0_1_2_3 (r_v8 x3)
def r_v10 : FVec Ideal S8x8x4096x4096 .f32 := addf (r_v6 x0 x1) (r_v9 x3)
def r_v11 : FVec Ideal S8x8x1x4096 .f32 := broadcastInDim S8x8x1x4096 ![0, 1, 3] bcast_S8x8x4096_S8x8x1x4096_0_1_3 (r_v7 x3)
def r_v12 : FVec Ideal S8x8x4096x4096 .f32 := broadcastInDim S8x8x4096x4096 ![0, 1, 2, 3] bcast_S8x8x1x4096_S8x8x4096x4096_0_1_2_3 (r_v11 x3)
def r_v13 : FVec Ideal S8x8x4096x4096 .f32 := subf (r_v10 x0 x1 x3) (r_v12 x3)
def r_v14 : IVec S4096 32 := iotaInDim S4096 32 0
def r_v15 : IVec S1x4096 32 := broadcastInDim S1x4096 ![1] bcast_S4096_S1x4096_1 r_v14
def r_v16 : IVec S4096x1 32 := broadcastInDim S4096x1 ![0] bcast_S4096_S4096x1_0 r_v14
def r_v17 : IVec S4096x4096 32 := broadcastInDim S4096x4096 ![0, 1] bcast_S1x4096_S4096x4096_0_1 r_v15
def r_v18 : IVec S4096x4096 32 := broadcastInDim S4096x4096 ![0, 1] bcast_S4096x1_S4096x4096_0_1 r_v16
def r_v19 : IVec S4096x4096 1 := cmpi .sle r_v17 r_v18
def r_cst_0 : FVec Ideal S_ .f32 := constant (F := Ideal) S_ .f32 0xFF800000#32
def r_call0_v0 : FVec Ideal S_ .f32 := id r_cst_0
def r_call0_v1 : IVec S8x8x4096x4096 1 := broadcastInDim S8x8x4096x4096 ![2, 3] bcast_S4096x4096_S8x8x4096x4096_2_3 r_v19
def r_call0_v2 : FVec Ideal S8x8x4096x4096 .f32 := broadcastInDim S8x8x4096x4096 ![] bcast_S_S8x8x4096x4096 r_call0_v0
def r_v20 : FVec Ideal S8x8x4096x4096 .f32 := select r_call0_v1 (r_v13 x0 x1 x3) r_call0_v2
def r_cst_1 : FVec Ideal S_ .f32 := constant (F := Ideal) S_ .f32 0xFF800000#32
def r_v21 : FVec Ideal S8x8x4096 .f32 := Host.reduce FloatOps.maximumf (r_v20 x0 x1 x3) r_cst_1 reducesTo_S8x8x4096x4096_S8x8x4096_d3 h_S_
def r_cst_2 : FVec Ideal S_ .f32 := constant (F := Ideal) S_ .f32 0xFF800000#32
def r_v22 : FVec Ideal S8x8x4096 .f32 := broadcastInDim S8x8x4096 ![] bcast_S_S8x8x4096 r_cst_2
def r_v23 : FVec Ideal S8x8x4096 .f32 := maximumf r_v22 (r_v21 x0 x1 x3)
def r_v24 : FVec Ideal S8x8x4096x1 .f32 := broadcastInDim S8x8x4096x1 ![0, 1, 2] bcast_S8x8x4096_S8x8x4096x1_0_1_2 (r_v23 x0 x1 x3)
def r_v25 : FVec Ideal S8x8x4096x4096 .f32 := broadcastInDim S8x8x4096x4096 ![0, 1, 2, 3] bcast_S8x8x4096x1_S8x8x4096x4096_0_1_2_3 (r_v24 x0 x1 x3)
def r_v26 : FVec Ideal S8x8x4096x4096 .f32 := subf (r_v20 x0 x1 x3) (r_v25 x0 x1 x3)
def r_v27 : FVec Ideal S8x8x4096x4096 .f32 := Host.exp (r_v26 x0 x1 x3)
def r_cst_3 : FVec Ideal S_ .f32 := constant (F := Ideal) S_ .f32 0x00000000#32
def r_v28 : FVec Ideal S8x8x4096 .f32 := Host.reduceAdd (r_v27 x0 x1 x3) r_cst_3 reducesTo_S8x8x4096x4096_S8x8x4096_d3 h_S_
def r_v29 : FVec Ideal S8x8x4096x1 .f32 := broadcastInDim S8x8x4096x1 ![0, 1, 2] bcast_S8x8x4096_S8x8x4096x1_0_1_2 (r_v28 x0 x1 x3)
def r_v30 : FVec Ideal S8x8x4096x4096 .f32 := broadcastInDim S8x8x4096x4096 ![0, 1, 2, 3] bcast_S8x8x4096x1_S8x8x4096x4096_0_1_2_3 (r_v29 x0 x1 x3)
def r_v31 : FVec Ideal S8x8x4096x4096 .f32 := Host.divf (r_v27 x0 x1 x3) (r_v30 x0 x1 x3)
def r_v32 : FVec Ideal S8x8x64x4096 .f32 := Host.dotGeneral dot_S8x4096x8x64_S8x8x4096x4096_S8x8x64x4096_1_3_3_2_02_01 none (r_v2 x2) (r_v31 x0 x1 x3)
def r_v33 : FVec Ideal S8x4096x8x64 .f32 := transpose S8x4096x8x64 [0, 3, 1, 2] (r_v32 x0 x1 x2 x3) transposes_S8x8x64x4096_S8x4096x8x64_0_3_1_2
def r_v34 : FVec Ideal S8x4096x8x64 .f32 := mulf (r_v33 x0 x1 x2 x3) (r_v33 x0 x1 x2 x3)
def r_cst_4 : FVec Ideal S_ .f32 := constant (F := Ideal) S_ .f32 0x00000000#32
def r_v35 : FVec Ideal S8x4096x8 .f32 := Host.reduceAdd (r_v34 x0 x1 x2 x3) r_cst_4 reducesTo_S8x4096x8x64_S8x4096x8_d3 h_S_
def r_v36 : FVec Ideal S8x4096x8x1 .f32 := broadcastInDim S8x4096x8x1 ![0, 1, 2] bcast_S8x4096x8_S8x4096x8x1_0_1_2 (r_v35 x0 x1 x2 x3)
def r_cst_5 : FVec Ideal S_ .f32 := constant (F := Ideal) S_ .f32 0x42800000#32
def r_v37 : FVec Ideal S8x4096x8x1 .f32 := broadcastInDim S8x4096x8x1 ![] bcast_S_S8x4096x8x1 r_cst_5
def r_v38 : FVec Ideal S8x4096x8x1 .f32 := Host.divf (r_v36 x0 x1 x2 x3) r_v37
def r_cst_6 : FVec Ideal S_ .f32 := constant (F := Ideal) S_ .f32 0x358637BD#32
def r_v39 : FVec Ideal S8x4096x8x1 .f32 := broadcastInDim S8x4096x8x1 ![] bcast_S_S8x4096x8x1 r_cst_6
def r_v40 : FVec Ideal S8x4096x8x1 .f32 := addf (r_v38 x0 x1 x2 x3) r_v39
def r_v41 : FVec Ideal S8x4096x8x1 .f32 := Host.rsqrt (r_v40 x0 x1 x2 x3)
def r_v42 : FVec Ideal S8x4096x8x64 .f32 := broadcastInDim S8x4096x8x64 ![0, 1, 2, 3] bcast_S8x4096x8x1_S8x4096x8x64_0_1_2_3 (r_v41 x0 x1 x2 x3)
def r_v43 : FVec Ideal S8x4096x8x64 .f32 := mulf (r_v33 x0 x1 x2 x3) (r_v42 x0 x1 x2 x3)
def r_v44 : FVec Ideal S32768x512 .f32 := shapeCast _ (r_v43 x0 x1 x2 x3) shapeCasts_S8x4096x8x64_S32768x512
def r_v45 : FVec Ideal S1x512 .f32 := broadcastInDim S1x512 ![1] bcast_S512_S1x512_1 x4
def r_v46 : FVec Ideal S32768x512 .f32 := broadcastInDim S32768x512 ![0, 1] bcast_S1x512_S32768x512_0_1 (r_v45 x4)
def r_v47 : FVec Ideal S32768x512 .f32 := mulf (r_v44 x0 x1 x2 x3) (r_v46 x4)
def r_v48 : FVec Ideal S32768x512 .bf16 := truncf .bf16 (r_v47 x0 x1 x2 x3 x4) bitsLt_bf16_f32

/-- The run's result is the last of them. -/
theorem res_eq (m : (ℓ : Loc nD τ sig) → Buf (Elt Ideal) ℓ) (c : Dev nD) :
    Value.res_main_v48 (F := Ideal) m c = r_v48 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

theorem score_read (b h : Fin 8) (i j : Fin 4096) : (r_v20 x0 x1 x3 (ix4 b h i j) : EReal)
    = Scalar.select (IntOp.cmpi CmpIPredicate.sle (BitVec.ofNat 32 j.val) (BitVec.ofNat 32 i.val))
        ((∑ d : Fin 64, x0 (ix2 ⟨b * 4096 + i, by omega⟩ ⟨h * 64 + d, by omega⟩) * x1 (ix2 ⟨b * 4096 + j, by omega⟩ ⟨h * 64 + d, by omega⟩)) * Ideal.ofBits FTy.f32 0x3E000000#32
          + x3 (ix2 ⟨b * 4096 + i, by omega⟩ h) - x3 (ix2 ⟨b * 4096 + j, by omega⟩ h))
        (Ideal.ofBits FTy.f32 0xFF800000#32) := by
  pointwise [r_v20, r_call0_v1, r_call0_v0, r_call0_v2, r_v19, r_v18, r_v17, r_v16, r_v15, r_v14, r_v13, r_v12, r_v11, r_v10, r_v9, r_v8, r_v7, r_v6, r_v5, r_v4, r_v3, r_v1, r_v0, r_cst, r_cst_0]
  rfl

/-- A maximum from `⊥` over entries that are never `⊤` and somewhere not `⊥` is a real number. -/
theorem reduce_max_real {s t u : Shape} {axes : List (Fin s.rank)} (S : FVec Ideal s .f32) (init : FVec Ideal u .f32) (h : s.ReducesTo axes t) (hu : 0 < u.numel) (j : t.Idx)
    (hi : ∀ y, (init y : EReal) = ⊥) (hS : ∀ i, (S i : EReal) ≠ ⊤) (i0 : s.Idx) (h0 : h.drop i0 = j) (hb : (S i0 : EReal) ≠ ⊥) :
    ∃ β : ℝ, Host.reduce (FloatOps.maximumf (F := Ideal) (φ := .f32)) S init h hu j = ((β : EReal) : Ideal .f32) := by
  have e : Host.reduce (FloatOps.maximumf (F := Ideal) (φ := .f32)) S init h hu j = (Finset.univ.filter fun i => h.drop i = j).fold max (⊥ : EReal) S := by
    rw [Host.reduce_eq_fold]
    refine Eq.trans ?_ ((congrArg (fun z : EReal => (Finset.univ.filter fun i => h.drop i = j).fold max z S) (hi (Shape.Idx.first hu))))
    exact (Finset.fold_hom (op := FloatOps.maximumf (F := Ideal) (φ := .f32)) (op' := (max : EReal → EReal → EReal)) (m := id) (fun _ _ => rfl)).symm
  rw [e]
  have hlt : (Finset.univ.filter fun i => h.drop i = j).fold max (⊥ : EReal) S < ⊤ :=
    (Finset.fold_max_lt _).mpr ⟨bot_lt_top, fun i _ => lt_top_iff_ne_top.mpr (hS i)⟩
  have hgt : ⊥ < (Finset.univ.filter fun i => h.drop i = j).fold max (⊥ : EReal) S :=
    (Finset.lt_fold_max _).mpr (Or.inr ⟨i0, Finset.mem_filter.mpr ⟨Finset.mem_univ _, h0⟩, bot_lt_iff_ne_bot.mpr hb⟩)
  exact ⟨_, (EReal.coe_toReal hlt.ne hgt.ne').symm⟩

theorem max_at {s : Shape} (A B : FVec Ideal s .f32) (i : s.Idx) : (maximumf A B i : EReal) = max (A i : EReal) (B i : EReal) := rfl

theorem drop_at (h : S8x8x4096x4096.ReducesTo [3] S8x8x4096) (b h' : Fin 8) (i k : Fin 4096) : h.drop (ix4 b h' i k) = ix3 b h' i :=
  (Shape.ReducesTo.fiber_r4_a3 h (ix3 b h' i) (ix4 b h' i k)).mpr ⟨k, rfl⟩

theorem low (b h : Fin 8) (i : Fin 4096) : (r_v22 (ix3 b h i) : EReal) = ⊥ := by
  pointwise [r_v22, r_cst_2]
  exact Cert.FoxPay.ninf_eq

theorem cst_low (y : S_.Idx) : (r_cst_1 y : EReal) = ⊥ := Cert.FoxPay.ninf_eq

theorem max_gen (S : FVec Ideal S8x8x4096x4096 .f32) (L : FVec Ideal S8x8x4096 .f32) (b h : Fin 8) (i : Fin 4096) (hL : (L (ix3 b h i) : EReal) = ⊥)
    (hS : ∀ j, (S j : EReal) ≠ ⊤) (hb : (S (ix4 b h i i) : EReal) ≠ ⊥) (red : S8x8x4096x4096.ReducesTo [3] S8x8x4096) (init : FVec Ideal S_ .f32) (hi : ∀ y, (init y : EReal) = ⊥) :
    ∃ β : ℝ, (maximumf L (Host.reduce FloatOps.maximumf S init red h_S_) (ix3 b h i) : EReal) = (β : EReal) := by
  obtain ⟨β, hβ⟩ := reduce_max_real S init red h_S_ (ix3 b h i) hi hS (ix4 b h i i) (drop_at red b h i i) hb
  refine ⟨β, (max_at L _ _).trans ?_⟩
  rw [hL, max_eq_right bot_le]
  exact hβ

theorem max_real (b h : Fin 8) (i : Fin 4096) (hS : ∀ j, (r_v20 x0 x1 x3 j : EReal) ≠ ⊤) (hb : (r_v20 x0 x1 x3 (ix4 b h i i) : EReal) ≠ ⊥) :
    ∃ β : ℝ, (r_v23 x0 x1 x3 (ix3 b h i) : EReal) = (β : EReal) := by
  unfold r_v23 r_v21
  exact max_gen (r_v20 x0 x1 x3) r_v22 b h i (low b h i) hS hb _ r_cst_1 cst_low

theorem exp_gen (S : FVec Ideal S8x8x4096x4096 .f32) (M : FVec Ideal S8x8x4096 .f32) (b h : Fin 8) (i j : Fin 4096) :
    (Host.exp (subf S (broadcastInDim S8x8x4096x4096 ![0, 1, 2, 3] bcast_S8x8x4096x1_S8x8x4096x4096_0_1_2_3 (broadcastInDim S8x8x4096x1 ![0, 1, 2] bcast_S8x8x4096_S8x8x4096x1_0_1_2 M))) (ix4 b h i j) : EReal)
      = Ideal.exp (S (ix4 b h i j) - M (ix3 b h i)) := by
  pointwise

theorem exp_read (b h : Fin 8) (i j : Fin 4096) : (r_v27 x0 x1 x3 (ix4 b h i j) : EReal) = Ideal.exp (r_v20 x0 x1 x3 (ix4 b h i j) - r_v23 x0 x1 x3 (ix3 b h i)) := by
  unfold r_v27 r_v26 r_v25 r_v24
  exact exp_gen (r_v20 x0 x1 x3) (r_v23 x0 x1 x3) b h i j

theorem sum_gen (S : FVec Ideal S8x8x4096x4096 .f32) (b h : Fin 8) (i : Fin 4096) :
    (Host.reduceAdd S r_cst_3 reducesTo_S8x8x4096x4096_S8x8x4096_d3 h_S_ (ix3 b h i) : EReal) = ∑ j : Fin 4096, (S (ix4 b h i j) : EReal) := by
  pointwise [r_cst_3]

theorem sum_read (b h : Fin 8) (i : Fin 4096) : (r_v28 x0 x1 x3 (ix3 b h i) : EReal) = ∑ j : Fin 4096, (r_v27 x0 x1 x3 (ix4 b h i j) : EReal) := by
  unfold r_v28
  exact sum_gen (r_v27 x0 x1 x3) b h i

theorem mean_gen (E : FVec Ideal S8x8x4096x4096 .f32) (D : FVec Ideal S8x8x4096 .f32) (b h : Fin 8) (i : Fin 4096) (l : Fin 64) :
    (transpose S8x4096x8x64 [0, 3, 1, 2] (Host.dotGeneral dot_S8x4096x8x64_S8x8x4096x4096_S8x8x64x4096_1_3_3_2_02_01 none (shapeCast _ x2 shapeCasts_S32768x512_S8x4096x8x64)
      (Host.divf E (broadcastInDim S8x8x4096x4096 ![0, 1, 2, 3] bcast_S8x8x4096x1_S8x8x4096x4096_0_1_2_3 (broadcastInDim S8x8x4096x1 ![0, 1, 2] bcast_S8x8x4096_S8x8x4096x1_0_1_2 D)))) transposes_S8x8x64x4096_S8x4096x8x64_0_3_1_2 (ix4 b i h l) : EReal)
      = ∑ j : Fin 4096, x2 (ix2 ⟨b * 4096 + j, by omega⟩ ⟨h * 64 + l, by omega⟩) * Ideal.div (E (ix4 b h i j)) (D (ix3 b h i)) := by
  pointwise

theorem mean_read (b h : Fin 8) (i : Fin 4096) (l : Fin 64) : (r_v33 x0 x1 x2 x3 (ix4 b i h l) : EReal)
      = ∑ j : Fin 4096, x2 (ix2 ⟨b * 4096 + j, by omega⟩ ⟨h * 64 + l, by omega⟩) * Ideal.div (r_v27 x0 x1 x3 (ix4 b h i j)) (r_v28 x0 x1 x3 (ix3 b h i)) := by
  unfold r_v33 r_v32 r_v31 r_v30 r_v29 r_v2
  exact mean_gen x2 (r_v27 x0 x1 x3) (r_v28 x0 x1 x3) b h i l

theorem out_gen (O : FVec Ideal S8x4096x8x64 .f32) (r : Fin 32768) (h : Fin 8) (l : Fin 64) :
    (truncf .bf16 (mulf (shapeCast _ (mulf O (broadcastInDim S8x4096x8x64 ![0, 1, 2, 3] bcast_S8x4096x8x1_S8x4096x8x64_0_1_2_3
        (Host.rsqrt (addf (Host.divf (broadcastInDim S8x4096x8x1 ![0, 1, 2] bcast_S8x4096x8_S8x4096x8x1_0_1_2 (Host.reduceAdd (mulf O O) r_cst_4 reducesTo_S8x4096x8x64_S8x4096x8_d3 h_S_)) r_v37) r_v39))))
        shapeCasts_S8x4096x8x64_S32768x512) (r_v46 x4)) bitsLt_bf16_f32 (ix2 r ⟨64 * h + l, by omega⟩) : EReal)
      = O (ix4 ⟨r / 4096, by omega⟩ ⟨r % 4096, by omega⟩ h l)
        * Ideal.rsqrt (Ideal.div (∑ x : Fin 64, O (ix4 ⟨r / 4096, by omega⟩ ⟨r % 4096, by omega⟩ h x) * O (ix4 ⟨r / 4096, by omega⟩ ⟨r % 4096, by omega⟩ h x)) (Ideal.ofBits FTy.f32 0x42800000#32)
            + Ideal.ofBits FTy.f32 0x358637BD#32) * x4 (ix1 ⟨64 * h + l, by omega⟩) := by
  pointwise [r_v46, r_v45, r_v39, r_v37, r_cst_4, r_cst_5, r_cst_6]

theorem out_read (r : Fin 32768) (h : Fin 8) (l : Fin 64) : (r_v48 x0 x1 x2 x3 x4 (ix2 r ⟨64 * h + l, by omega⟩) : EReal)
      = r_v33 x0 x1 x2 x3 (ix4 ⟨r / 4096, by omega⟩ ⟨r % 4096, by omega⟩ h l)
        * Ideal.rsqrt (Ideal.div (∑ x : Fin 64, r_v33 x0 x1 x2 x3 (ix4 ⟨r / 4096, by omega⟩ ⟨r % 4096, by omega⟩ h x) * r_v33 x0 x1 x2 x3 (ix4 ⟨r / 4096, by omega⟩ ⟨r % 4096, by omega⟩ h x)) (Ideal.ofBits FTy.f32 0x42800000#32)
            + Ideal.ofBits FTy.f32 0x358637BD#32) * x4 (ix1 ⟨64 * h + l, by omega⟩) := by
  unfold r_v48 r_v47 r_v44 r_v43 r_v42 r_v41 r_v40 r_v38 r_v36 r_v35 r_v34
  exact out_gen x4 (r_v33 x0 x1 x2 x3) r h l

end Cert.FoxRefOps

end
-- ==== Proof.FoxRefValue.lean ====
/- What the plain attention leaves in its result, index by index, from real arguments: the weighted mean of the values under the causal softmax,
   divided by the root of its mean square over a head, times the gain. -/
module

public import proofs.«01_k».proof.Proof.FoxRefOps

@[expose] public section

set_option maxRecDepth 16384

noncomputable section

namespace Cert.FoxRefValue

open Cert.FoxRefIdeal Cert.FoxRefIdeal.Gen Cert.FoxMath Cert.FoxSoft Cert.FoxRefOps Idealize.ShloMosaic Idealize.ShloMosaic.TcCoe Idealize.SL.Sem
open Cert.FoxPay (ninf_eq EPS)

theorem eighth_eq : Ideal.ofBits FTy.f32 0x3E000000#32 = ((1 / 8 : ℝ) : EReal) := by
  simp [Ideal.ofBits, Ideal.ieee]
  rw [← EReal.coe_mul]
  congr 1
  norm_num

theorem sixtyfour_eq : Ideal.ofBits FTy.f32 0x42800000#32 = ((64 : ℝ) : EReal) := by
  simp [Ideal.ofBits, Ideal.ieee]
  rw [← EReal.coe_mul]
  congr 1
  norm_num

theorem small_eq : Ideal.ofBits FTy.f32 0x358637BD#32 = ((EPS / 64 : ℝ) : EReal) := by
  simp [Ideal.ofBits, Ideal.ieee, EPS]
  rw [← EReal.coe_mul]
  congr 1
  norm_num

/-- The causal mask. -/
theorem select_le (x r : Nat) (hx4 : x < 4096) (hr4 : r < 4096) (s : EReal) :
    Scalar.select (IntOp.cmpi CmpIPredicate.sle (BitVec.ofNat 32 x) (BitVec.ofNat 32 r)) s (⊥ : EReal) = if x ≤ r then s else ⊥ := by
  have hx : (BitVec.ofNat 32 x).toInt = x := by
    rw [BitVec.toInt_ofNat', Int.bmod_eq_of_le] <;> omega
  have hr : (BitVec.ofNat 32 r).toInt = r := by
    rw [BitVec.toInt_ofNat', Int.bmod_eq_of_le] <;> omega
  by_cases h : x ≤ r
  · have h' : BitVec.sle (BitVec.ofNat 32 x) (BitVec.ofNat 32 r) = true := by
      simp only [BitVec.sle, hx, hr, Nat.cast_le, h, decide_true]
    simp only [IntOp.cmpi, h', if_pos h]; rfl
  · have h' : BitVec.sle (BitVec.ofNat 32 x) (BitVec.ofNat 32 r) = false := by
      simp only [BitVec.sle, hx, hr, Nat.cast_le, h, decide_false]
    simp only [IntOp.cmpi, h', if_neg h]; rfl

/-- The arguments are real numbers. -/
structure Reals (q k v : Fin 32768 → Fin 512 → ℝ) (c : Fin 32768 → Fin 8 → ℝ) (x0 x1 x2 : FVec Ideal S32768x512 .f32) (x3 : FVec Ideal S32768x8 .f32) : Prop where
  q : ∀ i j, (x0 (ix2 i j) : EReal) = (q i j : EReal)
  k : ∀ i j, (x1 (ix2 i j) : EReal) = (k i j : EReal)
  v : ∀ i j, (x2 (ix2 i j) : EReal) = (v i j : EReal)
  c : ∀ i j, (x3 (ix2 i j) : EReal) = (c i j : EReal)

variable {q k v : Fin 32768 → Fin 512 → ℝ} {c : Fin 32768 → Fin 8 → ℝ} {x0 x1 x2 : FVec Ideal S32768x512 .f32} {x3 : FVec Ideal S32768x8 .f32}
  (R : Reals q k v c x0 x1 x2 x3) (x4 : FVec Ideal S512 .f32)

theorem row_at (b : Fin 8) (i : Fin 4096) : (⟨b.val * 4096 + i.val, by omega⟩ : Fin 32768) = at_ b i :=
  Fin.ext (by show b.val * 4096 + i.val = 4096 * b.val + i.val; omega)

theorem lane_at (h : Fin 8) (d : Fin 64) : (⟨h.val * 64 + d.val, by omega⟩ : Fin 512) = ⟨64 * h.val + d.val, by omega⟩ :=
  Fin.ext (by show h.val * 64 + d.val = 64 * h.val + d.val; omega)

include R

theorem score (b h : Fin 8) (i j : Fin 4096) : (r_v20 x0 x1 x3 (ix4 b h i j) : EReal)
    = if j.val ≤ i.val then ((lg q k c h (at_ b i) (at_ b j) + c (at_ b i) h : ℝ) : EReal) else ⊥ := by
  rw [score_read, ninf_eq, select_le _ _ j.isLt i.isLt, eighth_eq]
  refine if_congr Iff.rfl ?_ rfl
  simp only [row_at, lane_at, R.q, R.k, R.c, ← EReal.coe_mul, ← coe_sum, ← EReal.coe_add, ← EReal.coe_sub]
  congr 1
  unfold lg
  ring

theorem weight (b h : Fin 8) (i : Fin 4096) : ∃ E : ℝ, 0 < E ∧ ∀ j, (r_v27 x0 x1 x3 (ix4 b h i j) : EReal) = ((wt q k c b h i j * E : ℝ) : EReal) := by
  have key : ∀ (b h : Fin 8) (i j : Fin 4096), (r_v20 x0 x1 x3 (ix4 b h i j) : EReal) ≠ ⊤ := fun b h i j => by
    rw [score R]
    split_ifs
    · exact EReal.coe_ne_top _
    · exact bot_ne_top
  obtain ⟨β, hβ⟩ := max_real x0 x1 x3 b h i
    (fun j e => key (j 0) (j 1) (j 2) (j 3) ((congrArg (r_v20 x0 x1 x3) (eq_ix4 j)).symm.trans e))
    (by rw [score R, if_pos le_rfl]; exact EReal.coe_ne_bot _)
  refine ⟨Real.exp (c (at_ b i) h - β), Real.exp_pos _, fun j => ?_⟩
  rw [exp_read, hβ, score R]
  unfold wt
  split_ifs with hj
  · rw [← EReal.coe_sub, Ideal.exp_coe, ← Real.exp_add]
    exact congrArg (fun z : ℝ => ((Real.exp z : ℝ) : EReal)) (by ring)
  · rw [EReal.bot_sub, Ideal.exp_bot, zero_mul, EReal.coe_zero]

theorem mean (b h : Fin 8) (i : Fin 4096) (l : Fin 64) : (r_v33 x0 x1 x2 x3 (ix4 b i h l) : EReal) = (attn q k v c b h i l : EReal) := by
  obtain ⟨E, hE, hw⟩ := weight R b h i
  have hs : (r_v28 x0 x1 x3 (ix3 b h i) : EReal) = ((∑ j, wt q k c b h i j * E : ℝ) : EReal) := by
    rw [sum_read, coe_sum]
    exact Finset.sum_congr rfl fun j _ => hw j
  have hne : (∑ j, wt q k c b h i j * E : ℝ) ≠ 0 := by
    rw [← Finset.sum_mul Finset.univ (fun j => wt q k c b h i j) E]
    exact (mul_pos (den_pos q k c b h i) hE).ne'
  rw [mean_read, hs, ← attn_scaled q k v c b h i E hE l]
  refine Eq.trans ?_ (coe_sum _ _).symm
  refine Finset.sum_congr rfl fun j _ => ?_
  rw [row_at, lane_at, R.v, hw]
  unfold Ideal.div
  rw [if_neg (by rw [← EReal.coe_zero]; exact fun e => hne (EReal.coe_eq_coe_iff.mp e)), ← EReal.coe_inv, ← EReal.coe_mul, ← EReal.coe_mul]

theorem result (r : Fin 32768) (h : Fin 8) (l : Fin 64) : (r_v48 x0 x1 x2 x3 x4 (ix2 r ⟨64 * h + l, by omega⟩) : EReal)
    = normed (attn q k v c ⟨r / 4096, by omega⟩ h ⟨r % 4096, by omega⟩) l * x4 (ix1 ⟨64 * h + l, by omega⟩) := by
  rw [out_read]
  simp only [mean R]
  rw [sixtyfour_eq, small_eq]
  unfold normed
  refine congrArg (fun z => _ * Ideal.rsqrt z * _) ?_
  simp only [← EReal.coe_mul, ← coe_sum]
  unfold Ideal.div
  rw [if_neg (by rw [← EReal.coe_zero]; exact fun e => absurd (EReal.coe_eq_coe_iff.mp e) (by norm_num)), ← EReal.coe_inv, ← EReal.coe_mul, ← EReal.coe_add]
  congr 1
  ring

end Cert.FoxRefValue

end
-- ==== Proof.FoxClaim.lean ====
/- The attention kernel and the plain attention, over the extended reals and from real queries, keys, values and decays, leave equal results. -/
module

public import proofs.«01_k».proof.Defs
public import proofs.«01_k».proof.Proof.FoxArray
public import proofs.«01_k».proof.Proof.FoxRefValue
public import proofs.«01_k».proof.Proof.Gen.FoxRefIdeal.Run
public import Idealize.ShloMosaic.Lib.Claim

@[expose] public section

set_option maxRecDepth 16384

noncomputable section

namespace Cert.FoxClaim

open Idealize.ShloMosaic Idealize.ShloMosaic.TcCoe Idealize.SL.Sem
open Cert.FoxHost (X0 X1 X2 X3 X4)
open Cert.FoxArray (OUT result)

/-- The precondition's operations take two broadcasts of a scalar. -/
instance facts : Cert.Pre_finite.Facts where
  bcast_S_S32768x512 := by decide
  bcast_S_S32768x8 := by decide

/-- A number whose absolute value is below `⊤` is real. -/
theorem real_of (x : EReal) (h : Ideal.cmp .olt (max x (-x)) (Ideal.ofBits .f32 0x7F800000#32) = 1#1) : x = ((x.toReal : ℝ) : EReal) := by
  have ht : Ideal.ofBits .f32 0x7F800000#32 = (⊤ : EReal) := by simp [Ideal.ofBits, Ideal.ieee]
  rw [ht] at h
  have hlt : max x (-x) < ⊤ := by
    by_contra hn
    have : Ideal.cmp .olt (max x (-x)) ⊤ = 0#1 := by simp [Ideal.cmp, hn]
    rw [this] at h
    exact absurd h (by decide)
  refine (EReal.coe_toReal ?_ ?_).symm
  · rintro rfl
    exact absurd hlt (by simp)
  · rintro rfl
    exact absurd hlt (by simp)

/-- The arguments' real values. -/
def rq (m : (ℓ : Loc Cert.FoxIdeal.nD Cert.FoxIdeal.τ Cert.FoxIdeal.sig) → Buf (Elt Ideal) ℓ) (c : Dev Cert.FoxIdeal.nD) (i : Fin 32768) (j : Fin 512) : ℝ := (X0 m c (ix2 i j) : EReal).toReal
def rk (m : (ℓ : Loc Cert.FoxIdeal.nD Cert.FoxIdeal.τ Cert.FoxIdeal.sig) → Buf (Elt Ideal) ℓ) (c : Dev Cert.FoxIdeal.nD) (i : Fin 32768) (j : Fin 512) : ℝ := (X1 m c (ix2 i j) : EReal).toReal
def rv (m : (ℓ : Loc Cert.FoxIdeal.nD Cert.FoxIdeal.τ Cert.FoxIdeal.sig) → Buf (Elt Ideal) ℓ) (c : Dev Cert.FoxIdeal.nD) (i : Fin 32768) (j : Fin 512) : ℝ := (X2 m c (ix2 i j) : EReal).toReal
def rd (m : (ℓ : Loc Cert.FoxIdeal.nD Cert.FoxIdeal.τ Cert.FoxIdeal.sig) → Buf (Elt Ideal) ℓ) (c : Dev Cert.FoxIdeal.nD) (i : Fin 32768) (j : Fin 8) : ℝ := (X3 m c (ix2 i j) : EReal).toReal

variable {m : (ℓ : Loc Cert.FoxIdeal.nD Cert.FoxIdeal.τ Cert.FoxIdeal.sig) → Buf (Elt Ideal) ℓ}

/-- Under the precondition the arguments are real numbers. -/
theorem reals (hp : Cert.Pre_FoxIdeal_finite m) (c : Dev Cert.FoxIdeal.nD) : Cert.FoxArray.Reals m c (rq m c) (rk m c) (rv m c) (rd m c) where
  q i j := real_of _ (congrFun (hp c).1 (ix2 i j))
  k i j := real_of _ (congrFun (hp c).2.1 (ix2 i j))
  v i j := real_of _ (congrFun (hp c).2.2.1 (ix2 i j))
  d i j := real_of _ (congrFun (hp c).2.2.2 (ix2 i j))

/-- The reference's result is the kernel's array. -/
theorem ref_eq (hp : Cert.Pre_FoxIdeal_finite m) (c : Dev Cert.FoxIdeal.nD) :
    Cert.FoxRefOps.r_v48 (X0 m c) (X1 m c) (X2 m c) (X3 m c) (X4 m c) = OUT m c (rq m c) (rk m c) (rv m c) (rd m c) := by
  have R := reals hp c
  have key : ∀ (r : Fin 32768) (y : Fin 512), (Cert.FoxRefOps.r_v48 (X0 m c) (X1 m c) (X2 m c) (X3 m c) (X4 m c) (ix2 r y) : EReal)
      = result (rq m c) (rk m c) (rv m c) (rd m c) (X4 m c (ix1 y)) r y := fun r y => by
    have e : (⟨64 * (y.val / 64) + y.val % 64, by omega⟩ : Fin 512) = y := Fin.ext (Nat.div_add_mod _ _)
    have h := Cert.FoxRefValue.result (q := rq m c) (k := rk m c) (v := rv m c) (c := rd m c) (x0 := X0 m c) (x1 := X1 m c) (x2 := X2 m c) (x3 := X3 m c)
      ⟨R.q, R.k, R.v, R.d⟩ (X4 m c) r ⟨y.val / 64, by omega⟩ ⟨y.val % 64, by omega⟩
    rw [e] at h
    exact h
  refine funext fun i => ?_
  exact (congrArg _ (eq_ix2 i)).trans (key (i 0) (i 1))

/-- Both programs run, and their results are equal. -/
theorem algebraic : Cert.algebraic_FoxIdeal_FoxRefIdeal_pre_finite := by
  pair_intro
  · run_from Cert.FoxIdeal.Value.run_blocks m g
  · run_from Cert.FoxRefIdeal.Value.run m' g'
    obtain ⟨h0, h1, h2, h3, h4⟩ := hagree c
    rw [Cert.FoxRefOps.res_eq, h0, h1, h2, h3, h4]
    exact (ref_eq hpre c).trans (Cert.FoxArray.final (reals hpre c)).symm

end Cert.FoxClaim

end
-- ==== Proof.MoeMath.lean ====
/- The experts' arithmetic on one token, over the extended reals: what one expert adds to one element of the token's
   output, and the final normalization of a row. The kernel's module and the reference's module both read their
   programs down to these. -/
module

public import Idealize.ShloMosaic.Lib.Pointwise

@[expose] public section

set_option maxRecDepth 16384

noncomputable section

namespace Cert.MoeMath

open Idealize.ShloMosaic Idealize.SL.Sem

/-- The gated hidden element: `silu a · u`, weighted by the token's combination weight `w`. -/
def act (a u w : EReal) : EReal := a * Ideal.div 1 (1 + Ideal.exp (-a)) * u * w

/-- One expert's hidden element for the token whose features are `h`. -/
def hid {n : ℕ} (h wg wu : Fin n → EReal) (w : EReal) : EReal := act (∑ d, h d * wg d) (∑ d, h d * wu d) w

/-- What one expert adds to one element of the token's output: its hidden elements against its down projection. -/
def part {n p : ℕ} (h : Fin n → EReal) (wg wu : Fin p → Fin n → EReal) (wd : Fin p → EReal) (w : EReal) : EReal :=
  ∑ f, hid h (wg f) (wu f) w * wd f

theorem part_congr {n p : ℕ} {h h' : Fin n → EReal} {wg wg' wu wu' : Fin p → Fin n → EReal} {wd wd' : Fin p → EReal} {w w' : EReal}
    (e0 : ∀ d, h d = h' d) (e1 : ∀ f d, wg f d = wg' f d) (e2 : ∀ f d, wu f d = wu' f d) (e3 : ∀ f, wd f = wd' f) (e4 : w = w') :
    part h wg wu wd w = part h' wg' wu' wd' w' := by
  rw [funext e0, funext fun f => funext (e1 f), funext fun f => funext (e2 f), funext e3, e4]

/-- What expert `e` of group `g` adds at token `r`, feature `c`: from the normalized tokens `x1`, their combination
    weights `x2` (sixteen of 128 lanes), and the experts' gate, up and down weights `x3`, `x4`, `x5`. -/
def expert (x1 : FVec Ideal ⟨2, ![32768, 1024]⟩ .bf16) (x2 : FVec Ideal ⟨2, ![32768, 128]⟩ .f32)
    (x3 x4 : FVec Ideal ⟨4, ![4, 4, 1024, 256]⟩ .f32) (x5 : FVec Ideal ⟨4, ![4, 4, 256, 1024]⟩ .f32)
    (g e : Fin 4) (r : Fin 32768) (c : Fin 1024) : EReal :=
  part (fun d : Fin 1024 => x1 (ix2 r d)) (fun (f : Fin 256) d => x3 (ix4 g e d f)) (fun f d => x4 (ix4 g e d f))
    (fun f => x5 (ix4 g e f c)) (x2 (ix2 r ⟨4 * g + e, by omega⟩))

/-- A token's row before its normalization: the residual `x0` and what the sixteen experts add. -/
def row (x0 : FVec Ideal ⟨2, ![32768, 1024]⟩ .f32) (x1 : FVec Ideal ⟨2, ![32768, 1024]⟩ .bf16) (x2 : FVec Ideal ⟨2, ![32768, 128]⟩ .f32)
    (x3 x4 : FVec Ideal ⟨4, ![4, 4, 1024, 256]⟩ .f32) (x5 : FVec Ideal ⟨4, ![4, 4, 256, 1024]⟩ .f32) (r : Fin 32768) (c : Fin 1024) : EReal :=
  x0 (ix2 r c) + ∑ g : Fin 4, ∑ e : Fin 4, expert x1 x2 x3 x4 x5 g e r c

/-- A row's element, normalized by the root of the row's mean square and scaled by the gain `g`. -/
def norm {n : ℕ} (v : Fin n → EReal) (g : EReal) (f : Fin n) : EReal :=
  v f * Ideal.rsqrt (Ideal.div (∑ k, v k * v k) (Ideal.ofBits FTy.f32 1149239296#32) + Ideal.ofBits FTy.f32 897988541#32) * g

/-- A lane's number built as a machine word picks one lane: the masked sum over the lanes is that lane's element. -/
theorem lane_sum (cw : Fin 128 → EReal) (w : BitVec 32) (n : Fin 128) (hw : w = BitVec.ofNat 32 n) :
    (∑ x : Fin 128, Scalar.select (IntOp.cmpi CmpIPredicate.eq (BitVec.ofNat 32 ↑x) w) (cw x) (0 : EReal)) = cw n := by
  subst hw
  rw [Finset.sum_eq_single n]
  · have : IntOp.cmpi CmpIPredicate.eq (BitVec.ofNat 32 (n : ℕ)) (BitVec.ofNat 32 n) = 1#1 := by
      simp [IntOp.cmpi]
    rw [this]; rfl
  · intro x _ hx
    have : IntOp.cmpi CmpIPredicate.eq (BitVec.ofNat 32 (x : ℕ)) (BitVec.ofNat 32 n) = 0#1 := by
      have hne : BitVec.ofNat 32 (x : ℕ) ≠ BitVec.ofNat 32 n := by
        intro h
        have := congrArg BitVec.toNat h
        simp only [BitVec.toNat_ofNat] at this
        apply hx; ext; omega
      simp only [IntOp.cmpi, beq_eq_false_iff_ne.mpr hne]; rfl
    rw [this]; rfl
  · intro h; exact absurd (Finset.mem_univ n) h

end Cert.MoeMath

end
-- ==== Proof.MoeBlock.lean ====
module

public import proofs.«01_k».proof.Proof.Gen.MoeIdeal.Skeleton
public import proofs.«01_k».proof.Proof.MoeMath

@[expose] public section

set_option maxRecDepth 16384

noncomputable section

namespace Cert.MoeIdeal.Block

open Cert.MoeIdeal Cert.MoeIdeal.Gen Idealize.ShloMosaic Idealize.ShloMosaic.TcCoe Idealize.SL.Sem

open Cert.MoeMath

/-- The lane number the body selects for its `J`-th expert at a point whose second coordinate is `e`. -/
theorem lane_word (e : Fin 4) (J : Fin 4) :
    Scalar.addi (Scalar.muli (BitVec.ofNat 32 (e : ℕ)) 4#32) (BitVec.ofNat 32 (J : ℕ)) = BitVec.ofNat 32 (4 * (e : ℕ) + (J : ℕ)) := by
  revert e J; decide

/-- What the body's `J`-th expert adds at row `r`, column `c` of the block, from the blocks staged. -/
def blockPart (e : Fin 4) (h : FVec Ideal S1024x1024 .bf16) (cw : FVec Ideal S1024x128 .f32)
    (wg wu : FVec Ideal S1x1024x256 .bf16) (wd : FVec Ideal S1x256x1024 .bf16) (J : Fin 4) (r c : Fin 1024) : EReal :=
  part (fun d => h (ix2 r d)) (fun f d => wg (ix3 0 d f)) (fun f d => wu (ix3 0 d f)) (fun f => wd (ix3 0 f c))
    (cw (ix2 r ⟨4 * e + J, by omega⟩))

theorem lane (e : Fin 4) (J : Fin 4) (cw : FVec Ideal S1024x128 .f32) (r : Fin 1024) (w : BitVec 32) (hw : w = BitVec.ofNat 32 (J : ℕ)) :
    (∑ x : Fin 128, Scalar.select (IntOp.cmpi CmpIPredicate.eq (BitVec.ofNat 32 ↑x)
      (Scalar.addi (Scalar.muli (BitVec.ofNat 32 (e : ℕ)) 4#32) w)) (cw (ix2 r x)) (0 : EReal))
      = cw (ix2 r ⟨4 * e + J, by omega⟩) := by
  subst hw
  exact lane_sum (fun x => cw (ix2 r x)) _ ⟨4 * e + J, by omega⟩ (lane_word e J)

/-- The accumulating store: what was there, plus the four experts of the point. -/
theorem step (i : grid0.Coords) (h : Vec Ideal S1024x1024 .bf16) (cw : Vec Ideal S1024x128 .f32)
    (wg0 wu0 wg1 wu1 wg2 wu2 wg3 wu3 : Vec Ideal S1x1024x256 .bf16) (wd0 wd1 wd2 wd3 : Vec Ideal S1x256x1024 .bf16)
    (acc : Vec Ideal S1024x1024 .f32) (w : BitVec 32) (hw : w = BitVec.ofNat 32 (i 1).val) (r c : Fin 1024) :
    k0_pay1 (F := Ideal) cw (iota .tc S1024x128 32 [1] iota_S1024x128_d1_w32)
      (k0_pay7 w h cw (iota .tc S1024x128 32 [1] iota_S1024x128_d1_w32)
        (k0_pay5 w h cw (iota .tc S1024x128 32 [1] iota_S1024x128_d1_w32) (k0_pay4 i h cw wg0 wu0) wd0 wg1 wu1 wd1)
        (k0_pay6 h wg2) wu2 wd2) (k0_pay8 h wg3) (k0_pay9 h wu3) (k0_pay10 w) wd3 acc (ix2 r c)
      = acc (ix2 r c) + (((blockPart (i 1) h cw wg0 wu0 wd0 0 r c + blockPart (i 1) h cw wg1 wu1 wd1 1 r c)
          + blockPart (i 1) h cw wg2 wu2 wd2 2 r c) + blockPart (i 1) h cw wg3 wu3 wd3 3 r c) := by
  subst hw
  pointwise [k0_pay1, k0_pay7, k0_pay5, k0_pay4, k0_pay6, k0_pay8, k0_pay9, k0_pay10]
  have l0 := lane (i 1) 0 cw r 0#32 rfl
  have l1 := lane (i 1) 1 cw r 1#32 rfl
  have l2 := lane (i 1) 2 cw r 2#32 rfl
  have l3 := lane (i 1) 3 cw r 3#32 rfl
  rw [l0, l1, l2, l3]
  simp only [zero_sub]
  rfl

theorem pay2 (v : Vec Ideal S1024x1024 .f32) (g : Vec Ideal S1x1024 .f32) (r c : Fin 1024) :
    k0_pay2 (F := Ideal) v g (ix2 r c) = norm (fun k : Fin 1024 => v (ix2 r k)) (g (ix2 0 c)) c := by
  pointwise [k0_pay2]
  rfl

theorem pay3 (v : Vec Ideal S1024x1024 .f32) : k0_pay3 (F := Ideal) v = v := by
  funext j
  pointwise [k0_pay3]

end Cert.MoeIdeal.Block

end
-- ==== Proof.MoeFinal.lean ====
/- What the expert kernel leaves in its result array: the residual row plus the sixteen experts' parts, normalized. -/
module

public import proofs.«01_k».proof.Proof.Gen.MoeIdeal.Value
public import proofs.«01_k».proof.Proof.MoeArray
public import Idealize.ShloMosaic.Lib.Pipeline.ValueKit

@[expose] public section

set_option maxRecDepth 16384

noncomputable section

namespace Cert.MoeIdeal.Array

open Idealize.ShloMosaic Idealize.ShloMosaic.Pipeline Cert.MoeIdeal Cert.MoeIdeal.Gen Cert.MoeIdeal.Value Cert.MoeMath

variable (m : (ℓ : Loc nD τ sig) → Buf (Elt Ideal) ℓ)

/-- The result array. -/
def OUT (c : Dev nD) : FVec Ideal S32768x1024 .f32 := fun i => result m c (i 0) (i 1)

/-- The result array's element where a point's block puts its element `y`. -/
theorem out_emb (c : Dev nD) (t : Fin cfg0.N) (y : S1024x1024.Idx) (h1 : t.val % 4 = 3) :
    (show FVec Ideal S1024x1024 .f32 from (outsAt0 m c t.val t.isLt).1) y = OUT m c (ix2 (tok t (y 0)) (y 1)) := by
  have h := last_eq m c t h1 (y 0) (y 1)
  rw [← eq_ix2 y] at h
  exact h

/-- The result array after the run. -/
theorem final (c : Dev nD) : (dats m 0 c).arrAt 7 cfg0.N = OUT m c := by
  refine (dats m 0 c).arrAt_eq_of_covers 7 _ (by decide +kernel) fun t hf y => ?_
  blk_simp
  rw [after0_7]
  refine (out_emb m c t y ((flush0_7 t).mp hf)).trans (congrArg (OUT m c) ?_)
  blk_ext [idx_val t]

end Cert.MoeIdeal.Array

end
-- ==== Proof.MoeRefValue.lean ====
module

public import proofs.«01_k».proof.Proof.Gen.MoeRefIdeal.Read
public import proofs.«01_k».proof.Proof.MoeMath

@[expose] public section

set_option maxRecDepth 16384

noncomputable section

namespace Cert.MoeRefIdeal.RefValue

open Cert.MoeRefIdeal Cert.MoeRefIdeal.Read Idealize.ShloMosaic Idealize.ShloMosaic.TcCoe Idealize.SL.Sem
open Cert.MoeMath

variable (x0 : FVec Ideal S32768x1024 .f32) (x1 : FVec Ideal S32768x1024 .bf16) (x2 : FVec Ideal S32768x128 .f32)
  (x3 x4 : FVec Ideal S4x4x1024x256 .f32) (x5 : FVec Ideal S4x4x256x1024 .f32) (x6 : FVec Ideal S1024 .f32)

/-- The reference's sum over group 0. -/
theorem group0 (r : Fin 32768) (c : Fin 1024) :
    val_main_v19 (F := Ideal) x1 x2 x3 x4 x5 (ix2 r c) = ∑ e : Fin 4, expert x1 x2 x3 x4 x5 0 e r c := by
  pointwise [val_main_v19, val_main_v18, val_main_v17, val_main_v16, val_main_v15, val_main_v14, val_main_v13, val_main_v12, val_main_v11, val_main_v10, val_main_call0_v5, val_main_call0_v4, val_main_call0_v3, val_main_call0_v2, val_main_call0_v1, val_main_call0_v0, val_main_call0_cst, val_main_call0_cst_0, val_main_v9, val_main_v8, val_main_v7, val_main_v6, val_main_v5, val_main_v4, val_main_v2, val_main_v1, val_main_v0]
  refine Finset.sum_congr rfl fun e _ => ?_
  rw [show x2 (ix2 r ⟨_, _⟩) = x2 (ix2 r ⟨4 * ((0 : Fin 4) : ℕ) + (e : ℕ), by omega⟩) from by first | rfl | (congr 2; ext; simp)]
  rfl

/-- The reference's sum over group 1. -/
theorem group1 (r : Fin 32768) (c : Fin 1024) :
    val_main_v36 (F := Ideal) x1 x2 x3 x4 x5 (ix2 r c) = ∑ e : Fin 4, expert x1 x2 x3 x4 x5 1 e r c := by
  pointwise [val_main_v36, val_main_v35, val_main_v34, val_main_v33, val_main_v32, val_main_v31, val_main_v30, val_main_v29, val_main_v28, val_main_v27, val_main_call1_v5, val_main_call1_v4, val_main_call1_v3, val_main_call1_v2, val_main_call1_v1, val_main_call1_v0, val_main_call1_cst, val_main_call1_cst_0, val_main_v26, val_main_v25, val_main_v24, val_main_v23, val_main_v22, val_main_v21, val_main_v2, val_main_v1, val_main_v0]
  refine Finset.sum_congr rfl fun e _ => ?_
  rw [show x2 (ix2 r ⟨_, _⟩) = x2 (ix2 r ⟨4 * ((1 : Fin 4) : ℕ) + (e : ℕ), by omega⟩) from by first | rfl | (congr 2; ext; simp)]
  rfl

/-- The reference's sum over group 2. -/
theorem group2 (r : Fin 32768) (c : Fin 1024) :
    val_main_v53 (F := Ideal) x1 x2 x3 x4 x5 (ix2 r c) = ∑ e : Fin 4, expert x1 x2 x3 x4 x5 2 e r c := by
  pointwise [val_main_v53, val_main_v52, val_main_v51, val_main_v50, val_main_v49, val_main_v48, val_main_v47, val_main_v46, val_main_v45, val_main_v44, val_main_call2_v5, val_main_call2_v4, val_main_call2_v3, val_main_call2_v2, val_main_call2_v1, val_main_call2_v0, val_main_call2_cst, val_main_call2_cst_0, val_main_v43, val_main_v42, val_main_v41, val_main_v40, val_main_v39, val_main_v38, val_main_v2, val_main_v1, val_main_v0]
  refine Finset.sum_congr rfl fun e _ => ?_
  rw [show x2 (ix2 r ⟨_, _⟩) = x2 (ix2 r ⟨4 * ((2 : Fin 4) : ℕ) + (e : ℕ), by omega⟩) from by first | rfl | (congr 2; ext; simp)]
  rfl

/-- The reference's sum over group 3. -/
theorem group3 (r : Fin 32768) (c : Fin 1024) :
    val_main_v70 (F := Ideal) x1 x2 x3 x4 x5 (ix2 r c) = ∑ e : Fin 4, expert x1 x2 x3 x4 x5 3 e r c := by
  pointwise [val_main_v70, val_main_v69, val_main_v68, val_main_v67, val_main_v66, val_main_v65, val_main_v64, val_main_v63, val_main_v62, val_main_v61, val_main_call3_v5, val_main_call3_v4, val_main_call3_v3, val_main_call3_v2, val_main_call3_v1, val_main_call3_v0, val_main_call3_cst, val_main_call3_cst_0, val_main_v60, val_main_v59, val_main_v58, val_main_v57, val_main_v56, val_main_v55, val_main_v2, val_main_v1, val_main_v0]
  refine Finset.sum_congr rfl fun e _ => ?_
  rw [show x2 (ix2 r ⟨_, _⟩) = x2 (ix2 r ⟨4 * ((3 : Fin 4) : ℕ) + (e : ℕ), by omega⟩) from by first | rfl | (congr 2; ext; simp)]
  rfl

theorem row_read (r : Fin 32768) (c : Fin 1024) :
    val_main_v72 (F := Ideal) x0 x1 x2 x3 x4 x5 (ix2 r c) = row x0 x1 x2 x3 x4 x5 r c := by
  pointwise [val_main_v72, val_main_v71, val_main_v54, val_main_v37, val_main_v20, val_main_v3, val_main_cst]
  rw [group0, group1, group2, group3, row, Fin.sum_univ_four (fun g => ∑ e, expert x1 x2 x3 x4 x5 g e r c)]

/-- The reference's result, element by element. -/
theorem result_read (r : Fin 32768) (c : Fin 1024) :
    val_main_v85 (F := Ideal) x0 x1 x2 x3 x4 x5 x6 (ix2 r c)
      = norm (fun k : Fin 1024 => row x0 x1 x2 x3 x4 x5 r k) (x6 (ix1 c)) c := by
  pointwise [val_main_v85, val_main_v84, val_main_v83, val_main_v82, val_main_v81, val_main_v80, val_main_v79, val_main_v78, val_main_cst_2, val_main_v77,
    val_main_v76, val_main_cst_1, val_main_v75, val_main_v74, val_main_cst_0, val_main_v73]
  simp only [row_read]
  rfl

end Cert.MoeRefIdeal.RefValue

end
-- ==== Proof.MoeClaim.lean ====
/- The expert kernel and the experts of the reference, over the extended reals, leave equal results. -/
module

public import proofs.«01_k».proof.Defs
public import proofs.«01_k».proof.Proof.MoeFinal
public import proofs.«01_k».proof.Proof.MoeRefValue
public import proofs.«01_k».proof.Proof.Gen.MoeRefIdeal.Run
public import Idealize.ShloMosaic.Lib.Claim

@[expose] public section

set_option maxRecDepth 16384

noncomputable section

namespace Cert.MoeClaim

open Idealize.ShloMosaic Idealize.ShloMosaic.TcCoe Idealize.SL.Sem

/-- The reference's result is the kernel's array. -/
theorem ref_eq (m : (ℓ : Loc Cert.MoeIdeal.nD Cert.MoeIdeal.τ Cert.MoeIdeal.sig) → Buf (Elt Ideal) ℓ) (c : Dev Cert.MoeIdeal.nD) :
    Cert.MoeRefIdeal.Read.val_main_v85 (F := Ideal) (Cert.MoeIdeal.Array.X0 m c) (Cert.MoeIdeal.Array.X1 m c) (Cert.MoeIdeal.Array.X2 m c)
      (Cert.MoeIdeal.Array.X3 m c) (Cert.MoeIdeal.Array.X4 m c) (Cert.MoeIdeal.Array.X5 m c) (Cert.MoeIdeal.Array.X6 m c)
      = Cert.MoeIdeal.Array.OUT m c := by
  refine funext fun i => ?_
  have h := Cert.MoeRefIdeal.RefValue.result_read (Cert.MoeIdeal.Array.X0 m c) (Cert.MoeIdeal.Array.X1 m c) (Cert.MoeIdeal.Array.X2 m c)
      (Cert.MoeIdeal.Array.X3 m c) (Cert.MoeIdeal.Array.X4 m c) (Cert.MoeIdeal.Array.X5 m c) (Cert.MoeIdeal.Array.X6 m c) (i 0) (i 1)
  exact (congrArg _ (eq_ix2 i)).trans h

/-- Both programs run, and their results are equal. -/
theorem algebraic : Cert.algebraic_MoeIdeal_MoeRefIdeal := by
  pair_intro
  · run_from Cert.MoeIdeal.Value.run_blocks m g
  · run_from Cert.MoeRefIdeal.Value.run m' g'
    obtain ⟨h0, h1, h2, h3, h4, h5, h6⟩ := hagree c
    rw [Cert.MoeRefIdeal.Read.val_main_v85_eq, h0, h1, h2, h3, h4, h5, h6]
    exact (ref_eq m c).trans (Cert.MoeIdeal.Array.final m c).symm

end Cert.MoeClaim

end
-- ==== Proof.MoeFirstBlock.lean ====
module

public import proofs.«01_k».proof.Proof.Gen.MoeFirstIdeal.Skeleton
public import proofs.«01_k».proof.Proof.MoeBlock

@[expose] public section

set_option maxRecDepth 16384

noncomputable section

namespace Cert.MoeFirstIdeal.Block

open Cert.MoeFirstIdeal Cert.MoeFirstIdeal.Gen Idealize.ShloMosaic Idealize.ShloMosaic.TcCoe Idealize.SL.Sem

open Cert.MoeMath
open Cert.MoeIdeal.Block (blockPart lane)

/-- The accumulating store: what was there, plus the four experts of the point. -/
theorem step (i : grid0.Coords) (h : Vec Ideal S1024x1024 .bf16) (cw : Vec Ideal S1024x128 .f32)
    (wg0 wu0 wg1 wu1 wg2 wu2 wg3 wu3 : Vec Ideal S1x1024x256 .bf16) (wd0 wd1 wd2 wd3 : Vec Ideal S1x256x1024 .bf16)
    (acc : Vec Ideal S1024x1024 .f32) (w : BitVec 32) (hw : w = BitVec.ofNat 32 (i 1).val) (r c : Fin 1024) :
    k0_pay1 (F := Ideal) cw (iota .tc S1024x128 32 [1] iota_S1024x128_d1_w32)
      (k0_pay6 w h cw (iota .tc S1024x128 32 [1] iota_S1024x128_d1_w32)
        (k0_pay4 w h cw (iota .tc S1024x128 32 [1] iota_S1024x128_d1_w32) (k0_pay3 i h cw wg0 wu0) wd0 wg1 wu1 wd1)
        (k0_pay5 h wg2) wu2 wd2) (k0_pay7 h wg3) (k0_pay8 h wu3) (k0_pay9 w) wd3 acc (ix2 r c)
      = acc (ix2 r c) + (((blockPart (i 1) h cw wg0 wu0 wd0 0 r c + blockPart (i 1) h cw wg1 wu1 wd1 1 r c)
          + blockPart (i 1) h cw wg2 wu2 wd2 2 r c) + blockPart (i 1) h cw wg3 wu3 wd3 3 r c) := by
  subst hw
  pointwise [k0_pay1, k0_pay6, k0_pay4, k0_pay3, k0_pay5, k0_pay7, k0_pay8, k0_pay9]
  have l0 := lane (i 1) 0 cw r 0#32 rfl
  have l1 := lane (i 1) 1 cw r 1#32 rfl
  have l2 := lane (i 1) 2 cw r 2#32 rfl
  have l3 := lane (i 1) 3 cw r 3#32 rfl
  rw [l0, l1, l2, l3]
  simp only [zero_sub]
  rfl

theorem pay2 (v : Vec Ideal S1024x1024 .f32) : k0_pay2 (F := Ideal) v = v := by
  funext j
  pointwise [k0_pay2]

end Cert.MoeFirstIdeal.Block

end
-- ==== Proof.MoeFirstArray.lean ====
/- What the expert kernel leaves in its result array: the residual row plus the sixteen experts' parts. -/
module

public import proofs.«01_k».proof.Proof.Gen.MoeFirstIdeal.Value
public import proofs.«01_k».proof.Proof.MoeFirstBlock
public import proofs.«01_k».proof.Proof.MoeArray
public import Idealize.ShloMosaic.Lib.Pipeline.ValueKit

@[expose] public section

set_option maxRecDepth 16384

noncomputable section

namespace Cert.MoeFirstIdeal.Array

open Cert.MoeFirstIdeal Cert.MoeFirstIdeal.Gen Cert.MoeFirstIdeal.Block Cert.MoeMath Idealize.ShloMosaic Idealize.ShloMosaic.TcCoe Idealize.SL.Sem
open Idealize.ShloMosaic.Pipeline (Dat)
open Cert.MoeIdeal.Block (blockPart)
open Cert.MoeIdeal.Array (four)

variable (m : (ℓ : Loc nD τ sig) → Buf (Elt Ideal) ℓ)

/-- The windows' block indices at every point of the grid. -/
theorem idx_val : ∀ t : Fin cfg0.N, win0_0.index t = ![t.val / 4, 0]
    ∧ win0_1.index t = ![t.val / 4, 0]
    ∧ win0_2.index t = ![t.val / 4, 0]
    ∧ win0_3.index t = ![t.val % 4, 0, 0]
    ∧ win0_4.index t = ![t.val % 4, 0, 0]
    ∧ win0_5.index t = ![t.val % 4, 0, 0]
    ∧ win0_6.index t = ![0, 0]
    ∧ win0_7.index t = ![t.val / 4, 0]
    ∧ (grid0.coords t 1).val = t.val % 4 :=
  (by decide +kernel : ∀ t : Fin grid0.N, _)

/-- The arguments, at their literal types. -/
abbrev X0 (c : Dev nD) : FVec Ideal S32768x1024 .f32 := m ((c : Thread nD τ).loc main_arg0)
abbrev X1 (c : Dev nD) : FVec Ideal S32768x1024 .bf16 := m ((c : Thread nD τ).loc main_arg1)
abbrev X2 (c : Dev nD) : FVec Ideal S32768x128 .f32 := m ((c : Thread nD τ).loc main_arg2)
abbrev X3 (c : Dev nD) : FVec Ideal S4x4x1024x256 .f32 := m ((c : Thread nD τ).loc main_arg3)
abbrev X4 (c : Dev nD) : FVec Ideal S4x4x1024x256 .f32 := m ((c : Thread nD τ).loc main_arg4)
abbrev X5 (c : Dev nD) : FVec Ideal S4x4x256x1024 .f32 := m ((c : Thread nD τ).loc main_arg5)
abbrev X6 (c : Dev nD) : FVec Ideal S1024 .f32 := m ((c : Thread nD τ).loc main_arg6)

theorem N_lt (t : Fin cfg0.N) : t.val < 128 := lt_of_lt_of_eq t.isLt N_0

/-- The token that row `r` of point `t`'s block is, and the group of experts the point holds. -/
abbrev tok (t : Fin cfg0.N) (r : Fin 1024) : Fin 32768 := ⟨t.val / 4 * 1024 + r.val, by have := N_lt t; omega⟩
abbrev grp (t : Fin cfg0.N) : Fin 4 := ⟨t.val % 4, Nat.mod_lt _ (by decide)⟩

theorem res_read (c : Dev nD) (t : Fin cfg0.N) (r q : Fin 1024) :
    (show FVec Ideal S1024x1024 .f32 from iblk m c 0 t) (ix2 r q) = X0 m c (ix2 (tok t r) q) := by
  blk_point [iblk, V, idx_val t]

theorem h_read (c : Dev nD) (t : Fin cfg0.N) (r d : Fin 1024) :
    (show FVec Ideal S1024x1024 .bf16 from iblk m c 1 t) (ix2 r d) = X1 m c (ix2 (tok t r) d) := by
  blk_point [iblk, V, idx_val t]

theorem cw_read (c : Dev nD) (t : Fin cfg0.N) (r : Fin 1024) (l : Fin 128) :
    (show FVec Ideal S1024x128 .f32 from iblk m c 2 t) (ix2 r l) = X2 m c (ix2 (tok t r) l) := by
  blk_point [iblk, V, idx_val t]

theorem wg_read (c : Dev nD) (t : Fin cfg0.N) (J : Fin 4) (d : Fin 1024) (f : Fin 256) :
    (show FVec Ideal S4x1024x256 .bf16 from iblk m c 3 t) (ix3 J d f) = X3 m c (ix4 (grp t) J d f) := by
  blk_point [iblk, V, idx_val t]

theorem wu_read (c : Dev nD) (t : Fin cfg0.N) (J : Fin 4) (d : Fin 1024) (f : Fin 256) :
    (show FVec Ideal S4x1024x256 .bf16 from iblk m c 4 t) (ix3 J d f) = X4 m c (ix4 (grp t) J d f) := by
  blk_point [iblk, V, idx_val t]

theorem wd_read (c : Dev nD) (t : Fin cfg0.N) (J : Fin 4) (f : Fin 256) (q : Fin 1024) :
    (show FVec Ideal S4x256x1024 .bf16 from iblk m c 5 t) (ix3 J f q) = X5 m c (ix4 (grp t) J f q) := by
  blk_point [iblk, V, idx_val t]

/-- What the experts of the point's group add to an element of the block. -/
abbrev grpSum (c : Dev nD) (t : Fin cfg0.N) (r q : Fin 1024) : EReal :=
  ∑ e : Fin 4, expert (X1 m c) (X2 m c) (X3 m c) (X4 m c) (X5 m c) (grp t) e (tok t r) q

theorem part_eq (c : Dev nD) (t : Fin cfg0.N) (J : Fin 4) (r q : Fin 1024) (wg wu : FVec Ideal S1x1024x256 .bf16) (wd : FVec Ideal S1x256x1024 .bf16)
    (hg : ∀ (d : Fin 1024) (f : Fin 256), wg (ix3 0 d f) = X3 m c (ix4 (grp t) J d f)) (hu : ∀ (d : Fin 1024) (f : Fin 256), wu (ix3 0 d f) = X4 m c (ix4 (grp t) J d f))
    (hd : ∀ f : Fin 256, wd (ix3 0 f q) = X5 m c (ix4 (grp t) J f q)) :
    blockPart (grid0.coords t 1) (iblk m c 1 t) (iblk m c 2 t) wg wu wd J r q
      = expert (X1 m c) (X2 m c) (X3 m c) (X4 m c) (X5 m c) (grp t) J (tok t r) q := by
  refine part_congr (fun d => h_read m c t r d) (fun f d => hg d f) (fun f d => hu d f) hd ?_
  refine (cw_read m c t r _).trans ?_
  obtain ⟨-, -, -, -, -, -, -, -, e⟩ := idx_val t
  congr 2
  exact Fin.ext (by show 4 * (grid0.coords t 1).val + J.val = 4 * (t.val % 4) + J.val; rw [e])

theorem step_A (c : Dev nD) (t : Fin cfg0.N) (h0 : t.val % 4 = 0) (h1 : ¬t.val % 4 = 3) (r q : Fin 1024) :
    (show FVec Ideal S1024x1024 .f32 from (outsAt0 m c t.val t.isLt).2) (ix2 r q) = X0 m c (ix2 (tok t r) q) + grpSum m c t r q := by
  rw [outsAt0_A m c t h0 h1]
  frame_out
  rw [pay2]
  rw [step _ _ _ _ _ _ _ _ _ _ _ _ _ _ _ _ _ rfl]
  refine congrArg₂ (· + ·) (res_read m c t r q) ?_
  rw [grpSum, Fin.sum_univ_four]
  refine congrArg₂ (· + ·) (congrArg₂ (· + ·) (congrArg₂ (· + ·) ?_ ?_) ?_) ?_
  · exact part_eq m c t 0 r q _ _ _ (fun d f => by pointwise; exact wg_read m c t 0 d f) (fun d f => by pointwise; exact wu_read m c t 0 d f)
      (fun f => by pointwise; exact wd_read m c t 0 f q)
  · exact part_eq m c t 1 r q _ _ _ (fun d f => by pointwise; exact wg_read m c t 1 d f) (fun d f => by pointwise; exact wu_read m c t 1 d f)
      (fun f => by pointwise; exact wd_read m c t 1 f q)
  · exact part_eq m c t 2 r q _ _ _ (fun d f => by pointwise; exact wg_read m c t 2 d f) (fun d f => by pointwise; exact wu_read m c t 2 d f)
      (fun f => by pointwise; exact wd_read m c t 2 f q)
  · exact part_eq m c t 3 r q _ _ _ (fun d f => by pointwise; exact wg_read m c t 3 d f) (fun d f => by pointwise; exact wu_read m c t 3 d f)
      (fun f => by pointwise; exact wd_read m c t 3 f q)

theorem step_B (c : Dev nD) (t : Fin cfg0.N) (h0 : ¬t.val % 4 = 0) (h1 : ¬t.val % 4 = 3) (r q : Fin 1024) :
    (show FVec Ideal S1024x1024 .f32 from (outsAt0 m c t.val t.isLt).2) (ix2 r q)
      = (show FVec Ideal S1024x1024 .f32 from (outsAt0 m c (t.val - 1) (Nat.lt_of_le_of_lt (Nat.sub_le _ _) t.isLt)).2) (ix2 r q) + grpSum m c t r q := by
  rw [outsAt0_B m c t h0 h1]
  frame_out
  rw [(Memref.isWhole_whole _).read_unread]
  rw [step _ _ _ _ _ _ _ _ _ _ _ _ _ _ _ _ _ rfl]
  refine congrArg₂ (· + ·) rfl ?_
  rw [grpSum, Fin.sum_univ_four]
  refine congrArg₂ (· + ·) (congrArg₂ (· + ·) (congrArg₂ (· + ·) ?_ ?_) ?_) ?_
  · exact part_eq m c t 0 r q _ _ _ (fun d f => by pointwise; exact wg_read m c t 0 d f) (fun d f => by pointwise; exact wu_read m c t 0 d f)
      (fun f => by pointwise; exact wd_read m c t 0 f q)
  · exact part_eq m c t 1 r q _ _ _ (fun d f => by pointwise; exact wg_read m c t 1 d f) (fun d f => by pointwise; exact wu_read m c t 1 d f)
      (fun f => by pointwise; exact wd_read m c t 1 f q)
  · exact part_eq m c t 2 r q _ _ _ (fun d f => by pointwise; exact wg_read m c t 2 d f) (fun d f => by pointwise; exact wu_read m c t 2 d f)
      (fun f => by pointwise; exact wd_read m c t 2 f q)
  · exact part_eq m c t 3 r q _ _ _ (fun d f => by pointwise; exact wg_read m c t 3 d f) (fun d f => by pointwise; exact wu_read m c t 3 d f)
      (fun f => by pointwise; exact wd_read m c t 3 f q)

/-- At a group's last point: the accumulator there. -/
theorem last_C (c : Dev nD) (t : Fin cfg0.N) (h0 : ¬ t.val % 4 = 0) (h1 : t.val % 4 = 3) (r q : Fin 1024) :
    (show FVec Ideal S1024x1024 .f32 from (outsAt0 m c t.val t.isLt).1) (ix2 r q)
      = (show FVec Ideal S1024x1024 .f32 from (outsAt0 m c (t.val - 1) (Nat.lt_of_le_of_lt (Nat.sub_le _ _) t.isLt)).2) (ix2 r q) + grpSum m c t r q := by
  rw [outsAt0_C m c t h0 h1]
  frame_out
  rw [(Memref.isWhole_whole _).read_unread]
  rw [step _ _ _ _ _ _ _ _ _ _ _ _ _ _ _ _ _ rfl]
  refine congrArg₂ (· + ·) rfl ?_
  rw [grpSum, Fin.sum_univ_four]
  refine congrArg₂ (· + ·) (congrArg₂ (· + ·) (congrArg₂ (· + ·) ?_ ?_) ?_) ?_
  · exact part_eq m c t 0 r q _ _ _ (fun d f => by pointwise; exact wg_read m c t 0 d f) (fun d f => by pointwise; exact wu_read m c t 0 d f)
      (fun f => by pointwise; exact wd_read m c t 0 f q)
  · exact part_eq m c t 1 r q _ _ _ (fun d f => by pointwise; exact wg_read m c t 1 d f) (fun d f => by pointwise; exact wu_read m c t 1 d f)
      (fun f => by pointwise; exact wd_read m c t 1 f q)
  · exact part_eq m c t 2 r q _ _ _ (fun d f => by pointwise; exact wg_read m c t 2 d f) (fun d f => by pointwise; exact wu_read m c t 2 d f)
      (fun f => by pointwise; exact wd_read m c t 2 f q)
  · exact part_eq m c t 3 r q _ _ _ (fun d f => by pointwise; exact wg_read m c t 3 d f) (fun d f => by pointwise; exact wu_read m c t 3 d f)
      (fun f => by pointwise; exact wd_read m c t 3 f q)

/-- What a point's group adds, by the group's number and the token. -/
theorem grpSum_at (c : Dev nD) (s t : Fin cfg0.N) (g : Fin 4) (r q : Fin 1024) (hs : s.val / 4 = t.val / 4) (hg : s.val % 4 = g.val) :
    grpSum m c s r q = ∑ e : Fin 4, expert (X1 m c) (X2 m c) (X3 m c) (X4 m c) (X5 m c) g e (tok t r) q := by
  have h1 : tok s r = tok t r := Fin.ext (by show s.val / 4 * 1024 + r.val = t.val / 4 * 1024 + r.val; rw [hs])
  have h2 : grp s = g := Fin.ext hg
  rw [grpSum, h1, h2]

/-- Over a block's four points the accumulator collects the whole row. -/
theorem row_eq (c : Dev nD) (t s0 s1 s2 : Fin cfg0.N) (hm : t.val % 4 = 3) (e2 : s2.val + 1 = t.val) (e1 : s1.val + 1 = s2.val)
    (e0 : s0.val + 1 = s1.val) (r q : Fin 1024) :
    (show FVec Ideal S1024x1024 .f32 from (outsAt0 m c s2.val s2.isLt).2) (ix2 r q) + grpSum m c t r q
      = row (X0 m c) (X1 m c) (X2 m c) (X3 m c) (X4 m c) (X5 m c) (tok t r) q := by
  have p1 : ∀ a b : Fin cfg0.N, a.val + 1 = b.val → ∀ h, outsAt0 m c (b.val - 1) h = outsAt0 m c a.val a.isLt := by
    intro a b hab h
    have : b.val - 1 = a.val := by omega
    simp only [this]
  have f2 := step_B m c s2 (by omega) (by omega) r q
  have f1 := step_B m c s1 (by omega) (by omega) r q
  have f0 := step_A m c s0 (by omega) (by omega) r q
  rw [p1 s1 s2 e1] at f2
  rw [p1 s0 s1 e0] at f1
  refine (four f0 f1 f2).trans ?_
  have t0 : tok s0 r = tok t r := Fin.ext (by show s0.val / 4 * 1024 + r.val = t.val / 4 * 1024 + r.val; omega)
  rw [t0, row, grpSum_at m c s0 t 0 r q (by omega) (by show s0.val % 4 = 0; omega), grpSum_at m c s1 t 1 r q (by omega) (by show s1.val % 4 = 1; omega),
    grpSum_at m c s2 t 2 r q (by omega) (by show s2.val % 4 = 2; omega), grpSum_at m c t t 3 r q rfl hm,
    Fin.sum_univ_four (fun g => ∑ e, expert (X1 m c) (X2 m c) (X3 m c) (X4 m c) (X5 m c) g e (tok t r) q)]

/-- The result array's element at a token and a feature. -/
def result (c : Dev nD) (r : Fin 32768) (q : Fin 1024) : EReal :=
  row (X0 m c) (X1 m c) (X2 m c) (X3 m c) (X4 m c) (X5 m c) r q

/-- What a block's last point leaves in the result's block. -/
theorem last_eq (c : Dev nD) (t : Fin cfg0.N) (h1 : t.val % 4 = 3) (r q : Fin 1024) :
    (show FVec Ideal S1024x1024 .f32 from (outsAt0 m c t.val t.isLt).1) (ix2 r q) = result m c (tok t r) q := by
  refine (last_C m c t (by omega) h1 r q).trans ?_
  exact row_eq m c t ⟨t.val - 3, by omega⟩ ⟨t.val - 2, by omega⟩ ⟨t.val - 1, by omega⟩ h1 (by show t.val - 1 + 1 = t.val; omega)
    (by show t.val - 2 + 1 = t.val - 1; omega) (by show t.val - 3 + 1 = t.val - 2; omega) r q

end Cert.MoeFirstIdeal.Array

end
-- ==== Proof.MoeFirstFinal.lean ====
/- What the expert kernel leaves in its result array: the residual row plus the sixteen experts' parts. -/
module

public import proofs.«01_k».proof.Proof.Gen.MoeFirstIdeal.Value
public import proofs.«01_k».proof.Proof.MoeFirstArray
public import Idealize.ShloMosaic.Lib.Pipeline.ValueKit

@[expose] public section

set_option maxRecDepth 16384

noncomputable section

namespace Cert.MoeFirstIdeal.Array

open Idealize.ShloMosaic Idealize.ShloMosaic.Pipeline Cert.MoeFirstIdeal Cert.MoeFirstIdeal.Gen Cert.MoeFirstIdeal.Value Cert.MoeMath

variable (m : (ℓ : Loc nD τ sig) → Buf (Elt Ideal) ℓ)

/-- The result array. -/
def OUT (c : Dev nD) : FVec Ideal S32768x1024 .f32 := fun i => result m c (i 0) (i 1)

/-- The result array's element where a point's block puts its element `y`. -/
theorem out_emb (c : Dev nD) (t : Fin cfg0.N) (y : S1024x1024.Idx) (h1 : t.val % 4 = 3) :
    (show FVec Ideal S1024x1024 .f32 from (outsAt0 m c t.val t.isLt).1) y = OUT m c (ix2 (tok t (y 0)) (y 1)) := by
  have h := last_eq m c t h1 (y 0) (y 1)
  rw [← eq_ix2 y] at h
  exact h

/-- The result array after the run. -/
theorem final (c : Dev nD) : (dats m 0 c).arrAt 7 cfg0.N = OUT m c := by
  refine (dats m 0 c).arrAt_eq_of_covers 7 _ (by decide +kernel) fun t hf y => ?_
  blk_simp
  rw [after0_7]
  refine (out_emb m c t y ((flush0_7 t).mp hf)).trans (congrArg (OUT m c) ?_)
  blk_ext [idx_val t]

end Cert.MoeFirstIdeal.Array

end
-- ==== Proof.MoeFirstRefValue.lean ====
module

public import proofs.«01_k».proof.Proof.Gen.MoeFirstRefIdeal.Read
public import proofs.«01_k».proof.Proof.MoeMath

@[expose] public section

set_option maxRecDepth 16384

noncomputable section

namespace Cert.MoeFirstRefIdeal.RefValue

open Cert.MoeFirstRefIdeal Cert.MoeFirstRefIdeal.Read Idealize.ShloMosaic Idealize.ShloMosaic.TcCoe Idealize.SL.Sem
open Cert.MoeMath

variable (x0 : FVec Ideal S32768x1024 .f32) (x1 : FVec Ideal S32768x1024 .bf16) (x2 : FVec Ideal S32768x128 .f32)
  (x3 x4 : FVec Ideal S4x4x1024x256 .f32) (x5 : FVec Ideal S4x4x256x1024 .f32)

/-- The reference's sum over group 0. -/
theorem group0 (r : Fin 32768) (c : Fin 1024) :
    val_main_v19 (F := Ideal) x1 x2 x3 x4 x5 (ix2 r c) = ∑ e : Fin 4, expert x1 x2 x3 x4 x5 0 e r c := by
  pointwise [val_main_v19, val_main_v18, val_main_v17, val_main_v16, val_main_v15, val_main_v14, val_main_v13, val_main_v12, val_main_v11, val_main_v10, val_main_call0_v5, val_main_call0_v4, val_main_call0_v3, val_main_call0_v2, val_main_call0_v1, val_main_call0_v0, val_main_call0_cst, val_main_call0_cst_0, val_main_v9, val_main_v8, val_main_v7, val_main_v6, val_main_v5, val_main_v4, val_main_v2, val_main_v1, val_main_v0]
  refine Finset.sum_congr rfl fun e _ => ?_
  rw [show x2 (ix2 r ⟨_, _⟩) = x2 (ix2 r ⟨4 * ((0 : Fin 4) : ℕ) + (e : ℕ), by omega⟩) from by first | rfl | (congr 2; ext; simp)]
  rfl

/-- The reference's sum over group 1. -/
theorem group1 (r : Fin 32768) (c : Fin 1024) :
    val_main_v36 (F := Ideal) x1 x2 x3 x4 x5 (ix2 r c) = ∑ e : Fin 4, expert x1 x2 x3 x4 x5 1 e r c := by
  pointwise [val_main_v36, val_main_v35, val_main_v34, val_main_v33, val_main_v32, val_main_v31, val_main_v30, val_main_v29, val_main_v28, val_main_v27, val_main_call1_v5, val_main_call1_v4, val_main_call1_v3, val_main_call1_v2, val_main_call1_v1, val_main_call1_v0, val_main_call1_cst, val_main_call1_cst_0, val_main_v26, val_main_v25, val_main_v24, val_main_v23, val_main_v22, val_main_v21, val_main_v2, val_main_v1, val_main_v0]
  refine Finset.sum_congr rfl fun e _ => ?_
  rw [show x2 (ix2 r ⟨_, _⟩) = x2 (ix2 r ⟨4 * ((1 : Fin 4) : ℕ) + (e : ℕ), by omega⟩) from by first | rfl | (congr 2; ext; simp)]
  rfl

/-- The reference's sum over group 2. -/
theorem group2 (r : Fin 32768) (c : Fin 1024) :
    val_main_v53 (F := Ideal) x1 x2 x3 x4 x5 (ix2 r c) = ∑ e : Fin 4, expert x1 x2 x3 x4 x5 2 e r c := by
  pointwise [val_main_v53, val_main_v52, val_main_v51, val_main_v50, val_main_v49, val_main_v48, val_main_v47, val_main_v46, val_main_v45, val_main_v44, val_main_call2_v5, val_main_call2_v4, val_main_call2_v3, val_main_call2_v2, val_main_call2_v1, val_main_call2_v0, val_main_call2_cst, val_main_call2_cst_0, val_main_v43, val_main_v42, val_main_v41, val_main_v40, val_main_v39, val_main_v38, val_main_v2, val_main_v1, val_main_v0]
  refine Finset.sum_congr rfl fun e _ => ?_
  rw [show x2 (ix2 r ⟨_, _⟩) = x2 (ix2 r ⟨4 * ((2 : Fin 4) : ℕ) + (e : ℕ), by omega⟩) from by first | rfl | (congr 2; ext; simp)]
  rfl

/-- The reference's sum over group 3. -/
theorem group3 (r : Fin 32768) (c : Fin 1024) :
    val_main_v70 (F := Ideal) x1 x2 x3 x4 x5 (ix2 r c) = ∑ e : Fin 4, expert x1 x2 x3 x4 x5 3 e r c := by
  pointwise [val_main_v70, val_main_v69, val_main_v68, val_main_v67, val_main_v66, val_main_v65, val_main_v64, val_main_v63, val_main_v62, val_main_v61, val_main_call3_v5, val_main_call3_v4, val_main_call3_v3, val_main_call3_v2, val_main_call3_v1, val_main_call3_v0, val_main_call3_cst, val_main_call3_cst_0, val_main_v60, val_main_v59, val_main_v58, val_main_v57, val_main_v56, val_main_v55, val_main_v2, val_main_v1, val_main_v0]
  refine Finset.sum_congr rfl fun e _ => ?_
  rw [show x2 (ix2 r ⟨_, _⟩) = x2 (ix2 r ⟨4 * ((3 : Fin 4) : ℕ) + (e : ℕ), by omega⟩) from by first | rfl | (congr 2; ext; simp)]
  rfl

theorem row_read (r : Fin 32768) (c : Fin 1024) :
    val_main_v72 (F := Ideal) x0 x1 x2 x3 x4 x5 (ix2 r c) = row x0 x1 x2 x3 x4 x5 r c := by
  pointwise [val_main_v72, val_main_v71, val_main_v54, val_main_v37, val_main_v20, val_main_v3, val_main_cst]
  rw [group0, group1, group2, group3, row, Fin.sum_univ_four (fun g => ∑ e, expert x1 x2 x3 x4 x5 g e r c)]

end Cert.MoeFirstRefIdeal.RefValue

end
-- ==== Proof.MoeFirstClaim.lean ====
/- The expert kernel of the first layer and the experts of the reference, over the extended reals, leave equal results. -/
module

public import proofs.«01_k».proof.Defs
public import proofs.«01_k».proof.Proof.MoeFirstFinal
public import proofs.«01_k».proof.Proof.MoeFirstRefValue
public import proofs.«01_k».proof.Proof.Gen.MoeFirstRefIdeal.Run
public import Idealize.ShloMosaic.Lib.Claim

@[expose] public section

set_option maxRecDepth 16384

noncomputable section

namespace Cert.MoeFirstClaim

open Idealize.ShloMosaic Idealize.ShloMosaic.TcCoe Idealize.SL.Sem

/-- The reference's result is the kernel's array. -/
theorem ref_eq (m : (ℓ : Loc Cert.MoeFirstIdeal.nD Cert.MoeFirstIdeal.τ Cert.MoeFirstIdeal.sig) → Buf (Elt Ideal) ℓ) (c : Dev Cert.MoeFirstIdeal.nD) :
    Cert.MoeFirstRefIdeal.Read.val_main_v72 (F := Ideal) (Cert.MoeFirstIdeal.Array.X0 m c) (Cert.MoeFirstIdeal.Array.X1 m c) (Cert.MoeFirstIdeal.Array.X2 m c)
      (Cert.MoeFirstIdeal.Array.X3 m c) (Cert.MoeFirstIdeal.Array.X4 m c) (Cert.MoeFirstIdeal.Array.X5 m c)
      = Cert.MoeFirstIdeal.Array.OUT m c := by
  refine funext fun i => ?_
  have h := Cert.MoeFirstRefIdeal.RefValue.row_read (Cert.MoeFirstIdeal.Array.X0 m c) (Cert.MoeFirstIdeal.Array.X1 m c) (Cert.MoeFirstIdeal.Array.X2 m c)
      (Cert.MoeFirstIdeal.Array.X3 m c) (Cert.MoeFirstIdeal.Array.X4 m c) (Cert.MoeFirstIdeal.Array.X5 m c) (i 0) (i 1)
  exact (congrArg _ (eq_ix2 i)).trans h

/-- Both programs run, and their results are equal. -/
theorem algebraic : Cert.algebraic_MoeFirstIdeal_MoeFirstRefIdeal := by
  pair_intro
  · run_from Cert.MoeFirstIdeal.Value.run_blocks m g
  · run_from Cert.MoeFirstRefIdeal.Value.run m' g'
    obtain ⟨h0, h1, h2, h3, h4, h5, h6⟩ := hagree c
    rw [Cert.MoeFirstRefIdeal.Read.val_main_v72_eq, h0, h1, h2, h3, h4, h5]
    exact (ref_eq m c).trans (Cert.MoeFirstIdeal.Array.final m c).symm

end Cert.MoeFirstClaim

end
-- ==== Proof.InprojMath.lean ====
/- The input projection over the extended reals: a normalized token against a column of the weights, the gate `silu`
   and the logarithm of the sigmoid. The kernel's module and the reference's module both read their terms into these. -/
module

public import proofs.«01_k».proof.Proof.MoeMath

@[expose] public section

noncomputable section

namespace Cert.InprojMath

open Idealize.ShloMosaic Cert.MoeMath

/-- A token's row `v`, normalized with the gain `g`, against the weights' column `w`. -/
def proj (v g w : Fin 1024 → EReal) : EReal := ∑ d, norm v (g d) d * w d

theorem proj_congr {v v' g g' w w' : Fin 1024 → EReal} (e0 : ∀ d, v d = v' d) (e1 : ∀ d, g d = g' d) (e2 : ∀ d, w d = w' d) :
    proj v g w = proj v' g' w' := by
  rw [funext e0, funext e1, funext e2]

/-- The gate `silu z`. -/
def silu (z : EReal) : EReal := z * Ideal.div 1 (1 + Ideal.exp (-z))

/-- The logarithm of the sigmoid of `z`. -/
def lsig (z : EReal) : EReal := min z 0 - Ideal.log1p (Ideal.exp (-max z (-z)))

/-- Below the top, `log1p (exp a)` is a real number. -/
theorem log1p_exp_real (a : EReal) (ha : a ≠ ⊤) : ∃ x : ℝ, Ideal.log1p (Ideal.exp a) = x := by
  induction a using EReal.rec with
  | bot =>
    refine ⟨Real.log 1, ?_⟩
    show Ideal.log (1 + 0) = _
    rw [add_zero]
    show (if (1 : ℝ) ≤ 0 then (⊥ : EReal) else (Real.log 1 : EReal)) = _
    rw [if_neg (by norm_num)]
  | top => exact absurd rfl ha
  | coe x =>
    refine ⟨Real.log (1 + Real.exp x), ?_⟩
    show Ideal.log (((1 : ℝ) : EReal) + (Real.exp x : EReal)) = _
    rw [← EReal.coe_add]
    show (if 1 + Real.exp x ≤ 0 then (⊥ : EReal) else (Real.log (1 + Real.exp x) : EReal)) = _
    rw [if_neg (by have := Real.exp_pos x; linarith)]

/-- The correction in `lsig` is a real number. -/
theorem log1p_real (z : EReal) : ∃ x : ℝ, Ideal.log1p (Ideal.exp (-max z (-z))) = x := by
  refine log1p_exp_real _ fun h => ?_
  rw [EReal.neg_eq_top_iff, max_eq_bot] at h
  rw [h.1] at h
  exact absurd h.2 (by simp)

/-- The logarithm of the sigmoid as minus the softplus of `-z`. -/
theorem lsig_softplus (z : EReal) : -(max (-z) 0 + Ideal.log1p (Ideal.exp (-max (-z) (- -z)))) = lsig z := by
  rw [lsig, neg_neg, max_comm (-z) z]
  obtain ⟨x, hx⟩ := log1p_real z
  rw [hx, EReal.neg_add (Or.inr (EReal.coe_ne_top x)) (Or.inr (EReal.coe_ne_bot x))]
  congr 1
  rcases le_total z 0 with h | h
  · rw [min_eq_left h, max_eq_left (by rw [← neg_zero]; exact EReal.neg_le_neg_iff.mpr h), neg_neg]
  · rw [min_eq_right h, max_eq_right (by rw [← neg_zero]; exact EReal.neg_le_neg_iff.mpr h), neg_zero]

end Cert.InprojMath

end
-- ==== Proof.InprojHost.lean ====
/- The blocks of the input projection's operands at a point of its grid: 512 tokens, the gain, the reordered weights and the
   padded bias, each read from the arguments. -/
module

public import proofs.«01_k».proof.Proof.Gen.InprojIdeal.Frame.Runs
public import proofs.«01_k».proof.Proof.InprojMath
public import Idealize.ShloMosaic.Lib.Pointwise
public import Idealize.ShloMosaic.Lib.Pipeline.ValueKit
public import Idealize.ShloMosaic.Lib.StableHlo.ReadAt

@[expose] public section

set_option maxRecDepth 16384

noncomputable section

namespace Cert.InprojIdeal.Array

open Cert.InprojIdeal Cert.InprojIdeal.Gen Cert.InprojMath Idealize.ShloMosaic Idealize.ShloMosaic.TcCoe Idealize.SL.Sem
open Idealize.ShloMosaic.Pipeline (Dat)

variable (m : (ℓ : Loc nD τ sig) → Buf (Elt Ideal) ℓ)

/-- The windows' block indices at every point of the grid. -/
theorem idx_val : ∀ t : Fin cfg0.N, win0_0.index t = ![t.val, 0]
    ∧ win0_1.index t = ![0, 0]
    ∧ win0_2.index t = ![0, 0]
    ∧ win0_4.index t = ![0, 0]
    ∧ win0_14.index t = ![t.val, 0]
    ∧ win0_17.index t = ![t.val, 0]
    ∧ win0_18.index t = ![t.val, 0]
    ∧ win0_19.index t = ![t.val, 0]
    ∧ win0_20.index t = ![0, t.val / 8, 0, t.val % 8]
    ∧ win0_21.index t = ![0, t.val / 8, 0, t.val % 8]
    ∧ win0_22.index t = ![t.val, 0] :=
  (by decide +kernel : ∀ t : Fin grid0.N, _)

/-- The arguments, at their literal types. -/
abbrev X0 (c : Dev nD) : FVec Ideal S8x4096x1024 .f32 := m ((c : Thread nD τ).loc main_arg0)
abbrev X1 (c : Dev nD) : FVec Ideal S1024 .f32 := m ((c : Thread nD τ).loc main_arg1)
abbrev X2 (c : Dev nD) : FVec Ideal S1024x3080 .f32 := m ((c : Thread nD τ).loc main_arg2)
abbrev X4 (c : Dev nD) : FVec Ideal S8 .f32 := m ((c : Thread nD τ).loc main_arg4)

theorem N_lt (t : Fin cfg0.N) : t.val < 64 := lt_of_lt_of_eq t.isLt N_0

/-- The token of the whole array that row `r` of point `t`'s block is. -/
abbrev tok (t : Fin cfg0.N) (r : Fin 512) : Fin 32768 := ⟨t.val * 512 + r.val, by have := N_lt t; omega⟩

/-- The sequence a token lies in, and its place there. -/
abbrev seq (r : Fin 32768) : Fin 8 := ⟨r.val / 4096, by omega⟩
abbrev pos (r : Fin 32768) : Fin 4096 := ⟨r.val % 4096, Nat.mod_lt _ (by decide)⟩

/-- The operands the host builds. -/
abbrev XF (c : Dev nD) : FVec Ideal S32768x1024 .f32 := V m c main_v0
abbrev G (c : Dev nD) : FVec Ideal S1x1024 .f32 := V m c main_v61
abbrev W (c : Dev nD) : FVec Ideal S1024x3200 .bf16 := V m c main_v6
abbrev FB (c : Dev nD) : FVec Ideal S1x128 .f32 := V m c main_v8

theorem at_eq {α : Type} {n N : ℕ} (f : (⟨2, ![n, N]⟩ : Shape).Idx → α) (r : Fin n) (a b : Fin N) (e : a.val = b.val) : f (ix2 r a) = f (ix2 r b) := by
  rw [Fin.ext e]

theorem xf_read (c : Dev nD) (r : Fin 32768) (d : Fin 1024) : XF m c (ix2 r d) = X0 m c (ix3 (seq r) (pos r) d) := by
  unfold XF V
  after_reads_at

theorem g_read (c : Dev nD) (d : Fin 1024) : G m c (ix2 0 d) = X1 m c (ix1 d) := by
  unfold G V
  after_reads_at

theorem w_lo (c : Dev nD) (d : Fin 1024) (j : Fin 3200) (hj : j.val < 2560) : W m c (ix2 d j) = X2 m c (ix2 d ⟨j.val, by omega⟩) := by
  unfold W V
  after_reads_at
  split_ifs <;> first | omega | skip
  all_goals try after_reads_at

theorem w_f (c : Dev nD) (d : Fin 1024) (j : Fin 8) : W m c (ix2 d ⟨3072 + j.val, by omega⟩) = X2 m c (ix2 d ⟨2560 + j.val, by omega⟩) := by
  unfold W V
  after_reads_at
  split_ifs <;> first | omega | skip
  all_goals try after_reads_at
  all_goals exact at_eq (X2 m c) d _ _ (by show 2560 + (3072 + j.val - 2560 - 512) = 2560 + j.val; omega)

theorem fb_read (c : Dev nD) (j : Fin 8) : FB m c (ix2 0 ⟨j.val, by omega⟩) = X4 m c (ix1 j) := by
  unfold FB V
  after_reads_at

theorem x_blk (c : Dev nD) (t : Fin cfg0.N) (r : Fin 512) (d : Fin 1024) :
    (show FVec Ideal S512x1024 .f32 from iblk m c 0 t) (ix2 r d) = XF m c (ix2 (tok t r) d) := by
  blk_point [iblk, idx_val t]

theorem g_blk (c : Dev nD) (t : Fin cfg0.N) (d : Fin 1024) :
    (show FVec Ideal S1x1024 .f32 from iblk m c 1 t) (ix2 0 d) = G m c (ix2 0 d) := by
  blk_point [iblk, idx_val t]

theorem w_blk (c : Dev nD) (t : Fin cfg0.N) (d : Fin 1024) (j : Fin 3200) :
    (show FVec Ideal S1024x3200 .bf16 from iblk m c 2 t) (ix2 d j) = W m c (ix2 d j) := by
  blk_point [iblk, idx_val t]

theorem fb_blk (c : Dev nD) (t : Fin cfg0.N) (j : Fin 128) :
    (show FVec Ideal S1x128 .f32 from iblk m c 4 t) (ix2 0 j) = FB m c (ix2 0 j) := by
  blk_point [iblk, idx_val t]

end Cert.InprojIdeal.Array

end
-- ==== Proof.InprojBlock.lean ====
/- What a tile of the input projection computes from a tile's tokens, the gain and the weights: the normalized token
   against a column of the weights, and the activations of it. -/
module

public import proofs.«01_k».proof.Proof.Gen.InprojIdeal.Skeleton
public import proofs.«01_k».proof.Proof.InprojMath
public import Idealize.ShloMosaic.Lib.Pointwise

@[expose] public section

set_option maxRecDepth 16384

noncomputable section

namespace Cert.InprojIdeal.Block

open Cert.InprojIdeal Cert.InprojIdeal.Gen Cert.InprojMath Idealize.ShloMosaic Idealize.ShloMosaic.TcCoe Idealize.SL.Sem

/-- A tile's token `r` against the weights' column `j`. -/
abbrev tile (v0 : Vec Ideal S512x1024 .f32) (v2 : Vec Ideal S1x1024 .f32) (v16 : Vec Ideal S1024x3200 .bf16) (r : Fin 512) (j : Fin 3200) : EReal :=
  proj (fun k => v0 (ix2 r k)) (fun d => v2 (ix2 0 d)) (fun d => v16 (ix2 d j))

theorem pay2 (v0 : Vec Ideal S512x1024 .f32) (v2 : Vec Ideal S1x1024 .f32) (v16 : Vec Ideal S1024x3200 .bf16) (r : Fin 512) (j : Fin 3200) :
    k0_pay2 (F := Ideal) v0 v2 v16 (ix2 r j) = tile v0 v2 v16 r j := by
  pointwise [k0_pay2]
  rfl

theorem pay3 (v0 : Vec Ideal S512x1024 .f32) (v2 : Vec Ideal S1x1024 .f32) (v16 : Vec Ideal S1024x3200 .bf16) (r : Fin 512) (j : Fin 256) :
    k0_pay3 (F := Ideal) v0 v2 v16 (ix2 r j) = tile v0 v2 v16 r ⟨j.val, by omega⟩ := by
  pointwise [k0_pay3]
  exact pay2 v0 v2 v16 r _

theorem pay5 (v0 : Vec Ideal S512x1024 .f32) (v2 : Vec Ideal S1x1024 .f32) (v16 : Vec Ideal S1024x3200 .bf16) (r : Fin 512) (j : Fin 256) :
    k0_pay5 (F := Ideal) v0 v2 v16 (ix2 r j) = tile v0 v2 v16 r ⟨512 + j.val, by omega⟩ := by
  pointwise [k0_pay5]
  exact pay2 v0 v2 v16 r _

theorem pay6 (v0 : Vec Ideal S512x1024 .f32) (v2 : Vec Ideal S1x1024 .f32) (v16 : Vec Ideal S1024x3200 .bf16) (r : Fin 512) (j : Fin 256) :
    k0_pay6 (F := Ideal) v0 v2 v16 (ix2 r j) = tile v0 v2 v16 r ⟨768 + j.val, by omega⟩ := by
  pointwise [k0_pay6]
  exact pay2 v0 v2 v16 r _

theorem pay7 (v0 : Vec Ideal S512x1024 .f32) (v2 : Vec Ideal S1x1024 .f32) (v16 : Vec Ideal S1024x3200 .bf16) (r j : Fin 512) :
    k0_pay7 (F := Ideal) v0 v2 v16 (ix2 r j) = tile v0 v2 v16 r ⟨1024 + j.val, by omega⟩ * Ideal.ofBits .f32 0x3E000000#32 := by
  pointwise [k0_pay7]
  exact congrArg (· * _) (pay2 v0 v2 v16 r _)

theorem pay8 (v0 : Vec Ideal S512x1024 .f32) (v2 : Vec Ideal S1x1024 .f32) (v16 : Vec Ideal S1024x3200 .bf16) (r j : Fin 512) :
    k0_pay8 (F := Ideal) v0 v2 v16 (ix2 r j) = tile v0 v2 v16 r ⟨1536 + j.val, by omega⟩ := by
  pointwise [k0_pay8]
  exact pay2 v0 v2 v16 r _

theorem pay9 (v0 : Vec Ideal S512x1024 .f32) (v2 : Vec Ideal S1x1024 .f32) (v16 : Vec Ideal S1024x3200 .bf16) (r j : Fin 512) :
    k0_pay9 (F := Ideal) v0 v2 v16 (ix2 r j) = tile v0 v2 v16 r ⟨2048 + j.val, by omega⟩ := by
  pointwise [k0_pay9]
  exact pay2 v0 v2 v16 r _

theorem pay12 (v0 : Vec Ideal S512x1024 .f32) (v2 : Vec Ideal S1x1024 .f32) (v16 : Vec Ideal S1024x3200 .bf16) (r : Fin 512) (j : Fin 128) :
    k0_pay12 (F := Ideal) v0 v2 v16 (ix2 r j) = tile v0 v2 v16 r ⟨3072 + j.val, by omega⟩ := by
  pointwise [k0_pay12]
  exact pay2 v0 v2 v16 r _

theorem pay20 (v : FVec Ideal S512x256 .f32) (r : Fin 512) (j : Fin 256) :
    k0_pay20 (F := Ideal) v (k0_pay19 v) (Scalar.ofBits .f32 0x3F800000#32) (ix2 r j) = silu (v (ix2 r j)) := by
  pointwise [k0_pay20, k0_pay19]
  rw [zero_sub]
  rfl

theorem pay21 (v : FVec Ideal S512x256 .f32) (r : Fin 512) (j : Fin 256) : k0_pay21 (F := Ideal) v (ix2 r j) = silu (v (ix2 r j)) := by
  pointwise [k0_pay21]
  rw [zero_sub]
  rfl

theorem pay22 (v : FVec Ideal S512x512 .f32) (r j : Fin 512) : k0_pay22 (F := Ideal) v (ix4 0 0 r j) = v (ix2 j r) := by
  pointwise [k0_pay22]

theorem pay23 (v : FVec Ideal S512x512 .f32) (r j : Fin 512) : k0_pay23 (F := Ideal) v (ix4 0 0 r j) = v (ix2 j r) := by
  pointwise [k0_pay23]

theorem pay27 (v : FVec Ideal S512x128 .f32) (b : Vec Ideal S1x128 .f32) (r : Fin 512) (j : Fin 8) :
    k0_pay27 (F := Ideal) (k0_pay24 v b) (k0_pay25 v b) (ix2 r j) = lsig (v (ix2 r ⟨j.val, by omega⟩) + b (ix2 0 ⟨j.val, by omega⟩)) := by
  pointwise [k0_pay27, k0_pay26, k0_pay25, k0_pay24]
  rw [zero_sub]
  rfl

end Cert.InprojIdeal.Block

end
-- ==== Proof.InprojFinal.lean ====
/- What the input projection leaves in seven of its result arrays: the recurrence's query, value and gate, the attention's scaled
   query, its keys and values feature by feature, and its logarithms of the forget gate. -/
module

public import proofs.«01_k».proof.Proof.Gen.InprojIdeal.Frame
public import proofs.«01_k».proof.Proof.InprojHost
public import proofs.«01_k».proof.Proof.InprojBlock
public import Idealize.ShloMosaic.Lib.Pipeline.ValueKit

@[expose] public section

set_option maxRecDepth 16384

noncomputable section

namespace Cert.InprojIdeal.Array

open Idealize.ShloMosaic Idealize.ShloMosaic.Pipeline Cert.InprojIdeal Cert.InprojIdeal.Gen Cert.InprojMath
open Cert.InprojIdeal.Block

variable (m : (ℓ : Loc nD τ sig) → Buf (Elt Ideal) ℓ)

/-- Token `r`, normalized, against column `j` of the weights. -/
def Y (c : Dev nD) (r : Fin 32768) (j : Fin 3080) : EReal :=
  proj (fun k => X0 m c (ix3 (seq r) (pos r) k)) (fun d => X1 m c (ix1 d)) (fun d => X2 m c (ix2 d j))

/-- Column `j` of the kernel's weights as a column of the argument's, where the claimed results lie. -/
theorem tile_lo (c : Dev nD) (t : Fin cfg0.N) (r : Fin 512) (j : Fin 3200) (hj : j.val < 2560) :
    tile (iblk m c 0 t) (iblk m c 1 t) (iblk m c 2 t) r j = Y m c (tok t r) ⟨j.val, by omega⟩ :=
  proj_congr (fun d => (x_blk m c t r d).trans (xf_read m c _ d)) (fun d => (g_blk m c t d).trans (g_read m c d))
    (fun d => (w_blk m c t d j).trans (w_lo m c d j hj))

theorem tile_f (c : Dev nD) (t : Fin cfg0.N) (r : Fin 512) (j : Fin 8) :
    tile (iblk m c 0 t) (iblk m c 1 t) (iblk m c 2 t) r ⟨3072 + j.val, by omega⟩ = Y m c (tok t r) ⟨2560 + j.val, by omega⟩ :=
  proj_congr (fun d => (x_blk m c t r d).trans (xf_read m c _ d)) (fun d => (g_blk m c t d).trans (g_read m c d))
    (fun d => (w_blk m c t d _).trans (w_f m c d j))

/-- The seven result arrays. -/
def QA (c : Dev nD) : FVec Ideal S32768x256 .f32 := fun i => silu (Y m c (i 0) ⟨(i 1).val, lt_of_lt_of_le (i 1).isLt (by decide)⟩)
def IA (c : Dev nD) : FVec Ideal S32768x256 .f32 := fun i => Y m c (i 0) ⟨512 + (i 1).val, lt_of_lt_of_le (Nat.add_lt_add_left (i 1).isLt _) (by decide)⟩
def GA (c : Dev nD) : FVec Ideal S32768x256 .f32 := fun i => silu (Y m c (i 0) ⟨768 + (i 1).val, lt_of_lt_of_le (Nat.add_lt_add_left (i 1).isLt _) (by decide)⟩)
def QB (c : Dev nD) : FVec Ideal S32768x512 .f32 := fun i =>
  Y m c (i 0) ⟨1024 + (i 1).val, lt_of_lt_of_le (Nat.add_lt_add_left (i 1).isLt _) (by decide)⟩ * Ideal.ofBits .f32 0x3E000000#32
/-- The token at place `p` of sequence `b`. -/
abbrev at' (b : Fin 8) (p : Fin 4096) : Fin 32768 := ⟨b.val * 4096 + p.val, by omega⟩
def KB (c : Dev nD) : FVec Ideal S1x8x512x4096 .f32 := fun i =>
  Y m c (at' (i 1) (i 3)) ⟨1536 + (i 2).val, lt_of_lt_of_le (Nat.add_lt_add_left (i 2).isLt _) (by decide)⟩
def VB (c : Dev nD) : FVec Ideal S1x8x512x4096 .f32 := fun i =>
  Y m c (at' (i 1) (i 3)) ⟨2048 + (i 2).val, lt_of_lt_of_le (Nat.add_lt_add_left (i 2).isLt _) (by decide)⟩
def LF (c : Dev nD) : FVec Ideal S32768x8 .f32 := fun i =>
  lsig (Y m c (i 0) ⟨2560 + (i 1).val, lt_of_lt_of_le (Nat.add_lt_add_left (i 1).isLt _) (by decide)⟩ + X4 m c (ix1 (i 1)))

theorem qa_blk (c : Dev nD) (t : Fin cfg0.N) (y : S512x256.Idx) :
    (show FVec Ideal S512x256 .f32 from (outsAt0 m c t.val t.isLt).1) y = QA m c (ix2 (tok t (y 0)) (y 1)) := by
  rw [eq_ix2 y]
  by_cases h : t.val % 8 = 0
  · rw [outsAt0_A m c t h]
    frame_out
    refine (pay20 _ _ _).trans (congrArg silu ?_)
    exact (pay3 _ _ _ _ _).trans (tile_lo m c t _ _ (lt_of_lt_of_le (y 1).isLt (by decide)))
  · rw [outsAt0_B m c t h]
    frame_out
    refine (pay20 _ _ _).trans (congrArg silu ?_)
    exact (pay3 _ _ _ _ _).trans (tile_lo m c t _ _ (lt_of_lt_of_le (y 1).isLt (by decide)))

theorem ia_blk (c : Dev nD) (t : Fin cfg0.N) (y : S512x256.Idx) :
    (show FVec Ideal S512x256 .f32 from (outsAt0 m c t.val t.isLt).2.2.2.1) y = IA m c (ix2 (tok t (y 0)) (y 1)) := by
  rw [eq_ix2 y]
  have hy : (y 1).val < 256 := (y 1).isLt
  by_cases h : t.val % 8 = 0
  · rw [outsAt0_A m c t h]
    frame_out
    exact (pay5 _ _ _ _ _).trans (tile_lo m c t _ _ (show 512 + (y 1).val < 2560 by omega))
  · rw [outsAt0_B m c t h]
    frame_out
    exact (pay5 _ _ _ _ _).trans (tile_lo m c t _ _ (show 512 + (y 1).val < 2560 by omega))

theorem ga_blk (c : Dev nD) (t : Fin cfg0.N) (y : S512x256.Idx) :
    (show FVec Ideal S512x256 .f32 from (outsAt0 m c t.val t.isLt).2.2.2.2.1) y = GA m c (ix2 (tok t (y 0)) (y 1)) := by
  rw [eq_ix2 y]
  have hy : (y 1).val < 256 := (y 1).isLt
  by_cases h : t.val % 8 = 0
  · rw [outsAt0_A m c t h]
    frame_out
    refine (pay21 _ _ _).trans (congrArg silu ?_)
    exact (pay6 _ _ _ _ _).trans (tile_lo m c t _ _ (show 768 + (y 1).val < 2560 by omega))
  · rw [outsAt0_B m c t h]
    frame_out
    refine (pay21 _ _ _).trans (congrArg silu ?_)
    exact (pay6 _ _ _ _ _).trans (tile_lo m c t _ _ (show 768 + (y 1).val < 2560 by omega))

theorem qb_blk (c : Dev nD) (t : Fin cfg0.N) (y : S512x512.Idx) :
    (show FVec Ideal S512x512 .f32 from (outsAt0 m c t.val t.isLt).2.2.2.2.2.1) y = QB m c (ix2 (tok t (y 0)) (y 1)) := by
  rw [eq_ix2 y]
  have hy : (y 1).val < 512 := (y 1).isLt
  by_cases h : t.val % 8 = 0
  · rw [outsAt0_A m c t h]
    frame_out
    exact (pay7 _ _ _ _ _).trans (congrArg (· * _) (tile_lo m c t _ _ (show 1024 + (y 1).val < 2560 by omega)))
  · rw [outsAt0_B m c t h]
    frame_out
    exact (pay7 _ _ _ _ _).trans (congrArg (· * _) (tile_lo m c t _ _ (show 1024 + (y 1).val < 2560 by omega)))

/-- The places of the tile's tokens within their sequence. -/
abbrev plc (t : Fin cfg0.N) (r : Fin 512) : Fin 4096 := ⟨t.val % 8 * 512 + r.val, by omega⟩
abbrev sq (t : Fin cfg0.N) : Fin 8 := ⟨t.val / 8, by have := N_lt t; omega⟩

theorem tok_at (t : Fin cfg0.N) (r : Fin 512) : tok t r = at' (sq t) (plc t r) :=
  Fin.ext (by show t.val * 512 + r.val = t.val / 8 * 4096 + (t.val % 8 * 512 + r.val); omega)

theorem kb_blk (c : Dev nD) (t : Fin cfg0.N) (y : S1x1x512x512.Idx) :
    (show FVec Ideal S1x1x512x512 .f32 from (outsAt0 m c t.val t.isLt).2.2.2.2.2.2.1) y = KB m c (ix4 0 (sq t) (y 2) (plc t (y 3))) := by
  have e : y = ix4 0 0 (y 2) (y 3) := by
    refine (eq_ix4 y).trans ?_
    exact congrArg₂ (fun a b : Fin 1 => (ix4 a b (y 2) (y 3) : S1x1x512x512.Idx)) (Subsingleton.elim (α := Fin 1) _ _) (Subsingleton.elim (α := Fin 1) _ _)
  rw [e]
  have hy : (y 2).val < 512 := (y 2).isLt
  by_cases h : t.val % 8 = 0
  · rw [outsAt0_A m c t h]
    frame_out
    refine (pay22 _ _ _).trans ((pay8 _ _ _ _ _).trans ((tile_lo m c t _ _ (show 1536 + (y 2).val < 2560 by omega)).trans ?_))
    exact congrArg (fun r : Fin 32768 => Y m c r ⟨1536 + (y 2).val, by omega⟩) (tok_at t (y 3))
  · rw [outsAt0_B m c t h]
    frame_out
    refine (pay22 _ _ _).trans ((pay8 _ _ _ _ _).trans ((tile_lo m c t _ _ (show 1536 + (y 2).val < 2560 by omega)).trans ?_))
    exact congrArg (fun r : Fin 32768 => Y m c r ⟨1536 + (y 2).val, by omega⟩) (tok_at t (y 3))

theorem vb_blk (c : Dev nD) (t : Fin cfg0.N) (y : S1x1x512x512.Idx) :
    (show FVec Ideal S1x1x512x512 .f32 from (outsAt0 m c t.val t.isLt).2.2.2.2.2.2.2.1) y = VB m c (ix4 0 (sq t) (y 2) (plc t (y 3))) := by
  have e : y = ix4 0 0 (y 2) (y 3) := by
    refine (eq_ix4 y).trans ?_
    exact congrArg₂ (fun a b : Fin 1 => (ix4 a b (y 2) (y 3) : S1x1x512x512.Idx)) (Subsingleton.elim (α := Fin 1) _ _) (Subsingleton.elim (α := Fin 1) _ _)
  rw [e]
  have hy : (y 2).val < 512 := (y 2).isLt
  by_cases h : t.val % 8 = 0
  · rw [outsAt0_A m c t h]
    frame_out
    refine (pay23 _ _ _).trans ((pay9 _ _ _ _ _).trans ((tile_lo m c t _ _ (show 2048 + (y 2).val < 2560 by omega)).trans ?_))
    exact congrArg (fun r : Fin 32768 => Y m c r ⟨2048 + (y 2).val, by omega⟩) (tok_at t (y 3))
  · rw [outsAt0_B m c t h]
    frame_out
    refine (pay23 _ _ _).trans ((pay9 _ _ _ _ _).trans ((tile_lo m c t _ _ (show 2048 + (y 2).val < 2560 by omega)).trans ?_))
    exact congrArg (fun r : Fin 32768 => Y m c r ⟨2048 + (y 2).val, by omega⟩) (tok_at t (y 3))

theorem lf_blk (c : Dev nD) (t : Fin cfg0.N) (y : S512x8.Idx) :
    (show FVec Ideal S512x8 .f32 from (outsAt0 m c t.val t.isLt).2.2.2.2.2.2.2.2.1) y = LF m c (ix2 (tok t (y 0)) (y 1)) := by
  rw [eq_ix2 y]
  by_cases h : t.val % 8 = 0
  · rw [outsAt0_A m c t h]
    frame_out
    refine (pay27 _ _ _ _).trans (congrArg lsig (congrArg₂ (· + ·) ?_ ?_))
    · exact (pay12 _ _ _ _ _).trans (tile_f m c t _ _)
    · exact (fb_blk m c t _).trans (fb_read m c _)
  · rw [outsAt0_B m c t h]
    frame_out
    refine (pay27 _ _ _ _).trans (congrArg lsig (congrArg₂ (· + ·) ?_ ?_))
    · exact (pay12 _ _ _ _ _).trans (tile_f m c t _ _)
    · exact (fb_blk m c t _).trans (fb_read m c _)

/-! The seven arrays after the run. -/

theorem final_qa (c : Dev nD) : (dats m 0 c).arrAt 14 cfg0.N = QA m c := by
  refine (dats m 0 c).arrAt_eq_of_covers 14 _ (by decide +kernel) fun t hf y => ?_
  blk_simp
  rw [after0_14]
  refine (qa_blk m c t y).trans (congrArg (QA m c) ?_)
  blk_ext [idx_val t]

theorem final_ia (c : Dev nD) : (dats m 0 c).arrAt 17 cfg0.N = IA m c := by
  refine (dats m 0 c).arrAt_eq_of_covers 17 _ (by decide +kernel) fun t hf y => ?_
  blk_simp
  rw [after0_17]
  refine (ia_blk m c t y).trans (congrArg (IA m c) ?_)
  blk_ext [idx_val t]

theorem final_ga (c : Dev nD) : (dats m 0 c).arrAt 18 cfg0.N = GA m c := by
  refine (dats m 0 c).arrAt_eq_of_covers 18 _ (by decide +kernel) fun t hf y => ?_
  blk_simp
  rw [after0_18]
  refine (ga_blk m c t y).trans (congrArg (GA m c) ?_)
  blk_ext [idx_val t]

theorem final_qb (c : Dev nD) : (dats m 0 c).arrAt 19 cfg0.N = QB m c := by
  refine (dats m 0 c).arrAt_eq_of_covers 19 _ (by decide +kernel) fun t hf y => ?_
  blk_simp
  rw [after0_19]
  refine (qb_blk m c t y).trans (congrArg (QB m c) ?_)
  blk_ext [idx_val t]

theorem final_kb (c : Dev nD) : (dats m 0 c).arrAt 20 cfg0.N = KB m c := by
  refine (dats m 0 c).arrAt_eq_of_covers 20 _ (by decide +kernel) fun t hf y => ?_
  blk_simp
  rw [after0_20]
  refine (kb_blk m c t y).trans (congrArg (KB m c) ?_)
  blk_ext [idx_val t]

theorem final_vb (c : Dev nD) : (dats m 0 c).arrAt 21 cfg0.N = VB m c := by
  refine (dats m 0 c).arrAt_eq_of_covers 21 _ (by decide +kernel) fun t hf y => ?_
  blk_simp
  rw [after0_21]
  refine (vb_blk m c t y).trans (congrArg (VB m c) ?_)
  blk_ext [idx_val t]

theorem final_lf (c : Dev nD) : (dats m 0 c).arrAt 22 cfg0.N = LF m c := by
  refine (dats m 0 c).arrAt_eq_of_covers 22 _ (by decide +kernel) fun t hf y => ?_
  blk_simp
  rw [after0_22]
  refine (lf_blk m c t y).trans (congrArg (LF m c) ?_)
  blk_ext [idx_val t]

end Cert.InprojIdeal.Array

end
-- ==== Proof.InprojRun.lean ====
/- After a run of the input projection, seven of its result arrays hold their values, and its arguments are as launched. -/
module

public import proofs.«01_k».proof.Proof.InprojFinal

@[expose] public section

set_option maxRecDepth 16384

noncomputable section

namespace Cert.InprojIdeal.Array

open Cert.InprojIdeal Cert.InprojIdeal.Gen Idealize.ShloMosaic Idealize.ShloMosaic.TcCoe Idealize.SL.Sem

variable (m : (ℓ : Loc nD τ sig) → Buf (Elt Ideal) ℓ) (ρ : Dev nD → PrngReg)

theorem post_qa (r : PUnit × MemSt nD τ sig (Elt Ideal)) (h : Pipeline.FramePost cfgs (dats m) 0 (V m) r) (c : Dev nD) :
    r.2.mem ((c : Thread nD τ).loc main_v64_0) = QA m c :=
  ((h c).1 14).trans (final_qa m c)

theorem post_ia (r : PUnit × MemSt nD τ sig (Elt Ideal)) (h : Pipeline.FramePost cfgs (dats m) 0 (V m) r) (c : Dev nD) :
    r.2.mem ((c : Thread nD τ).loc main_v64_3) = IA m c :=
  ((h c).1 17).trans (final_ia m c)

theorem post_ga (r : PUnit × MemSt nD τ sig (Elt Ideal)) (h : Pipeline.FramePost cfgs (dats m) 0 (V m) r) (c : Dev nD) :
    r.2.mem ((c : Thread nD τ).loc main_v64_4) = GA m c :=
  ((h c).1 18).trans (final_ga m c)

theorem post_qb (r : PUnit × MemSt nD τ sig (Elt Ideal)) (h : Pipeline.FramePost cfgs (dats m) 0 (V m) r) (c : Dev nD) :
    r.2.mem ((c : Thread nD τ).loc main_v64_5) = QB m c :=
  ((h c).1 19).trans (final_qb m c)

theorem post_kb (r : PUnit × MemSt nD τ sig (Elt Ideal)) (h : Pipeline.FramePost cfgs (dats m) 0 (V m) r) (c : Dev nD) :
    r.2.mem ((c : Thread nD τ).loc main_v64_6) = KB m c :=
  ((h c).1 20).trans (final_kb m c)

theorem post_vb (r : PUnit × MemSt nD τ sig (Elt Ideal)) (h : Pipeline.FramePost cfgs (dats m) 0 (V m) r) (c : Dev nD) :
    r.2.mem ((c : Thread nD τ).loc main_v64_7) = VB m c :=
  ((h c).1 21).trans (final_vb m c)

theorem post_lf (r : PUnit × MemSt nD τ sig (Elt Ideal)) (h : Pipeline.FramePost cfgs (dats m) 0 (V m) r) (c : Dev nD) :
    r.2.mem ((c : Thread nD τ).loc main_v64_8) = LF m c :=
  ((h c).1 22).trans (final_lf m c)

theorem kept_0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

theorem kept_4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_6 (r : PUnit × MemSt nD τ sig (Elt Ideal)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_7 (r : PUnit × MemSt nD τ sig (Elt Ideal)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_8 (r : PUnit × MemSt nD τ sig (Elt Ideal)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

set_option maxHeartbeats 1000000 in
/-- The run, with the seven arrays' values and every argument kept. -/
theorem run_arrays : θ_run defs (onTc (τ := τ) (main (F := Ideal))) ⟨m, fun _ => 0, ρ⟩ fun r => ∀ c : Dev nD,
    r.2.mem ((c : Thread nD τ).loc main_v64_0) = QA m c
    ∧ r.2.mem ((c : Thread nD τ).loc main_v64_3) = IA m c
    ∧ r.2.mem ((c : Thread nD τ).loc main_v64_4) = GA m c
    ∧ r.2.mem ((c : Thread nD τ).loc main_v64_5) = QB m c
    ∧ r.2.mem ((c : Thread nD τ).loc main_v64_6) = KB m c
    ∧ r.2.mem ((c : Thread nD τ).loc main_v64_7) = VB m c
    ∧ r.2.mem ((c : Thread nD τ).loc main_v64_8) = LF m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8) :=
  (θ_run defs _ _).mono (fun r h c =>
    ⟨post_qa m r h c,
      post_ia m r h c,
      post_ga m r h c,
      post_qb m r h c,
      post_kb m r h c,
      post_vb m r h c,
      post_lf m r h c,
      kept_0 m r h c,
      kept_1 m r h c,
      kept_2 m r h c,
      kept_3 m r h c,
      kept_4 m r h c,
      kept_5 m r h c,
      kept_6 m r h c,
      kept_7 m r h c,
      kept_8 m r h c⟩)
    (run_main m ρ)

end Cert.InprojIdeal.Array

end
-- ==== Proof.InprojRefValue.lean ====
/- The plain input projection at an index: the normalized token against a column of the weights, and its activations. -/
module

public import proofs.«01_k».proof.Proof.Gen.InprojRefIdeal.Read
public import proofs.«01_k».proof.Proof.InprojMath

@[expose] public section

set_option maxRecDepth 16384

noncomputable section

namespace Cert.InprojRefIdeal.RefValue

open Cert.InprojRefIdeal Cert.InprojRefIdeal.Read Idealize.ShloMosaic Idealize.ShloMosaic.TcCoe Idealize.SL.Sem
open Cert.MoeMath Cert.InprojMath

variable (x0 : FVec Ideal S8x4096x1024 .f32) (x1 : FVec Ideal S1024 .f32) (x2 : FVec Ideal S1024x3080 .f32) (x4 : FVec Ideal S8 .f32)

/-- Token `(b, p)`, normalized, against column `j` of the weights. -/
abbrev Y (b : Fin 8) (p : Fin 4096) (j : Fin 3080) : EReal :=
  proj (fun k => x0 (ix3 b p k)) (fun d => x1 (ix1 d)) (fun d => x2 (ix2 d j))

theorem h_read (b : Fin 8) (p : Fin 4096) (d : Fin 1024) :
    val_main_v12 (F := Ideal) x0 x1 (ix3 b p d) = norm (fun k : Fin 1024 => x0 (ix3 b p k)) (x1 (ix1 d)) d := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  rfl

theorem y_read (b : Fin 8) (p : Fin 4096) (j : Fin 3080) : val_main_v13 (F := Ideal) x0 x1 x2 (ix3 b p j) = Y x0 x1 x2 b p j := by
  refine (val_main_v13_apply x0 x1 x2 _).trans (Finset.sum_congr rfl fun d _ => ?_)
  refine congrArg₂ (· * ·) ((congrArg _ ?_).trans (h_read x0 x1 b p d)) (congrArg _ ?_)
  · ext a; fin_cases a <;> rfl
  · ext a; fin_cases a <;> rfl

/-- The sequence a token lies in, and its place there. -/
abbrev seq (r : Fin 32768) : Fin 8 := ⟨r.val / 4096, by omega⟩
abbrev pos (r : Fin 32768) : Fin 4096 := ⟨r.val % 4096, Nat.mod_lt _ (by decide)⟩

theorem qa (r : Fin 32768) (j : Fin 256) :
    val_main_v22 (F := Ideal) x0 x1 x2 (ix2 r j) = silu (Y x0 x1 x2 (seq r) (pos r) ⟨j.val, by omega⟩) := by
  pointwise [val_main_v22, val_main_v21, val_main_call0_v5, val_main_call0_v4, val_main_call0_v3, val_main_call0_v2, val_main_call0_v1, val_main_call0_v0, val_main_call0_cst, val_main_call0_cst_0, val_main_v14]
  exact congrArg silu (y_read x0 x1 x2 _ _ _)

theorem ia (r : Fin 32768) (j : Fin 256) :
    val_main_v23 (F := Ideal) x0 x1 x2 (ix2 r j) = Y x0 x1 x2 (seq r) (pos r) ⟨512 + j.val, by omega⟩ := by
  pointwise [val_main_v23, val_main_v15]
  exact y_read x0 x1 x2 _ _ _

theorem ga (r : Fin 32768) (j : Fin 256) :
    val_main_v25 (F := Ideal) x0 x1 x2 (ix2 r j) = silu (Y x0 x1 x2 (seq r) (pos r) ⟨768 + j.val, by omega⟩) := by
  pointwise [val_main_v25, val_main_v24, val_main_call1_v5, val_main_call1_v4, val_main_call1_v3, val_main_call1_v2, val_main_call1_v1, val_main_call1_v0, val_main_call1_cst, val_main_call1_cst_0, val_main_v16]
  exact congrArg silu (y_read x0 x1 x2 _ _ _)

theorem qb (r : Fin 32768) (j : Fin 512) :
    val_main_v28 (F := Ideal) x0 x1 x2 (ix2 r j) = Y x0 x1 x2 (seq r) (pos r) ⟨1024 + j.val, by omega⟩ * Ideal.ofBits .f32 0x3E000000#32 := by
  pointwise [val_main_v28, val_main_v27, val_main_v26, val_main_cst_2, val_main_v17]
  exact congrArg (· * _) (y_read x0 x1 x2 _ _ _)

theorem kb (b : Fin 8) (j : Fin 512) (p : Fin 4096) :
    val_main_v30 (F := Ideal) x0 x1 x2 (ix4 0 b j p) = Y x0 x1 x2 b p ⟨1536 + j.val, by omega⟩ := by
  pointwise [val_main_v30, val_main_v29, val_main_v18]
  exact y_read x0 x1 x2 _ _ _

theorem vb (b : Fin 8) (j : Fin 512) (p : Fin 4096) :
    val_main_v32 (F := Ideal) x0 x1 x2 (ix4 0 b j p) = Y x0 x1 x2 b p ⟨2048 + j.val, by omega⟩ := by
  pointwise [val_main_v32, val_main_v31, val_main_v19]
  exact y_read x0 x1 x2 _ _ _

theorem lf (r : Fin 32768) (j : Fin 8) :
    val_main_v37 (F := Ideal) x0 x1 x2 x4 (ix2 r j) = lsig (Y x0 x1 x2 (seq r) (pos r) ⟨2560 + j.val, by omega⟩ + x4 (ix1 j)) := by
  pointwise [val_main_v37, val_main_v36, val_main_v35, val_main_v34, val_main_v33, val_main_call2_v1, val_main_call2_v0, val_main_call2_call0_v11,
    val_main_call2_call0_v10, val_main_call2_call0_v9, val_main_call2_call0_v8, val_main_call2_call0_v7, val_main_call2_call0_v6,
    val_main_call2_call0_v5, val_main_call2_call0_v4, val_main_call2_call0_v3, val_main_call2_call0_v2, val_main_call2_call0_v1,
    val_main_call2_call0_v0, val_main_call2_call0_cst, val_main_v20]
  rw [if_neg (fun h => h rfl), y_read]
  exact lsig_softplus _

end Cert.InprojRefIdeal.RefValue

end
-- ==== Proof.InprojClaim.lean ====
/- The input projection and the plain projection, over the extended reals, leave equal results: the recurrence's query, value and
   gate, the attention's query, keys, values and logarithms of the forget gate. -/
module

public import proofs.«01_k».proof.Defs
public import proofs.«01_k».proof.Proof.InprojRun
public import proofs.«01_k».proof.Proof.InprojRefValue
public import proofs.«01_k».proof.Proof.Gen.InprojRefIdeal.Run
public import Idealize.ShloMosaic.Lib.Claim

@[expose] public section

set_option maxRecDepth 16384

noncomputable section

namespace Cert.InprojClaim

open Idealize.ShloMosaic Idealize.ShloMosaic.TcCoe Idealize.SL.Sem
open Cert.InprojIdeal.Array

variable (m : (ℓ : Loc Cert.InprojIdeal.nD Cert.InprojIdeal.τ Cert.InprojIdeal.sig) → Buf (Elt Ideal) ℓ) (c : Dev Cert.InprojIdeal.nD)

/-! Each of the reference's results is the kernel's array. -/

theorem ref_qa : Cert.InprojRefIdeal.Read.val_main_v22 (F := Ideal) (X0 m c) (X1 m c) (X2 m c) = QA m c :=
  funext fun i => (congrArg _ (eq_ix2 i)).trans (Cert.InprojRefIdeal.RefValue.qa (X0 m c) (X1 m c) (X2 m c) (i 0) (i 1))

theorem ref_ia : Cert.InprojRefIdeal.Read.val_main_v23 (F := Ideal) (X0 m c) (X1 m c) (X2 m c) = IA m c :=
  funext fun i => (congrArg _ (eq_ix2 i)).trans (Cert.InprojRefIdeal.RefValue.ia (X0 m c) (X1 m c) (X2 m c) (i 0) (i 1))

theorem ref_ga : Cert.InprojRefIdeal.Read.val_main_v25 (F := Ideal) (X0 m c) (X1 m c) (X2 m c) = GA m c :=
  funext fun i => (congrArg _ (eq_ix2 i)).trans (Cert.InprojRefIdeal.RefValue.ga (X0 m c) (X1 m c) (X2 m c) (i 0) (i 1))

theorem ref_qb : Cert.InprojRefIdeal.Read.val_main_v28 (F := Ideal) (X0 m c) (X1 m c) (X2 m c) = QB m c :=
  funext fun i => (congrArg _ (eq_ix2 i)).trans (Cert.InprojRefIdeal.RefValue.qb (X0 m c) (X1 m c) (X2 m c) (i 0) (i 1))

theorem eq_at (i : Cert.InprojIdeal.S1x8x512x4096.Idx) : i = ix4 0 (i 1) (i 2) (i 3) := by
  refine (eq_ix4 i).trans ?_
  exact congrArg (fun a : Fin 1 => (ix4 a (i 1) (i 2) (i 3) : Cert.InprojIdeal.S1x8x512x4096.Idx)) (Subsingleton.elim (α := Fin 1) _ _)

/-- The row of a token found from its sequence and its place is that sequence's row. -/
theorem Y_at (b : Fin 8) (p : Fin 4096) (j : Fin 3080) :
    Cert.InprojRefIdeal.RefValue.Y (X0 m c) (X1 m c) (X2 m c) b p j = Y m c (at' b p) j := by
  have hb : seq (at' b p) = b := Fin.ext (by show (b.val * 4096 + p.val) / 4096 = b.val; omega)
  have hp : pos (at' b p) = p := Fin.ext (by show (b.val * 4096 + p.val) % 4096 = p.val; omega)
  unfold Y
  rw [hb, hp]

theorem ref_kb : Cert.InprojRefIdeal.Read.val_main_v30 (F := Ideal) (X0 m c) (X1 m c) (X2 m c) = KB m c :=
  funext fun i => (congrArg _ (eq_at i)).trans ((Cert.InprojRefIdeal.RefValue.kb (X0 m c) (X1 m c) (X2 m c) (i 1) (i 2) (i 3)).trans (Y_at m c _ _ _))

theorem ref_vb : Cert.InprojRefIdeal.Read.val_main_v32 (F := Ideal) (X0 m c) (X1 m c) (X2 m c) = VB m c :=
  funext fun i => (congrArg _ (eq_at i)).trans ((Cert.InprojRefIdeal.RefValue.vb (X0 m c) (X1 m c) (X2 m c) (i 1) (i 2) (i 3)).trans (Y_at m c _ _ _))

theorem ref_lf : Cert.InprojRefIdeal.Read.val_main_v37 (F := Ideal) (X0 m c) (X1 m c) (X2 m c) (X4 m c) = LF m c :=
  funext fun i => (congrArg _ (eq_ix2 i)).trans (Cert.InprojRefIdeal.RefValue.lf (X0 m c) (X1 m c) (X2 m c) (X4 m c) (i 0) (i 1))

/-- Both programs run, and their results are equal. -/
theorem algebraic : Cert.algebraic_InprojIdeal_InprojRefIdeal := by
  pair_intro
  · run_from Cert.InprojIdeal.Array.run_arrays m g
  · run_from Cert.InprojRefIdeal.Value.run m' g'
    all_goals obtain ⟨h0, h1, h2, h3, h4, h5, h6, h7, h8⟩ := hagree c
    · rw [Cert.InprojRefIdeal.Read.val_main_v22_eq]
      try rw [h0]
      try rw [h1]
      try rw [h2]
      exact (ref_qa m c)
    · rw [Cert.InprojRefIdeal.Read.val_main_v23_eq]
      try rw [h0]
      try rw [h1]
      try rw [h2]
      exact (ref_ia m c)
    · rw [Cert.InprojRefIdeal.Read.val_main_v25_eq]
      try rw [h0]
      try rw [h1]
      try rw [h2]
      exact (ref_ga m c)
    · rw [Cert.InprojRefIdeal.Read.val_main_v28_eq]
      try rw [h0]
      try rw [h1]
      try rw [h2]
      exact (ref_qb m c)
    · rw [Cert.InprojRefIdeal.Read.val_main_v30_eq]
      try rw [h0]
      try rw [h1]
      try rw [h2]
      exact (ref_kb m c)
    · rw [Cert.InprojRefIdeal.Read.val_main_v32_eq]
      try rw [h0]
      try rw [h1]
      try rw [h2]
      exact (ref_vb m c)
    · rw [Cert.InprojRefIdeal.Read.val_main_v37_eq]
      try rw [h0]
      try rw [h1]
      try rw [h2]
      try rw [h4]
      exact (ref_lf m c)

end Cert.InprojClaim

end
-- ==== Proof.OutprojMath.lean ====
/- A token's row of the three mixers' outputs, side by side, against a column of the output projection: one sum over the
   thousand and twenty-four, or three sums over the mixers' own widths. -/
module

public import proofs.«01_k».proof.Proof.MoeMath
public import Idealize.ShloMosaic.Lib.Pointwise

@[expose] public section

set_option maxRecDepth 16384

noncomputable section

namespace Cert.OutprojMath

open Idealize.ShloMosaic Idealize.SL.Sem

/-- The three mixers' outputs against their own rows of the projection's column. -/
def mix (a : Fin 256 → EReal) (b : Fin 512 → EReal) (c : Fin 256 → EReal) (w : Fin 1024 → EReal) : EReal :=
  ((∑ k : Fin 256, a k * w ⟨k.val, by omega⟩) + ∑ k : Fin 512, b k * w ⟨256 + k.val, by omega⟩) + ∑ k : Fin 256, c k * w ⟨768 + k.val, by omega⟩

theorem mix_congr {a a' : Fin 256 → EReal} {b b' : Fin 512 → EReal} {c c' : Fin 256 → EReal} {w w' : Fin 1024 → EReal}
    (e0 : ∀ k, a k = a' k) (e1 : ∀ k, b k = b' k) (e2 : ∀ k, c k = c' k) (e3 : ∀ k, w k = w' k) : mix a b c w = mix a' b' c' w' := by
  rw [funext e0, funext e1, funext e2, funext e3]

/-- A sum over all the columns, as the sums over the three mixers' columns. -/
theorem sum_three (f : Fin 1024 → EReal) :
    ∑ k : Fin 1024, f k = ((∑ k : Fin 256, f ⟨k.val, by omega⟩) + ∑ k : Fin 512, f ⟨256 + k.val, by omega⟩) + ∑ k : Fin 256, f ⟨768 + k.val, by omega⟩ :=
  (Fin.sum_univ_add (a := 768) (b := 256) f).trans
    (congrArg (· + ∑ k : Fin 256, f ⟨768 + k.val, by omega⟩) (Fin.sum_univ_add (a := 256) (b := 512) fun k : Fin 768 => f ⟨k.val, by omega⟩))

/-- A row whose three stretches are the mixers' outputs, against a column. -/
theorem sum_mix (f : Fin 1024 → EReal) (a : Fin 256 → EReal) (b : Fin 512 → EReal) (c : Fin 256 → EReal) (w : Fin 1024 → EReal)
    (e0 : ∀ k : Fin 256, f ⟨k.val, by omega⟩ = a k) (e1 : ∀ k : Fin 512, f ⟨256 + k.val, by omega⟩ = b k)
    (e2 : ∀ k : Fin 256, f ⟨768 + k.val, by omega⟩ = c k) : ∑ k : Fin 1024, f k * w k = mix a b c w := by
  rw [sum_three fun k => f k * w k]
  unfold mix
  refine congrArg₂ (· + ·) (congrArg₂ (· + ·) ?_ ?_) ?_
  · exact Finset.sum_congr rfl fun k _ => congrArg (· * _) (e0 k)
  · exact Finset.sum_congr rfl fun k _ => congrArg (· * _) (e1 k)
  · exact Finset.sum_congr rfl fun k _ => congrArg (· * _) (e2 k)

end Cert.OutprojMath

end
-- ==== Proof.OutprojBlock.lean ====
/- What a tile of the output projection computes from its blocks: the residual and the three products, and the row's
   normalization. -/
module

public import proofs.«01_k».proof.Proof.Gen.OutprojIdeal.Skeleton
public import proofs.«01_k».proof.Proof.OutprojMath
public import Idealize.ShloMosaic.Lib.Pointwise

@[expose] public section

set_option maxRecDepth 16384

noncomputable section

namespace Cert.OutprojIdeal.Block

open Cert.OutprojIdeal Cert.OutprojIdeal.Gen Cert.OutprojMath Cert.MoeMath Idealize.ShloMosaic Idealize.ShloMosaic.TcCoe Idealize.SL.Sem

theorem pay2 (v0 : Vec Ideal S512x256 .bf16) (v1 : Vec Ideal S256x1024 .bf16) (v4 : Vec Ideal S512x512 .bf16) (v5 : Vec Ideal S512x1024 .bf16)
    (v9 : Vec Ideal S512x256 .bf16) (v10 : Vec Ideal S256x1024 .bf16) (v14 : Vec Ideal S512x1024 .f32) (r : Fin 512) (j : Fin 1024) :
    k0_pay2 (F := Ideal) v0 v1 v4 v5 v9 v10 v14 (ix2 r j) = v14 (ix2 r j)
      + (((∑ k : Fin 256, v0 (ix2 r k) * v1 (ix2 k j)) + ∑ k : Fin 512, v4 (ix2 r k) * v5 (ix2 k j)) + ∑ k : Fin 256, v9 (ix2 r k) * v10 (ix2 k j)) := by
  pointwise [k0_pay2]

theorem pay4 (v0 : Vec Ideal S512x256 .bf16) (v1 : Vec Ideal S256x1024 .bf16) (v4 : Vec Ideal S512x512 .bf16) (v5 : Vec Ideal S512x1024 .bf16)
    (v9 : Vec Ideal S512x256 .bf16) (v10 : Vec Ideal S256x1024 .bf16) (v14 : Vec Ideal S512x1024 .f32) (v17 : Vec Ideal S1x1024 .f32) (r : Fin 512) (j : Fin 1024) :
    k0_pay4 (F := Ideal) v0 v1 v4 v5 v9 v10 v14 v17 (ix2 r j)
      = norm (fun k : Fin 1024 => k0_pay2 (F := Ideal) v0 v1 v4 v5 v9 v10 v14 (ix2 r k)) (v17 (ix2 0 j)) j := by
  pointwise [k0_pay4, k0_pay3]
  rfl

end Cert.OutprojIdeal.Block

end
-- ==== Proof.OutprojFinal.lean ====
/- What the output projection leaves in two of its result arrays: the residual rows with the mixers' projection added, and
   those rows normalized. -/
module

public import proofs.«01_k».proof.Proof.Gen.OutprojIdeal.Value
public import proofs.«01_k».proof.Proof.OutprojBlock
public import Idealize.ShloMosaic.Lib.Pointwise
public import Idealize.ShloMosaic.Lib.Pipeline.ValueKit
public import Idealize.ShloMosaic.Lib.StableHlo.ReadAt

@[expose] public section

set_option maxRecDepth 16384

noncomputable section

namespace Cert.OutprojIdeal.Array

open Idealize.ShloMosaic Idealize.ShloMosaic.TcCoe Idealize.SL.Sem Idealize.ShloMosaic.Pipeline
open Cert.OutprojIdeal Cert.OutprojIdeal.Gen Cert.OutprojIdeal.Value Cert.OutprojIdeal.Block Cert.OutprojMath Cert.MoeMath

variable (m : (ℓ : Loc nD τ sig) → Buf (Elt Ideal) ℓ)

/-- The windows' block indices at every point of the grid. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![0, 0]
    ∧ win0_5.index t = ![0, 0]
    ∧ win0_8.index t = ![t.val, 0]
    ∧ win0_9.index t = ![t.val, 0] :=
  (by decide +kernel : ∀ t : Fin grid0.N, _)

/-- The arguments, at their literal types. -/
abbrev X0 (c : Dev nD) : FVec Ideal S32768x1024 .f32 := m ((c : Thread nD τ).loc main_arg0)
abbrev X1 (c : Dev nD) : FVec Ideal S32768x256 .bf16 := m ((c : Thread nD τ).loc main_arg1)
abbrev X2 (c : Dev nD) : FVec Ideal S32768x512 .bf16 := m ((c : Thread nD τ).loc main_arg2)
abbrev X3 (c : Dev nD) : FVec Ideal S32768x256 .bf16 := m ((c : Thread nD τ).loc main_arg3)
abbrev X4 (c : Dev nD) : FVec Ideal S1024x1024 .f32 := m ((c : Thread nD τ).loc main_arg4)
abbrev X5 (c : Dev nD) : FVec Ideal S1024 .f32 := m ((c : Thread nD τ).loc main_arg5)

theorem N_lt (t : Fin cfg0.N) : t.val < 64 := lt_of_lt_of_eq t.isLt N_0

/-- The token of the whole array that row `r` of point `t`'s block is. -/
abbrev tok (t : Fin cfg0.N) (r : Fin 512) : Fin 32768 := ⟨t.val * 512 + r.val, by have := N_lt t; omega⟩

/-- The operands the host builds. -/
abbrev W (c : Dev nD) : FVec Ideal S1024x1024 .bf16 := V m c main_v9
abbrev G (c : Dev nD) : FVec Ideal S1x1024 .f32 := V m c main_v10

theorem w_read (c : Dev nD) (k j : Fin 1024) : W m c (ix2 k j) = X4 m c (ix2 k j) := by
  unfold W V
  after_reads_at

theorem g_read (c : Dev nD) (d : Fin 1024) : G m c (ix2 0 d) = X5 m c (ix1 d) := by
  unfold G V
  after_reads_at

theorem x_blk (c : Dev nD) (t : Fin cfg0.N) (r : Fin 512) (d : Fin 1024) :
    (show FVec Ideal S512x1024 .f32 from iblk m c 0 t) (ix2 r d) = X0 m c (ix2 (tok t r) d) := by
  blk_point [iblk, idx_val t, V]

theorem a_blk (c : Dev nD) (t : Fin cfg0.N) (r : Fin 512) (d : Fin 256) :
    (show FVec Ideal S512x256 .bf16 from iblk m c 1 t) (ix2 r d) = X1 m c (ix2 (tok t r) d) := by
  blk_point [iblk, idx_val t, V]

theorem b_blk (c : Dev nD) (t : Fin cfg0.N) (r : Fin 512) (d : Fin 512) :
    (show FVec Ideal S512x512 .bf16 from iblk m c 2 t) (ix2 r d) = X2 m c (ix2 (tok t r) d) := by
  blk_point [iblk, idx_val t, V]

theorem c_blk (c : Dev nD) (t : Fin cfg0.N) (r : Fin 512) (d : Fin 256) :
    (show FVec Ideal S512x256 .bf16 from iblk m c 3 t) (ix2 r d) = X3 m c (ix2 (tok t r) d) := by
  blk_point [iblk, idx_val t, V]

theorem w_blk (c : Dev nD) (t : Fin cfg0.N) (k j : Fin 1024) :
    (show FVec Ideal S1024x1024 .bf16 from iblk m c 4 t) (ix2 k j) = W m c (ix2 k j) := by
  blk_point [iblk, idx_val t]

theorem g_blk (c : Dev nD) (t : Fin cfg0.N) (d : Fin 1024) :
    (show FVec Ideal S1x1024 .f32 from iblk m c 5 t) (ix2 0 d) = G m c (ix2 0 d) := by
  blk_point [iblk, idx_val t]

/-! The three stretches of the projection's rows that the tile reads. -/

theorem ld_a (w : Vec Ideal S1024x1024 .bf16) (k : Fin 256) (j : Fin 1024) : View.ld w r0_1 (ix2 k j) = w (ix2 ⟨k.val, by omega⟩ j) :=
  congrArg w (by
    ext a
    fin_cases a
    · show 0 + 1 * k.val = k.val; omega
    · show 0 + 1 * j.val = j.val; omega)

theorem ld_b (w : Vec Ideal S1024x1024 .bf16) (k : Fin 512) (j : Fin 1024) : View.ld w r0_3 (ix2 k j) = w (ix2 ⟨256 + k.val, by omega⟩ j) :=
  congrArg w (by
    ext a
    fin_cases a
    · show 256 + 1 * k.val = 256 + k.val; omega
    · show 0 + 1 * j.val = j.val; omega)

theorem ld_c (w : Vec Ideal S1024x1024 .bf16) (k : Fin 256) (j : Fin 1024) : View.ld w r0_4 (ix2 k j) = w (ix2 ⟨768 + k.val, by omega⟩ j) :=
  congrArg w (by
    ext a
    fin_cases a
    · show 768 + 1 * k.val = 768 + k.val; omega
    · show 0 + 1 * j.val = j.val; omega)

/-- Token `r`'s residual row with the mixers' projection added. -/
def R (c : Dev nD) (r : Fin 32768) (j : Fin 1024) : EReal :=
  X0 m c (ix2 r j) + mix (fun k => X1 m c (ix2 r k)) (fun k => X2 m c (ix2 r k)) (fun k => X3 m c (ix2 r k)) (fun k => X4 m c (ix2 k j))

/-- The two result arrays. -/
def XR (c : Dev nD) : FVec Ideal S32768x1024 .f32 := fun i => R m c (i 0) (i 1)
def HR (c : Dev nD) : FVec Ideal S32768x1024 .bf16 := fun i => norm (R m c (i 0)) (X5 m c (ix1 (i 1))) (i 1)

/-- The tile's rows are the array's. -/
theorem tile (c : Dev nD) (t : Fin cfg0.N) (r : Fin 512) (j : Fin 1024) :
    k0_pay2 (F := Ideal) (iblk m c 1 t) (View.ld (iblk m c 4 t) r0_1) (iblk m c 2 t) (View.ld (iblk m c 4 t) r0_3) (iblk m c 3 t) (View.ld (iblk m c 4 t) r0_4) (iblk m c 0 t) (ix2 r j)
      = R m c (tok t r) j := by
  refine (pay2 _ _ _ _ _ _ _ _ _).trans (congrArg₂ (· + ·) (x_blk m c t r j) (congrArg₂ (· + ·) (congrArg₂ (· + ·) ?_ ?_) ?_))
  · exact Finset.sum_congr rfl fun k _ => congrArg₂ (· * ·) (a_blk m c t r k) ((ld_a _ k j).trans ((w_blk m c t _ j).trans (w_read m c _ j)))
  · exact Finset.sum_congr rfl fun k _ => congrArg₂ (· * ·) (b_blk m c t r k) ((ld_b _ k j).trans ((w_blk m c t _ j).trans (w_read m c _ j)))
  · exact Finset.sum_congr rfl fun k _ => congrArg₂ (· * ·) (c_blk m c t r k) ((ld_c _ k j).trans ((w_blk m c t _ j).trans (w_read m c _ j)))

theorem final_x (c : Dev nD) : (dats m 0 c).arrAt 8 cfg0.N = XR m c := by
  refine (dats m 0 c).arrAt_eq_of_covers 8 _ (by decide +kernel) fun t hf y => ?_
  blk_simp
  rw [after0_8]
  frame_out
  rw [eq_ix2 y]
  refine (tile m c t _ _).trans (congrArg (XR m c) (?_ : ix2 (tok t (y 0)) (y 1) = _))
  blk_ext [idx_val t]

/-- The normalized tile, from its whole blocks. -/
theorem pay71 (x0 : Vec Ideal S512x1024 .f32) (x1 : Vec Ideal S512x256 .bf16) (x2 : Vec Ideal S512x512 .bf16) (x3 : Vec Ideal S512x256 .bf16)
    (x4 : Vec Ideal S1024x1024 .bf16) (x5 : Vec Ideal S1x1024 .f32) (x6 : Vec Ideal S32x1024 .f32) (x7 : Vec Ideal S32x1 .f32) :
    k0_pay71 (F := Ideal) x0 x1 x2 x3 x4 x5 x6 x7
      = k0_pay4 (F := Ideal) x1 (View.ld x4 r0_1) x2 (View.ld x4 r0_3) x3 (View.ld x4 r0_4) x0 x5 := by
  unfold k0_pay71
  rw [View.ld_unit_lit _ x0 (by decide), View.ld_unit_lit _ x1 (by decide), View.ld_unit_lit _ x2 (by decide), View.ld_unit_lit _ x3 (by decide),
    View.ld_unit_lit _ x5 (by decide)]

theorem h_tile (c : Dev nD) (t : Fin cfg0.N) (r : Fin 512) (j : Fin 1024) :
    k0_pay4 (F := Ideal) (iblk m c 1 t) (View.ld (iblk m c 4 t) r0_1) (iblk m c 2 t) (View.ld (iblk m c 4 t) r0_3) (iblk m c 3 t) (View.ld (iblk m c 4 t) r0_4) (iblk m c 0 t) (iblk m c 5 t) (ix2 r j)
      = norm (R m c (tok t r)) (X5 m c (ix1 j)) j := by
  refine (pay4 _ _ _ _ _ _ _ _ _ _).trans ?_
  rw [show (fun k : Fin 1024 => k0_pay2 (F := Ideal) (iblk m c 1 t) (View.ld (iblk m c 4 t) r0_1) (iblk m c 2 t) (View.ld (iblk m c 4 t) r0_3) (iblk m c 3 t) (View.ld (iblk m c 4 t) r0_4) (iblk m c 0 t) (ix2 r k)) = R m c (tok t r) from
    funext fun k => tile m c t r k]
  exact congrArg (fun g => norm (R m c (tok t r)) g j) ((g_blk m c t _).trans (g_read m c _))

theorem final_h (c : Dev nD) : (dats m 0 c).arrAt 9 cfg0.N = HR m c := by
  refine (dats m 0 c).arrAt_eq_of_covers 9 _ (by decide +kernel) fun t hf y => ?_
  blk_simp
  rw [after0_9]
  frame_out
  rw [pay71, eq_ix2 y]
  refine (h_tile m c t _ _).trans (congrArg (HR m c) (?_ : ix2 (tok t (y 0)) (y 1) = _))
  blk_ext [idx_val t]

end Cert.OutprojIdeal.Array

end
-- ==== Proof.OutprojRefValue.lean ====
/- The plain output projection at an index. -/
module

public import proofs.«01_k».proof.Proof.Gen.OutprojRefIdeal.Read
public import proofs.«01_k».proof.Proof.OutprojMath

@[expose] public section

set_option maxRecDepth 16384

noncomputable section

namespace Cert.OutprojRefIdeal.RefValue

open Cert.OutprojRefIdeal Cert.OutprojRefIdeal.Read Idealize.ShloMosaic Idealize.ShloMosaic.TcCoe Idealize.SL.Sem
open Cert.MoeMath Cert.OutprojMath

variable (x0 : FVec Ideal S32768x1024 .f32) (x1 : FVec Ideal S32768x256 .bf16) (x2 : FVec Ideal S32768x512 .bf16) (x3 : FVec Ideal S32768x256 .bf16)
  (x4 : FVec Ideal S1024x1024 .f32) (x5 : FVec Ideal S1024 .f32)

theorem at_eq {α : Type} {n N : ℕ} (f : (⟨2, ![n, N]⟩ : Shape).Idx → α) (r : Fin n) (a b : Fin N) (e : a.val = b.val) : f (ix2 r a) = f (ix2 r b) := by
  rw [Fin.ext e]

theorem cat_a (r : Fin 32768) (k : Fin 256) : val_main_v1 (F := Ideal) x1 x2 x3 (ix2 r ⟨k.val, by omega⟩) = x1 (ix2 r k) := by
  pointwise [val_main_v1, val_main_v0]

theorem cat_b (r : Fin 32768) (k : Fin 512) : val_main_v1 (F := Ideal) x1 x2 x3 (ix2 r ⟨256 + k.val, by omega⟩) = x2 (ix2 r k) := by
  pointwise [val_main_v1, val_main_v0]

theorem cat_c (r : Fin 32768) (k : Fin 256) : val_main_v1 (F := Ideal) x1 x2 x3 (ix2 r ⟨768 + k.val, by omega⟩) = x3 (ix2 r k) := by
  pointwise [val_main_v1, val_main_v0]
  rw [dif_neg (by omega), dif_neg (by omega)]
  exact at_eq x3 r _ _ (by show 768 + k.val - 256 - 512 = k.val; omega)

/-- The residual row with the projection added. -/
abbrev row (r : Fin 32768) (j : Fin 1024) : EReal :=
  x0 (ix2 r j) + mix (fun k => x1 (ix2 r k)) (fun k => x2 (ix2 r k)) (fun k => x3 (ix2 r k)) (fun k => x4 (ix2 k j))

theorem xr (r : Fin 32768) (j : Fin 1024) : val_main_v3 (F := Ideal) x0 x1 x2 x3 x4 (ix2 r j) = row x0 x1 x2 x3 x4 r j := by
  rw [val_main_v3_apply]
  refine congrArg (fun v : EReal => x0 (ix2 r j) + v) ?_
  refine (val_main_v2_apply x1 x2 x3 x4 (ix2 r j)).trans ?_
  refine Eq.trans ?_ (sum_mix (fun k => val_main_v1 (F := Ideal) x1 x2 x3 (ix2 r k)) _ _ _ _ (cat_a x1 x2 x3 r) (cat_b x1 x2 x3 r) (cat_c x1 x2 x3 r))
  refine Finset.sum_congr rfl fun d _ => congrArg₂ (· * ·) (congrArg _ ?_) (congrArg _ ?_)
  · ext a; fin_cases a <;> rfl
  · ext a; fin_cases a <;> rfl

theorem hr (r : Fin 32768) (j : Fin 1024) :
    val_main_v17 (F := Ideal) x0 x1 x2 x3 x4 x5 (ix2 r j) = norm (row x0 x1 x2 x3 x4 r) (x5 (ix1 j)) j := by
  refine Eq.trans ?_ (congrArg (fun v => norm v (x5 (ix1 j)) j) (funext fun k => xr x0 x1 x2 x3 x4 r k))
  pointwise [val_main_v17, val_main_v16, val_main_v15, val_main_v14, val_main_v13, val_main_v12, val_main_v11, val_main_v10, val_main_v9,
    val_main_v8, val_main_v7, val_main_v6, val_main_v5, val_main_v4, val_main_cst, val_main_cst_0, val_main_cst_1]
  rfl

end Cert.OutprojRefIdeal.RefValue

end
-- ==== Proof.OutprojClaim.lean ====
/- The output projection and the plain one, over the extended reals, leave equal results. -/
module

public import proofs.«01_k».proof.Defs
public import proofs.«01_k».proof.Proof.OutprojFinal
public import proofs.«01_k».proof.Proof.OutprojRefValue
public import proofs.«01_k».proof.Proof.Gen.OutprojRefIdeal.Run
public import Idealize.ShloMosaic.Lib.Claim

@[expose] public section

set_option maxRecDepth 16384

noncomputable section

namespace Cert.OutprojClaim

open Idealize.ShloMosaic Idealize.ShloMosaic.TcCoe Idealize.SL.Sem
open Cert.OutprojIdeal.Array

variable (m : (ℓ : Loc Cert.OutprojIdeal.nD Cert.OutprojIdeal.τ Cert.OutprojIdeal.sig) → Buf (Elt Ideal) ℓ) (c : Dev Cert.OutprojIdeal.nD)

theorem ref_x : Cert.OutprojRefIdeal.Read.val_main_v3 (F := Ideal) (X0 m c) (X1 m c) (X2 m c) (X3 m c) (X4 m c) = XR m c :=
  funext fun i => (congrArg _ (eq_ix2 i)).trans (Cert.OutprojRefIdeal.RefValue.xr (X0 m c) (X1 m c) (X2 m c) (X3 m c) (X4 m c) (i 0) (i 1))

theorem ref_h : Cert.OutprojRefIdeal.Read.val_main_v17 (F := Ideal) (X0 m c) (X1 m c) (X2 m c) (X3 m c) (X4 m c) (X5 m c) = HR m c :=
  funext fun i => (congrArg _ (eq_ix2 i)).trans (Cert.OutprojRefIdeal.RefValue.hr (X0 m c) (X1 m c) (X2 m c) (X3 m c) (X4 m c) (X5 m c) (i 0) (i 1))

/-- Both programs run, and their results are equal. -/
theorem algebraic : Cert.algebraic_OutprojIdeal_OutprojRefIdeal := by
  pair_intro
  · run_from Cert.OutprojIdeal.Value.run_blocks m g
  · run_from Cert.OutprojRefIdeal.Value.run m' g'
    all_goals obtain ⟨h0, h1, h2, h3, h4, h5, h6, h7, h8, h9⟩ := hagree c
    · rw [Cert.OutprojRefIdeal.Read.val_main_v3_eq]
      try rw [h0]
      try rw [h1]
      try rw [h2]
      try rw [h3]
      try rw [h4]
      exact (ref_x m c).trans (final_x m c).symm
    · rw [Cert.OutprojRefIdeal.Read.val_main_v17_eq]
      try rw [h0]
      try rw [h1]
      try rw [h2]
      try rw [h3]
      try rw [h4]
      try rw [h5]
      exact (ref_h m c).trans (final_h m c).symm

end Cert.OutprojClaim

end
-- ==== Proof.lean ====
module

public import proofs.«01_k».proof.Defs
public import proofs.«01_k».proof.Proof.Gen.Fox
public import proofs.«01_k».proof.Proof.Gen.Fox.Skeleton
public import proofs.«01_k».proof.Proof.Gen.Fox.Loops
public import proofs.«01_k».proof.Proof.Gen.Fox.Launch
public import proofs.«01_k».proof.Proof.Gen.Fox.Points
public import proofs.«01_k».proof.Proof.Gen.Fox.Frame
public import proofs.«01_k».proof.Proof.Gen.FoxIdeal
public import proofs.«01_k».proof.Proof.Gen.FoxIdeal.Skeleton
public import proofs.«01_k».proof.Proof.Gen.FoxIdeal.Loops
public import proofs.«01_k».proof.Proof.Gen.FoxIdeal.Launch
public import proofs.«01_k».proof.Proof.Gen.FoxIdeal.Points
public import proofs.«01_k».proof.Proof.Gen.FoxIdeal.Frame
public import proofs.«01_k».proof.Proof.Gen.FoxRefIdeal
public import proofs.«01_k».proof.Proof.Gen.Moe
public import proofs.«01_k».proof.Proof.Gen.Moe.Skeleton
public import proofs.«01_k».proof.Proof.Gen.Moe.Launch
public import proofs.«01_k».proof.Proof.Gen.Moe.Points
public import proofs.«01_k».proof.Proof.Gen.Moe.Frame
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Points
public import proofs.«01_k».proof.Proof.Gen.MoeIdeal.Frame
public import proofs.«01_k».proof.Proof.Gen.MoeRefIdeal
public import proofs.«01_k».proof.Proof.Gen.MoeFirst
public import proofs.«01_k».proof.Proof.Gen.MoeFirst.Skeleton
public import proofs.«01_k».proof.Proof.Gen.MoeFirst.Launch
public import proofs.«01_k».proof.Proof.Gen.MoeFirst.Points
public import proofs.«01_k».proof.Proof.Gen.MoeFirst.Frame
public import proofs.«01_k».proof.Proof.Gen.MoeFirstIdeal
public import proofs.«01_k».proof.Proof.Gen.MoeFirstIdeal.Skeleton
public import proofs.«01_k».proof.Proof.Gen.MoeFirstIdeal.Launch
public import proofs.«01_k».proof.Proof.Gen.MoeFirstIdeal.Points
public import proofs.«01_k».proof.Proof.Gen.MoeFirstIdeal.Frame
public import proofs.«01_k».proof.Proof.Gen.MoeFirstRefIdeal
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.Outproj
public import proofs.«01_k».proof.Proof.Gen.Outproj.Skeleton
public import proofs.«01_k».proof.Proof.Gen.Outproj.Launch
public import proofs.«01_k».proof.Proof.Gen.Outproj.Points
public import proofs.«01_k».proof.Proof.Gen.Outproj.Frame
public import proofs.«01_k».proof.Proof.Gen.OutprojIdeal
public import proofs.«01_k».proof.Proof.Gen.OutprojIdeal.Skeleton
public import proofs.«01_k».proof.Proof.Gen.OutprojIdeal.Launch
public import proofs.«01_k».proof.Proof.Gen.OutprojIdeal.Points
public import proofs.«01_k».proof.Proof.Gen.OutprojIdeal.Frame
public import proofs.«01_k».proof.Proof.Gen.OutprojRefIdeal
public import proofs.«01_k».proof.Proof.Gen.FoxIdeal.Value
public import proofs.«01_k».proof.Proof.Gen.MoeIdeal.Value
public import proofs.«01_k».proof.Proof.Gen.FoxRefIdeal.Run
public import proofs.«01_k».proof.Proof.Gen.MoeRefIdeal.Run
public import proofs.«01_k».proof.Proof.Gen.MoeFirstIdeal.Value
public import proofs.«01_k».proof.Proof.Gen.MoeFirstRefIdeal.Run
public import proofs.«01_k».proof.Proof.Gen.InprojRefIdeal.Run
public import proofs.«01_k».proof.Proof.Gen.InprojRefIdeal.Read
public import proofs.«01_k».proof.Proof.Gen.OutprojIdeal.Value
public import proofs.«01_k».proof.Proof.Gen.OutprojRefIdeal.Run
public import proofs.«01_k».proof.Proof.Gen.OutprojRefIdeal.Read
public import proofs.«01_k».proof.Proof.FoxClaim
public import proofs.«01_k».proof.Proof.MoeClaim
public import proofs.«01_k».proof.Proof.MoeFirstClaim
public import proofs.«01_k».proof.Proof.InprojClaim
public import proofs.«01_k».proof.Proof.OutprojClaim
public import Idealize.ShloMosaic.Lib.Quiescent
public import Idealize.ShloMosaic.Adequacy
public import Idealize.ShloMosaic.Init

@[expose] public section

noncomputable section

namespace Cert.Proof

open Idealize.ShloMosaic Idealize.SL.Sem Cert.Fox

theorem claim : Cert.Claim := ⟨Cert.Fox.Gen.facts, Cert.FoxIdeal.Gen.facts, Cert.FoxRefIdeal.Gen.facts, Cert.Moe.Gen.facts, Cert.MoeIdeal.Gen.facts, Cert.MoeRefIdeal.Gen.facts, Cert.MoeFirst.Gen.facts, Cert.MoeFirstIdeal.Gen.facts, Cert.MoeFirstRefIdeal.Gen.facts, Cert.Inproj.Gen.facts, Cert.InprojIdeal.Gen.facts, Cert.InprojRefIdeal.Gen.facts, Cert.Outproj.Gen.facts, Cert.OutprojIdeal.Gen.facts, Cert.OutprojRefIdeal.Gen.facts, Cert.FoxClaim.facts,
  fun m ρ _ => Cert.Fox.Gen.frame m ρ,
  fun m ρ _ => Cert.FoxIdeal.Gen.frame m ρ,
  fun m ρ _ => Cert.FoxIdeal.Gen.frame m ρ,
  by
    intro m g _
    run_from Cert.FoxRefIdeal.Value.run m g
    · exact fun _ => by simp only [and_self]
    · exact sem_eq_zero_of_no_sems rfl _,
  by
    intro m g _
    run_from Cert.FoxRefIdeal.Value.run m g
    · exact fun _ => by simp only [and_self]
    · exact sem_eq_zero_of_no_sems rfl _,
  fun m ρ _ => Cert.Moe.Gen.frame m ρ,
  fun m ρ _ => Cert.MoeIdeal.Gen.frame m ρ,
  by
    intro m g _
    run_from Cert.MoeRefIdeal.Value.run m g
    · exact fun _ => by simp only [and_self]
    · exact sem_eq_zero_of_no_sems rfl _,
  fun m ρ _ => Cert.MoeFirst.Gen.frame m ρ,
  fun m ρ _ => Cert.MoeFirstIdeal.Gen.frame m ρ,
  by
    intro m g _
    run_from Cert.MoeFirstRefIdeal.Value.run m g
    · exact fun _ => by simp only [and_self]
    · exact sem_eq_zero_of_no_sems rfl _,
  fun m ρ _ => Cert.Inproj.Gen.frame m ρ,
  fun m ρ _ => Cert.InprojIdeal.Gen.frame m ρ,
  by
    intro m g _
    run_from Cert.InprojRefIdeal.Value.run m g
    · exact fun _ => by simp only [and_self]
    · exact sem_eq_zero_of_no_sems rfl _,
  fun m ρ _ => Cert.Outproj.Gen.frame m ρ,
  fun m ρ _ => Cert.OutprojIdeal.Gen.frame m ρ,
  by
    intro m g _
    run_from Cert.OutprojRefIdeal.Value.run m g
    · exact fun _ => by simp only [and_self]
    · exact sem_eq_zero_of_no_sems rfl _,
  ⟨IdealRules.named_const.statement Cert.FoxIdeal.κ "mask" .f32 0xF149F2CA#32 ⊥ rfl,
    IdealRules.named_const.statement Cert.FoxIdeal.κ "log2e" .f32 0x3FB8AA3B#32 (((Real.log 2)⁻¹ : ℝ) : EReal) rfl⟩,
  Cert.FoxClaim.algebraic,
  trivial,
  Cert.MoeClaim.algebraic,
  trivial,
  Cert.MoeFirstClaim.algebraic,
  trivial,
  Cert.InprojClaim.algebraic,
  trivial,
  Cert.OutprojClaim.algebraic⟩

end Cert.Proof

end
